-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v90) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v26_0)) (v1 : (c : Dev Cert.Kernel3Ideal.nD) → Buf (Elt Ideal) ((c.tc : Thread Cert.Kernel3Ideal.nD Cert.Kernel3Ideal.τ).loc Cert.Kernel3Ideal.main_v26_1)) (v2 : (c : Dev Cert.Kernel3Ideal.nD) → Buf (Elt Ideal) ((c.tc : Thread Cert.Kernel3Ideal.nD Cert.Kernel3Ideal.τ).loc Cert.Kernel3Ideal.main_v26_2)) (v3 : (c : Dev Cert.Kernel3Ideal.nD) → Buf (Elt Ideal) ((c.tc : Thread Cert.Kernel3Ideal.nD Cert.Kernel3Ideal.τ).loc Cert.Kernel3Ideal.main_v26_3)) (v4 : (c : Dev Cert.Kernel3Ideal.nD) → Buf (Elt Ideal) ((c.tc : Thread Cert.Kernel3Ideal.nD Cert.Kernel3Ideal.τ).loc Cert.Kernel3Ideal.main_v26_4)) (v5 : (c : Dev Cert.Kernel3Ideal.nD) → Buf (Elt Ideal) ((c.tc : Thread Cert.Kernel3Ideal.nD Cert.Kernel3Ideal.τ).loc Cert.Kernel3Ideal.main_v26_5)) (v6 : (c : Dev Cert.Kernel3Ideal.nD) → Buf (Elt Ideal) ((c.tc : Thread Cert.Kernel3Ideal.nD Cert.Kernel3Ideal.τ).loc Cert.Kernel3Ideal.main_v26_6)) (v7 : (c : Dev Cert.Kernel3Ideal.nD) → Buf (Elt Ideal) ((c.tc : Thread Cert.Kernel3Ideal.nD Cert.Kernel3Ideal.τ).loc Cert.Kernel3Ideal.main_v26_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26_0) = v0 c
          ∧ r.2.mem ((c.tc : Thread Cert.Kernel3Ideal.nD Cert.Kernel3Ideal.τ).loc Cert.Kernel3Ideal.main_v26_1) = v1 c
          ∧ r.2.mem ((c.tc : Thread Cert.Kernel3Ideal.nD Cert.Kernel3Ideal.τ).loc Cert.Kernel3Ideal.main_v26_2) = v2 c
          ∧ r.2.mem ((c.tc : Thread Cert.Kernel3Ideal.nD Cert.Kernel3Ideal.τ).loc Cert.Kernel3Ideal.main_v26_3) = v3 c
          ∧ r.2.mem ((c.tc : Thread Cert.Kernel3Ideal.nD Cert.Kernel3Ideal.τ).loc Cert.Kernel3Ideal.main_v26_4) = v4 c
          ∧ r.2.mem ((c.tc : Thread Cert.Kernel3Ideal.nD Cert.Kernel3Ideal.τ).loc Cert.Kernel3Ideal.main_v26_5) = v5 c
          ∧ r.2.mem ((c.tc : Thread Cert.Kernel3Ideal.nD Cert.Kernel3Ideal.τ).loc Cert.Kernel3Ideal.main_v26_6) = v6 c
          ∧ r.2.mem ((c.tc : Thread Cert.Kernel3Ideal.nD Cert.Kernel3Ideal.τ).loc Cert.Kernel3Ideal.main_v26_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_v43) = v2 c
          ∧ r.2.mem ((c.tc : Thread Cert.Reference3Ideal.nD Cert.Reference3Ideal.τ).loc Cert.Reference3Ideal.main_v47) = v3 c
          ∧ r.2.mem ((c.tc : Thread Cert.Reference3Ideal.nD Cert.Reference3Ideal.τ).loc Cert.Reference3Ideal.main_v51) = v4 c
          ∧ r.2.mem ((c.tc : Thread Cert.Reference3Ideal.nD Cert.Reference3Ideal.τ).loc Cert.Reference3Ideal.main_v54) = v5 c
          ∧ r.2.mem ((c.tc : Thread Cert.Reference3Ideal.nD Cert.Reference3Ideal.τ).loc Cert.Reference3Ideal.main_v59) = v6 c
          ∧ r.2.mem ((c.tc : Thread Cert.Reference3Ideal.nD Cert.Reference3Ideal.τ).loc Cert.Reference3Ideal.main_v38) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v77) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S4x8192x1024 : Shape := ⟨3, ![4, 8192, 1024]⟩
abbrev S4x512 : Shape := ⟨2, ![4, 512]⟩
abbrev S512 : Shape := ⟨1, ![512]⟩
abbrev S8x64x64 : Shape := ⟨3, ![8, 64, 64]⟩
abbrev S8x8 : Shape := ⟨2, ![8, 8]⟩
abbrev S_ : Shape := ⟨0, ![]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S512x1024 : Shape := ⟨2, ![512, 1024]⟩
abbrev S1024 : Shape := ⟨1, ![1024]⟩
abbrev S1x1024 : Shape := ⟨2, ![1, 1024]⟩
abbrev S1x512 : Shape := ⟨2, ![1, 512]⟩
abbrev S4x8192x512 : Shape := ⟨3, ![4, 8192, 512]⟩
abbrev S1x256x512 : Shape := ⟨3, ![1, 256, 512]⟩
abbrev S264x512 : Shape := ⟨2, ![264, 512]⟩
abbrev S8x512 : Shape := ⟨2, ![8, 512]⟩
abbrev S256x512 : Shape := ⟨2, ![256, 512]⟩
abbrev S1x8x512 : Shape := ⟨3, ![1, 8, 512]⟩
abbrev S256x1024 : Shape := ⟨2, ![256, 1024]⟩
abbrev S32x8x512 : Shape := ⟨3, ![32, 8, 512]⟩

abbrev nBuf : Space → Nat
  | .hbm => 41
  | .vmem => 13
  | .smem => 0
  | _ => 0

abbrev bufTy : (tb : Table) → Fin (tcTables nBuf tb) → BufTy
  | .hbm, ⟨0, _⟩ => ⟨S4x8192x1024, .f32⟩
  | .hbm, ⟨1, _⟩ => ⟨S4x512, .f32⟩
  | .hbm, ⟨2, _⟩ => ⟨S512, .f32⟩
  | .hbm, ⟨3, _⟩ => ⟨S8x64x64, .f32⟩
  | .hbm, ⟨4, _⟩ => ⟨S512, .f32⟩
  | .hbm, ⟨5, _⟩ => ⟨S8x64x64, .f32⟩
  | .hbm, ⟨6, _⟩ => ⟨S512, .f32⟩
  | .hbm, ⟨7, _⟩ => ⟨S512, .f32⟩
  | .hbm, ⟨8, _⟩ => ⟨S8x8, .i32⟩
  | .hbm, ⟨9, _⟩ => ⟨S8x8, .i32⟩
  | .hbm, ⟨10, _⟩ => ⟨S_, .i32⟩
  | .hbm, ⟨11, _⟩ => ⟨S8x8, .i32⟩
  | .hbm, ⟨12, _⟩ => ⟨S8x8, .i32⟩
  | .hbm, ⟨13, _⟩ => ⟨S8x8, .i1⟩
  | .hbm, ⟨14, _⟩ => ⟨S8x8, .f32⟩
  | .hbm, ⟨15, _⟩ => ⟨S8x64x1x64, .f32⟩
  | .hbm, ⟨16, _⟩ => ⟨S8x1x8x1, .f32⟩
  | .hbm, ⟨17, _⟩ => ⟨S8x64x8x64, .f32⟩
  | .hbm, ⟨18, _⟩ => ⟨S8x64x8x64, .f32⟩
  | .hbm, ⟨19, _⟩ => ⟨S8x64x8x64, .f32⟩
  | .hbm, ⟨20, _⟩ => ⟨S512x512, .f32⟩
  | .hbm, ⟨21, _⟩ => ⟨S8x8, .i32⟩
  | .hbm, ⟨22, _⟩ => ⟨S8x8, .i32⟩
  | .hbm, ⟨23, _⟩ => ⟨S_, .i32⟩
  | .hbm, ⟨24, _⟩ => ⟨S8x8, .i32⟩
  | .hbm, ⟨25, _⟩ => ⟨S8x8, .i32⟩
  | .hbm, ⟨26, _⟩ => ⟨S8x8, .i1⟩
  | .hbm, ⟨27, _⟩ => ⟨S8x8, .f32⟩
  | .hbm, ⟨28, _⟩ => ⟨S8x64x1x64, .f32⟩
  | .hbm, ⟨29, _⟩ => ⟨S8x1x8x1, .f32⟩
  | .hbm, ⟨30, _⟩ => ⟨S8x64x8x64, .f32⟩
  | .hbm, ⟨31, _⟩ => ⟨S8x64x8x64, .f32⟩
  | .hbm, ⟨32, _⟩ => ⟨S8x64x8x64, .f32⟩
  | .hbm, ⟨33, _⟩ => ⟨S512x512, .f32⟩
  | .hbm, ⟨34, _⟩ => ⟨S512x1024, .f32⟩
  | .hbm, ⟨35, _⟩ => ⟨S512x1024, .bf16⟩
  | .hbm, ⟨36, _⟩ => ⟨S1024, .f32⟩
  | .hbm, ⟨37, _⟩ => ⟨S1x1024, .f32⟩
  | .hbm, ⟨38, _⟩ => ⟨S1x512, .f32⟩
  | .hbm, ⟨39, _⟩ => ⟨S1x512, .f32⟩
  | .hbm, ⟨40, _⟩ => ⟨S4x8192x512, .bf16⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S4x512, .f32⟩
  | .local _ .vmem, ⟨5, _⟩ => ⟨S1x512, .f32⟩
  | .local _ .vmem, ⟨6, _⟩ => ⟨S512x1024, .bf16⟩
  | .local _ .vmem, ⟨7, _⟩ => ⟨S1x1024, .f32⟩
  | .local _ .vmem, ⟨8, _⟩ => ⟨S1x512, .f32⟩
  | .local _ .vmem, ⟨9, _⟩ => ⟨S1x256x512, .bf16⟩
  | .local _ .vmem, ⟨10, _⟩ => ⟨S1x256x512, .bf16⟩
  | .local _ .vmem, ⟨11, _⟩ => ⟨S264x512, .f32⟩
  | .local _ .vmem, ⟨12, _⟩ => ⟨S1x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S4x8192x1024 : Shape := ⟨3, ![4, 8192, 1024]⟩
abbrev S4x512 : Shape := ⟨2, ![4, 512]⟩
abbrev S512 : Shape := ⟨1, ![512]⟩
abbrev S8x64x64 : Shape := ⟨3, ![8, 64, 64]⟩
abbrev S4x8192x512 : Shape := ⟨3, ![4, 8192, 512]⟩
abbrev S_ : Shape := ⟨0, ![]⟩
abbrev S4x8195x512 : Shape := ⟨3, ![4, 8195, 512]⟩
abbrev S1x512 : Shape := ⟨2, ![1, 512]⟩
abbrev S1x1x512 : Shape := ⟨3, ![1, 1, 512]⟩
abbrev S4x8192x8x64 : Shape := ⟨4, ![4, 8192, 8, 64]⟩
abbrev S8x64x4x8192 : Shape := ⟨4, ![8, 64, 4, 8192]⟩
abbrev S8192x4x512 : Shape := ⟨3, ![8192, 4, 512]⟩
abbrev S1x4x512 : Shape := ⟨3, ![1, 4, 512]⟩

abbrev nBuf : Space → Nat
  | .hbm => 152
  | .vmem => 0
  | .smem => 0
  | _ => 0

abbrev hbmTy0_0 (i : Nat) : BufTy := match i % 128 with
  | 0 => ⟨S4x8192x1024, .f32⟩
  | 1 => ⟨S4x512, .f32⟩
  | 2 => ⟨S512, .f32⟩
  | 3 => ⟨S8x64x64, .f32⟩
  | 4 => ⟨S512, .f32⟩
  | 5 => ⟨S8x64x64, .f32⟩
  | 6 => ⟨S512, .f32⟩
  | 7 => ⟨S512, .f32⟩
  | 8 => ⟨S4x8192x512, .f32⟩
  | 9 => ⟨S_, .i32⟩
  | 10 => ⟨S_, .f32⟩
  | 11 => ⟨S4x8195x512, .f32⟩
  | 12 => ⟨S1x512, .f32⟩
  | 13 => ⟨S512, .f32⟩
  | 14 => ⟨S4x8192x512, .f32⟩
  | 15 => ⟨S1x1x512, .f32⟩
  | 16 => ⟨S4x8192x512, .f32⟩
  | 17 => ⟨S4x8192x512, .f32⟩
  | 18 => ⟨S1x512, .f32⟩
  | 19 => ⟨S512, .f32⟩
  | 20 => ⟨S4x8192x512, .f32⟩
  | 21 => ⟨S1x1x512, .f32⟩
  | 22 => ⟨S4x8192x512, .f32⟩
  | 23 => ⟨S4x8192x512, .f32⟩
  | 24 => ⟨S4x8192x512, .f32⟩
  | 25 => ⟨S1x512, .f32⟩
  | 26 => ⟨S512, .f32⟩
  | 27 => ⟨S4x8192x512, .f32⟩
  | 28 => ⟨S1x1x512, .f32⟩
  | 29 => ⟨S4x8192x512, .f32⟩
  | 30 => ⟨S4x8192x512, .f32⟩
  | 31 => ⟨S4x8192x512, .f32⟩
  | 32 => ⟨S1x512, .f32⟩
  | 33 => ⟨S512, .f32⟩
  | 34 => ⟨S4x8192x512, .f32⟩
  | 35 => ⟨S1x1x512, .f32⟩
  | 36 => ⟨S4x8192x512, .f32⟩
  | 37 => ⟨S4x8192x512, .f32⟩
  | 38 => ⟨S4x8192x512, .f32⟩
  | 39 => ⟨S1x1x512, .f32⟩
  | 40 => ⟨S4x8192x512, .f32⟩
  | 41 => ⟨S4x8192x512, .f32⟩
  | 42 => ⟨S4x8192x8x64, .f32⟩
  | 43 => ⟨S8x64x4x8192, .f32⟩
  | 44 => ⟨S4x8192x8x64, .f32⟩
  | 45 => ⟨S4x8192x512, .f32⟩
  | 46 => ⟨S1x1x512, .f32⟩
  | 47 => ⟨S4x8192x512, .f32⟩
  | 48 => ⟨S4x8192x512, .f32⟩
  | 49 => ⟨S4x8192x512, .f32⟩
  | 50 => ⟨S4x8192x512, .f32⟩
  | 51 => ⟨S_, .f32⟩
  | 52 => ⟨S4x8192x512, .f32⟩
  | 53 => ⟨S4x8192x512, .f32⟩
  | 54 => ⟨S_, .f32⟩
  | 55 => ⟨S4x8192x512, .f32⟩
  | 56 => ⟨S4x8192x512, .f32⟩
  | 57 => ⟨S8x64x4x8192, .f32⟩
  | 58 => ⟨S4x8192x8x64, .f32⟩
  | 59 => ⟨S4x8192x512, .f32⟩
  | 60 => ⟨S1x1x512, .f32⟩
  | 61 => ⟨S4x8192x512, .f32⟩
  | 62 => ⟨S4x8192x512, .f32⟩
  | 63 => ⟨S4x8192x512, .f32⟩
  | 64 => ⟨S4x8192x512, .f32⟩
  | 65 => ⟨S_, .f32⟩
  | 66 => ⟨S4x8192x512, .f32⟩
  | 67 => ⟨S4x8192x512, .f32⟩
  | 68 => ⟨S_, .f32⟩
  | 69 => ⟨S4x8192x512, .f32⟩
  | 70 => ⟨S4x8192x512, .f32⟩
  | 71 => ⟨S_, .f32⟩
  | 72 => ⟨S4x8192x512, .f32⟩
  | 73 => ⟨S4x8192x512, .f32⟩
  | 74 => ⟨S512, .f32⟩
  | 75 => ⟨S_, .f32⟩
  | 76 => ⟨S512, .f32⟩
  | 77 => ⟨S512, .f32⟩
  | 78 => ⟨S512, .f32⟩
  | 79 => ⟨S512, .f32⟩
  | 80 => ⟨S512, .i1⟩
  | 81 => ⟨S512, .f32⟩
  | 82 => ⟨S512, .f32⟩
  | 83 => ⟨S512, .f32⟩
  | 84 => ⟨S512, .f32⟩
  | 85 => ⟨S512, .f32⟩
  | 86 => ⟨S512, .f32⟩
  | 87 => ⟨S512, .f32⟩
  | 88 => ⟨S512, .f32⟩
  | 89 => ⟨S1x1x512, .f32⟩
  | 90 => ⟨S4x8192x512, .f32⟩
  | 91 => ⟨S4x8192x512, .f32⟩
  | 92 => ⟨S4x8192x512, .f32⟩
  | 93 => ⟨S_, .f32⟩
  | 94 => ⟨S4x8192x512, .f32⟩
  | 95 => ⟨S4x8192x512, .f32⟩
  | 96 => ⟨S4x8192x512, .f32⟩
  | 97 => ⟨S4x8192x512, .f32⟩
  | 98 => ⟨S4x8192x512, .f32⟩
  | 99 => ⟨S4x8192x512, .f32⟩
  | 100 => ⟨S4x8192x512, .f32⟩
  | 101 => ⟨S_, .f32⟩
  | 102 => ⟨S4x512, .f32⟩
  | 103 => ⟨S8192x4x512, .f32⟩
  | 104 => ⟨S8192x4x512, .f32⟩
  | 105 => ⟨S_, .f32⟩
  | 106 => ⟨S8192x4x512, .f32⟩
  | 107 => ⟨S_, .i32⟩
  | 108 => ⟨S8192x4x512, .f32⟩
  | 109 => ⟨S8192x4x512, .f32⟩
  | 110 => ⟨S_, .i32⟩
  | 111 => ⟨S4x512, .f32⟩
  | 112 => ⟨S8192x4x512, .f32⟩
  | 113 => ⟨S_, .i32⟩
  | 114 => ⟨S_, .i1⟩
  | 115 => ⟨S_, .i32⟩
  | 116 => ⟨S_, .i32⟩
  | 117 => ⟨S1x4x512, .f32⟩
  | 118 => ⟨S4x512, .f32⟩
  | 119 => ⟨S_, .i32⟩
  | 120 => ⟨S_, .i32⟩
  | 121 => ⟨S1x4x512, .f32⟩
  | 122 => ⟨S4x512, .f32⟩
  | 123 => ⟨S4x512, .f32⟩
  | 124 => ⟨S4x512, .f32⟩
  | 125 => ⟨S1x4x512, .f32⟩
  | 126 => ⟨S_, .i32⟩
  | 127 => ⟨S_, .i32⟩
  | _ => ⟨S4x8192x1024, .f32⟩

abbrev hbmTy0_1 (i : Nat) : BufTy := match i % 128 with
  | 0 => ⟨S8192x4x512, .f32⟩
  | 1 => ⟨S_, .i32⟩
  | 2 => ⟨S_, .i32⟩
  | 3 => ⟨S4x8192x512, .f32⟩
  | 4 => ⟨S4x8192x512, .f32⟩
  | 5 => ⟨S4x8192x512, .f32⟩
  | 6 => ⟨S4x8192x512, .f32⟩
  | 7 => ⟨S_, .f32⟩
  | 8 => ⟨S4x8192x512, .f32⟩
  | 9 => ⟨S4x8192x512, .f32⟩
  | 10 => ⟨S4x8192x512, .f32⟩
  | 11 => ⟨S_, .f32⟩
  | 12 => ⟨S4x8192x512, .f32⟩
  | 13 => ⟨S4x8192x512, .f32⟩
  | 14 => ⟨S4x8192x512, .f32⟩
  | 15 => ⟨S_, .f32⟩
  | 16 => ⟨S4x8192x512, .f32⟩
  | 17 => ⟨S4x8192x512, .f32⟩
  | 18 => ⟨S_, .f32⟩
  | 19 => ⟨S4x8192x512, .f32⟩
  | 20 => ⟨S4x8192x512, .f32⟩
  | 21 => ⟨S4x8192x512, .f32⟩
  | 22 => ⟨S4x8192x512, .f32⟩
  | 23 => ⟨S4x8192x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst : Ref sig .tc := ⟨.hbm, 51, rfl⟩
abbrev main_v41 : Ref sig .tc := ⟨.hbm, 52, rfl⟩
abbrev main_v42 : Ref sig .tc := ⟨.hbm, 53, rfl⟩
abbrev main_cst_0 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_1 : Ref sig .tc := ⟨.hbm, 65, rfl⟩
abbrev main_v53 : Ref sig .tc := ⟨.hbm, 66, rfl⟩
abbrev main_v54 : Ref sig .tc := ⟨.hbm, 67, rfl⟩
abbrev main_cst_2 : Ref sig .tc := ⟨.hbm, 68, rfl⟩
abbrev main_v55 : Ref sig .tc := ⟨.hbm, 69, rfl⟩
abbrev main_v56 : Ref sig .tc := ⟨.hbm, 70, rfl⟩
abbrev main_cst_3 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_4 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_5 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_6 : Ref sig .tc := ⟨.hbm, 105, rfl⟩
abbrev main_v75 : Ref sig .tc := ⟨.hbm, 106, rfl⟩
abbrev main_c_7 : Ref sig .tc := ⟨.hbm, 107, rfl⟩
abbrev main_v76_0 : Ref sig .tc := ⟨.hbm, 108, rfl⟩
abbrev main_v76_1 : Ref sig .tc := ⟨.hbm, 109, rfl⟩
abbrev main_v76_2 : Ref sig .tc := ⟨.hbm, 110, rfl⟩
abbrev main_v76_3 : Ref sig .tc := ⟨.hbm, 111, rfl⟩
abbrev main_v76_4 : Ref sig .tc := ⟨.hbm, 112, rfl⟩
abbrev main_while0c_c_16 : Ref sig .tc := ⟨.hbm, 113, rfl⟩
abbrev main_while0c_v94 : Ref sig .tc := ⟨.hbm, 114, rfl⟩
abbrev main_while0b_call2_c : Ref sig .tc := ⟨.hbm, 115, rfl⟩
abbrev main_while0b_call2_c_0 : Ref sig .tc := ⟨.hbm, 116, rfl⟩
abbrev main_while0b_call2_v0 : Ref sig .tc := ⟨.hbm, 117, rfl⟩
abbrev main_while0b_v94 : Ref sig .tc := ⟨.hbm, 118, rfl⟩
abbrev main_while0b_call3_c : Ref sig .tc := ⟨.hbm, 119, rfl⟩
abbrev main_while0b_call3_c_0 : Ref sig .tc := ⟨.hbm, 120, rfl⟩
abbrev main_while0b_call3_v0 : Ref sig .tc := ⟨.hbm, 121, rfl⟩
abbrev main_while0b_v95 : Ref sig .tc := ⟨.hbm, 122, rfl⟩
abbrev main_while0b_v96 : Ref sig .tc := ⟨.hbm, 123, rfl⟩
abbrev main_while0b_v97 : Ref sig .tc := ⟨.hbm, 124, rfl⟩
abbrev main_while0b_call4_v0 : Ref sig .tc := ⟨.hbm, 125, rfl⟩
abbrev main_while0b_call4_c : Ref sig .tc := ⟨.hbm, 126, rfl⟩
abbrev main_while0b_call4_c_0 : Ref sig .tc := ⟨.hbm, 127, rfl⟩
abbrev main_while0b_v98 : Ref sig .tc := ⟨.hbm, 128, rfl⟩
abbrev main_while0b_c_16 : Ref sig .tc := ⟨.hbm, 129, rfl⟩
abbrev main_while0b_v99 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_cst_8 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_cst_9 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_cst_10 : Ref sig .tc := ⟨.hbm, 143, rfl⟩
abbrev main_v87 : Ref sig .tc := ⟨.hbm, 144, rfl⟩
abbrev main_v88 : Ref sig .tc := ⟨.hbm, 145, rfl⟩
abbrev main_cst_11 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S4x8192x1024 : Shape := ⟨3, ![4, 8192, 1024]⟩
abbrev S4x8192x512 : Shape := ⟨3, ![4, 8192, 512]⟩
abbrev S4x8192x256 : Shape := ⟨3, ![4, 8192, 256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S4x256x8192 : Shape := ⟨3, ![4, 256, 8192]⟩
abbrev S1x1024 : Shape := ⟨2, ![1, 1024]⟩
abbrev S1x5632 : Shape := ⟨2, ![1, 5632]⟩
abbrev S1x512x1024 : Shape := ⟨3, ![1, 512, 1024]⟩
abbrev S1x512x512 : Shape := ⟨3, ![1, 512, 512]⟩
abbrev S1x256x512 : Shape := ⟨3, ![1, 256, 512]⟩
abbrev S520x256 : Shape := ⟨2, ![520, 256]⟩
abbrev S22x8x256 : Shape := ⟨3, ![22, 8, 256]⟩
abbrev S512x1024 : Shape := ⟨2, ![512, 1024]⟩
abbrev S512x512 : Shape := ⟨2, ![512, 512]⟩
abbrev S256x512 : Shape := ⟨2, ![256, 512]⟩
abbrev S256x1024 : Shape := ⟨2, ![256, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x8x256 : Shape := ⟨3, ![1, 8, 256]⟩
abbrev S8x256 : Shape := ⟨2, ![8, 256]⟩
abbrev S3x256 : Shape := ⟨2, ![3, 256]⟩
abbrev S1x256 : Shape := ⟨2, ![1, 256]⟩

abbrev nBuf : Space → Nat
  | .hbm => 20
  | .vmem => 20
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x256, .bf16⟩
  | .hbm, ⟨3, _⟩ => ⟨S4x8192x256, .bf16⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024, .f32⟩
  | .hbm, ⟨11, _⟩ => ⟨S4x256x8192, .bf16⟩
  | .hbm, ⟨12, _⟩ => ⟨S4x256x8192, .bf16⟩
  | .hbm, ⟨13, _⟩ => ⟨S1024x1024, .bf16⟩
  | .hbm, ⟨14, _⟩ => ⟨S1x1024, .f32⟩
  | .hbm, ⟨15, _⟩ => ⟨S1024x5632, .bf16⟩
  | .hbm, ⟨16, _⟩ => ⟨S1x5632, .f32⟩
  | .hbm, ⟨17, _⟩ => ⟨S2816x1024, .bf16⟩
  | .hbm, ⟨18, _⟩ => ⟨S1x1024, .f32⟩
  | .hbm, ⟨19, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1024x1024, .bf16⟩
  | .local _ .vmem, ⟨9, _⟩ => ⟨S1x1024, .f32⟩
  | .local _ .vmem, ⟨10, _⟩ => ⟨S1024x5632, .bf16⟩
  | .local _ .vmem, ⟨11, _⟩ => ⟨S3x5632, .f32⟩
  | .local _ .vmem, ⟨12, _⟩ => ⟨S1x5632, .f32⟩
  | .local _ .vmem, ⟨13, _⟩ => ⟨S2816x1024, .bf16⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | .local _ .vmem, ⟨17, _⟩ => ⟨S520x256, .f32⟩
  | .local _ .vmem, ⟨18, _⟩ => ⟨S22x8x256, .f32⟩
  | .local _ .vmem, ⟨19, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S4x8192x1024 : Shape := ⟨3, ![4, 8192, 1024]⟩
abbrev S4x8192x512 : Shape := ⟨3, ![4, 8192, 512]⟩
abbrev S4x8192x256 : Shape := ⟨3, ![4, 8192, 256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩
abbrev S3x2816 : Shape := ⟨2, ![3, 2816]⟩
abbrev S2816 : Shape := ⟨1, ![2816]⟩
abbrev S4x8194x2816 : Shape := ⟨3, ![4, 8194, 2816]⟩
abbrev S1x2816 : Shape := ⟨2, ![1, 2816]⟩
abbrev S1x1x2816 : Shape := ⟨3, ![1, 1, 2816]⟩

abbrev nBuf : Space → Nat
  | .hbm => 120
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x256, .bf16⟩
  | .hbm, ⟨3, _⟩ => ⟨S4x8192x256, .bf16⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024, .f32⟩
  | .hbm, ⟨11, _⟩ => ⟨S4x8192x512, .f32⟩
  | .hbm, ⟨12, _⟩ => ⟨S4x8192x256, .f32⟩
  | .hbm, ⟨13, _⟩ => ⟨S4x8192x256, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S_, .f32⟩
  | .hbm, ⟨19, _⟩ => ⟨S4x8192, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S4x8192x1, .f32⟩
  | .hbm, ⟨28, _⟩ => ⟨S4x8192x1024, .f32⟩
  | .hbm, ⟨29, _⟩ => ⟨S4x8192x1024, .f32⟩
  | .hbm, ⟨30, _⟩ => ⟨S1x1x1024, .f32⟩
  | .hbm, ⟨31, _⟩ => ⟨S4x8192x1024, .f32⟩
  | .hbm, ⟨32, _⟩ => ⟨S4x8192x1024, .f32⟩
  | .hbm, ⟨33, _⟩ => ⟨S4x8192x5632, .f32⟩
  | .hbm, ⟨34, _⟩ => ⟨S4x8192x2816, .f32⟩
  | .hbm, ⟨35, _⟩ => ⟨S3x2816, .f32⟩
  | .hbm, ⟨36, _⟩ => ⟨S2816, .f32⟩
  | .hbm, ⟨37, _⟩ => ⟨S_, .i32⟩
  | .hbm, ⟨38, _⟩ => ⟨S_, .f32⟩
  | .hbm, ⟨39, _⟩ => ⟨S4x8194x2816, .f32⟩
  | .hbm, ⟨40, _⟩ => ⟨S1x2816, .f32⟩
  | .hbm, ⟨41, _⟩ => ⟨S2816, .f32⟩
  | .hbm, ⟨42, _⟩ => ⟨S4x8192x2816, .f32⟩
  | .hbm, ⟨43, _⟩ => ⟨S1x1x2816, .f32⟩
  | .hbm, ⟨44, _⟩ => ⟨S4x8192x2816, .f32⟩
  | .hbm, ⟨45, _⟩ => ⟨S4x8192x2816, .f32⟩
  | .hbm, ⟨46, _⟩ => ⟨S1x2816, .f32⟩
  | .hbm, ⟨47, _⟩ => ⟨S2816, .f32⟩
  | .hbm, ⟨48, _⟩ => ⟨S4x8192x2816, .f32⟩
  | .hbm, ⟨49, _⟩ => ⟨S1x1x2816, .f32⟩
  | .hbm, ⟨50, _⟩ => ⟨S4x8192x2816, .f32⟩
  | .hbm, ⟨51, _⟩ => ⟨S4x8192x2816, .f32⟩
  | .hbm, ⟨52, _⟩ => ⟨S4x8192x2816, .f32⟩
  | .hbm, ⟨53, _⟩ => ⟨S1x2816, .f32⟩
  | .hbm, ⟨54, _⟩ => ⟨S2816, .f32⟩
  | .hbm, ⟨55, _⟩ => ⟨S4x8192x2816, .f32⟩
  | .hbm, ⟨56, _⟩ => ⟨S1x1x2816, .f32⟩
  | .hbm, ⟨57, _⟩ => ⟨S4x8192x2816, .f32⟩
  | .hbm, ⟨58, _⟩ => ⟨S4x8192x2816, .f32⟩
  | .hbm, ⟨59, _⟩ => ⟨S4x8192x2816, .f32⟩
  | .hbm, ⟨60, _⟩ => ⟨S1x1x2816, .f32⟩
  | .hbm, ⟨61, _⟩ => ⟨S4x8192x2816, .f32⟩
  | .hbm, ⟨62, _⟩ => ⟨S4x8192x2816, .f32⟩
  | .hbm, ⟨63, _⟩ => ⟨S4x8192x2816, .f32⟩
  | .hbm, ⟨64, _⟩ => ⟨S3x2816, .f32⟩
  | .hbm, ⟨65, _⟩ => ⟨S2816, .f32⟩
  | .hbm, ⟨66, _⟩ => ⟨S_, .i32⟩
  | .hbm, ⟨67, _⟩ => ⟨S_, .f32⟩
  | .hbm, ⟨68, _⟩ => ⟨S4x8194x2816, .f32⟩
  | .hbm, ⟨69, _⟩ => ⟨S1x2816, .f32⟩
  | .hbm, ⟨70, _⟩ => ⟨S2816, .f32⟩
  | .hbm, ⟨71, _⟩ => ⟨S4x8192x2816, .f32⟩
  | .hbm, ⟨72, _⟩ => ⟨S1x1x2816, .f32⟩
  | .hbm, ⟨73, _⟩ => ⟨S4x8192x2816, .f32⟩
  | .hbm, ⟨74, _⟩ => ⟨S4x8192x2816, .f32⟩
  | .hbm, ⟨75, _⟩ => ⟨S1x2816, .f32⟩
  | .hbm, ⟨76, _⟩ => ⟨S2816, .f32⟩
  | .hbm, ⟨77, _⟩ => ⟨S4x8192x2816, .f32⟩
  | .hbm, ⟨78, _⟩ => ⟨S1x1x2816, .f32⟩
  | .hbm, ⟨79, _⟩ => ⟨S4x8192x2816, .f32⟩
  | .hbm, ⟨80, _⟩ => ⟨S4x8192x2816, .f32⟩
  | .hbm, ⟨81, _⟩ => ⟨S4x8192x2816, .f32⟩
  | .hbm, ⟨82, _⟩ => ⟨S1x2816, .f32⟩
  | .hbm, ⟨83, _⟩ => ⟨S2816, .f32⟩
  | .hbm, ⟨84, _⟩ => ⟨S4x8192x2816, .f32⟩
  | .hbm, ⟨85, _⟩ => ⟨S1x1x2816, .f32⟩
  | .hbm, ⟨86, _⟩ => ⟨S4x8192x2816, .f32⟩
  | .hbm, ⟨87, _⟩ => ⟨S4x8192x2816, .f32⟩
  | .hbm, ⟨88, _⟩ => ⟨S4x8192x2816, .f32⟩
  | .hbm, ⟨89, _⟩ => ⟨S1x1x2816, .f32⟩
  | .hbm, ⟨90, _⟩ => ⟨S4x8192x2816, .f32⟩
  | .hbm, ⟨91, _⟩ => ⟨S4x8192x2816, .f32⟩
  | .hbm, ⟨92, _⟩ => ⟨S4x8192x2816, .f32⟩
  | .hbm, ⟨93, _⟩ => ⟨S4x8192x2816, .f32⟩
  | .hbm, ⟨94, _⟩ => ⟨S_, .f32⟩
  | .hbm, ⟨95, _⟩ => ⟨S4x8192x2816, .f32⟩
  | .hbm, ⟨96, _⟩ => ⟨S4x8192x2816, .f32⟩
  | .hbm, ⟨97, _⟩ => ⟨S_, .f32⟩
  | .hbm, ⟨98, _⟩ => ⟨S4x8192x2816, .f32⟩
  | .hbm, ⟨99, _⟩ => ⟨S4x8192x2816, .f32⟩
  | .hbm, ⟨100, _⟩ => ⟨S4x8192x2816, .f32⟩
  | .hbm, ⟨101, _⟩ => ⟨S4x8192x2816, .f32⟩
  | .hbm, ⟨102, _⟩ => ⟨S4x8192x1024, .f32⟩
  | .hbm, ⟨103, _⟩ => ⟨S4x8192x1024, .f32⟩
  | .hbm, ⟨104, _⟩ => ⟨S4x8192x1024, .f32⟩
  | .hbm, ⟨105, _⟩ => ⟨S_, .f32⟩
  | .hbm, ⟨106, _⟩ => ⟨S4x8192, .f32⟩
  | .hbm, ⟨107, _⟩ => ⟨S4x8192x1, .f32⟩
  | .hbm, ⟨108, _⟩ => ⟨S_, .f32⟩
  | .hbm, ⟨109, _⟩ => ⟨S4x8192x1, .f32⟩
  | .hbm, ⟨110, _⟩ => ⟨S4x8192x1, .f32⟩
  | .hbm, ⟨111, _⟩ => ⟨S_, .f32⟩
  | .hbm, ⟨112, _⟩ => ⟨S4x8192x1, .f32⟩
  | .hbm, ⟨113, _⟩ => ⟨S4x8192x1, .f32⟩
  | .hbm, ⟨114, _⟩ => ⟨S4x8192x1, .f32⟩
  | .hbm, ⟨115, _⟩ => ⟨S4x8192x1024, .f32⟩
  | .hbm, ⟨116, _⟩ => ⟨S4x8192x1024, .f32⟩
  | .hbm, ⟨117, _⟩ => ⟨S1x1x1024, .f32⟩
  | .hbm, ⟨118, _⟩ => ⟨S4x8192x1024, .f32⟩
  | .hbm, ⟨119, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_2 : Ref sig .tc := ⟨.hbm, 66, rfl⟩
abbrev main_call1_v0 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_call2_v0 : Ref sig .tc := ⟨.hbm, 92, rfl⟩
abbrev main_call2_v1 : Ref sig .tc := ⟨.hbm, 93, rfl⟩
abbrev main_call2_cst : Ref sig .tc := ⟨.hbm, 94, rfl⟩
abbrev main_call2_v2 : Ref sig .tc := ⟨.hbm, 95, rfl⟩
abbrev main_call2_v3 : Ref sig .tc := ⟨.hbm, 96, rfl⟩
abbrev main_call2_cst_0 : Ref sig .tc := ⟨.hbm, 97, rfl⟩
abbrev main_call2_v4 : Ref sig .tc := ⟨.hbm, 98, rfl⟩
abbrev main_call2_v5 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_3 : Ref sig .tc := ⟨.hbm, 105, rfl⟩
abbrev main_v79 : Ref sig .tc := ⟨.hbm, 106, rfl⟩
abbrev main_v80 : Ref sig .tc := ⟨.hbm, 107, rfl⟩
abbrev main_cst_4 : Ref sig .tc := ⟨.hbm, 108, rfl⟩
abbrev main_v81 : Ref sig .tc := ⟨.hbm, 109, rfl⟩
abbrev main_v82 : Ref sig .tc := ⟨.hbm, 110, rfl⟩
abbrev main_cst_5 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩

abbrev nD : Nat := 1
abbrev τ : Topo := Topo.v7x

variable {F : FTy → Type} [FloatOps F]
-- ==== Kernel3.lean ====
abbrev S4x8192x1024 : Shape := ⟨3, ![4, 8192, 1024]⟩
abbrev S1024 : Shape := ⟨1, ![1024]⟩
abbrev S1024x2560 : Shape := ⟨2, ![1024, 2560]⟩
abbrev S8192x512 : Shape := ⟨2, ![8192, 512]⟩
abbrev S320x1 : Shape := ⟨2, ![320, 1]⟩
abbrev S256x256 : Shape := ⟨2, ![256, 256]⟩
abbrev S512x128 : Shape := ⟨2, ![512, 128]⟩
abbrev S1x1024 : Shape := ⟨2, ![1, 1024]⟩
abbrev S1024x256 : Shape := ⟨2, ![1024, 256]⟩
abbrev S1024x4x64 : Shape := ⟨3, ![1024, 4, 64]⟩
abbrev S_ : Shape := ⟨0, ![]⟩
abbrev S1024x4x128 : Shape := ⟨3, ![1024, 4, 128]⟩
abbrev S256x1024 : Shape := ⟨2, ![256, 1024]⟩
abbrev S4x64x1024 : Shape := ⟨3, ![4, 64, 1024]⟩
abbrev S4x80x1024 : Shape := ⟨3, ![4, 80, 1024]⟩
abbrev S1024x1024 : Shape := ⟨2, ![1024, 1024]⟩
abbrev S1024x512 : Shape := ⟨2, ![1024, 512]⟩
abbrev S1024x1536 : Shape := ⟨2, ![1024, 1536]⟩
abbrev S320x1024 : Shape := ⟨2, ![320, 1024]⟩
abbrev S832x1024 : Shape := ⟨2, ![832, 1024]⟩
abbrev S4x8192x512 : Shape := ⟨3, ![4, 8192, 512]⟩
abbrev S4x8192x256 : Shape := ⟨3, ![4, 8192, 256]⟩
abbrev S4x256x8192 : Shape := ⟨3, ![4, 256, 8192]⟩
abbrev S4x320x8192 : Shape := ⟨3, ![4, 320, 8192]⟩
abbrev S4x16x8x128 : Shape := ⟨4, ![4, 16, 8, 128]⟩
abbrev S1x512x1024 : Shape := ⟨3, ![1, 512, 1024]⟩
abbrev S512x512 : Shape := ⟨2, ![512, 512]⟩
abbrev S1x512x512 : Shape := ⟨3, ![1, 512, 512]⟩
abbrev S1x512x256 : Shape := ⟨3, ![1, 512, 256]⟩
abbrev S1x256x512 : Shape := ⟨3, ![1, 256, 512]⟩
abbrev S1x320x512 : Shape := ⟨3, ![1, 320, 512]⟩
abbrev S1x1x8x128 : Shape := ⟨4, ![1, 1, 8, 128]⟩
abbrev S512x1024 : Shape := ⟨2, ![512, 1024]⟩
abbrev S512 : Shape := ⟨1, ![512]⟩
abbrev S512x1 : Shape := ⟨2, ![512, 1]⟩
abbrev S128 : Shape := ⟨1, ![128]⟩
abbrev S1x128 : Shape := ⟨2, ![1, 128]⟩
abbrev S8x128 : Shape := ⟨2, ![8, 128]⟩
abbrev S512x256 : Shape := ⟨2, ![512, 256]⟩
abbrev S256x512 : Shape := ⟨2, ![256, 512]⟩
abbrev S1x256x256 : Shape := ⟨3, ![1, 256, 256]⟩
abbrev S320x512 : Shape := ⟨2, ![320, 512]⟩

abbrev nBuf : Space → Nat
  | .hbm => 45
  | .vmem => 28
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2560, .f32⟩
  | .hbm, ⟨3, _⟩ => ⟨S8192x512, .bf16⟩
  | .hbm, ⟨4, _⟩ => ⟨S320x1, .f32⟩
  | .hbm, ⟨5, _⟩ => ⟨S256x256, .f32⟩
  | .hbm, ⟨6, _⟩ => ⟨S512x128, .f32⟩
  | .hbm, ⟨7, _⟩ => ⟨S1x1024, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S1024x4x64, .f32⟩
  | .hbm, ⟨15, _⟩ => ⟨S_, .i32⟩
  | .hbm, ⟨16, _⟩ => ⟨S_, .f32⟩
  | .hbm, ⟨17, _⟩ => ⟨S1024x4x128, .f32⟩
  | .hbm, ⟨18, _⟩ => ⟨S256x1024, .f32⟩
  | .hbm, ⟨19, _⟩ => ⟨S4x64x1024, .f32⟩
  | .hbm, ⟨20, _⟩ => ⟨S_, .i32⟩
  | .hbm, ⟨21, _⟩ => ⟨S_, .f32⟩
  | .hbm, ⟨22, _⟩ => ⟨S4x80x1024, .f32⟩
  | .hbm, ⟨23, _⟩ => ⟨S1024x1024, .f32⟩
  | .hbm, ⟨24, _⟩ => ⟨S1024x512, .f32⟩
  | .hbm, ⟨25, _⟩ => ⟨S1024x1536, .f32⟩
  | .hbm, ⟨26, _⟩ => ⟨S1024x1536, .bf16⟩
  | .hbm, ⟨27, _⟩ => ⟨S256x1024, .f32⟩
  | .hbm, ⟨28, _⟩ => ⟨S256x1024, .f32⟩
  | .hbm, ⟨29, _⟩ => ⟨S320x1024, .f32⟩
  | .hbm, ⟨30, _⟩ => ⟨S832x1024, .f32⟩
  | .hbm, ⟨31, _⟩ => ⟨S832x1024, .bf16⟩
  | .hbm, ⟨32, _⟩ => ⟨S1024x256, .bf16⟩
  | .hbm, ⟨33, _⟩ => ⟨S256x1024, .f32⟩
  | .hbm, ⟨34, _⟩ => ⟨S256x1024, .bf16⟩
  | .hbm, ⟨35, _⟩ => ⟨S256x256, .bf16⟩
  | .hbm, ⟨36, _⟩ => ⟨S512x128, .bf16⟩
  | .hbm, ⟨37, _⟩ => ⟨S4x8192x1024, .f32⟩
  | .hbm, ⟨38, _⟩ => ⟨S4x8192x512, .bf16⟩
  | .hbm, ⟨39, _⟩ => ⟨S4x8192x256, .bf16⟩
  | .hbm, ⟨40, _⟩ => ⟨S4x256x8192, .bf16⟩
  | .hbm, ⟨41, _⟩ => ⟨S4x256x8192, .bf16⟩
  | .hbm, ⟨42, _⟩ => ⟨S4x320x8192, .bf16⟩
  | .hbm, ⟨43, _⟩ => ⟨S4x256x8192, .bf16⟩
  | .hbm, ⟨44, _⟩ => ⟨S4x16x8x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x256, .bf16⟩
  | .local _ .vmem, ⟨5, _⟩ => ⟨S832x1024, .bf16⟩
  | .local _ .vmem, ⟨6, _⟩ => ⟨S256x1024, .bf16⟩
  | .local _ .vmem, ⟨7, _⟩ => ⟨S512x512, .bf16⟩
  | .local _ .vmem, ⟨8, _⟩ => ⟨S512x512, .bf16⟩
  | .local _ .vmem, ⟨9, _⟩ => ⟨S320x1, .f32⟩
  | .local _ .vmem, ⟨10, _⟩ => ⟨S256x256, .bf16⟩
  | .local _ .vmem, ⟨11, _⟩ => ⟨S512x128, .bf16⟩
  | .local _ .vmem, ⟨12, _⟩ => ⟨S1x512x1024, .f32⟩
  | .local _ .vmem, ⟨13, _⟩ => ⟨S1x512x1024, .f32⟩
  | .local _ .vmem, ⟨14, _⟩ => ⟨S1x512x512, .bf16⟩
  | .local _ .vmem, ⟨15, _⟩ => ⟨S1x512x512, .bf16⟩
  | .local _ .vmem, ⟨16, _⟩ => ⟨S1x512x256, .bf16⟩
  | .local _ .vmem, ⟨17, _⟩ => ⟨S1x512x256, .bf16⟩
  | .local _ .vmem, ⟨18, _⟩ => ⟨S1x256x512, .bf16⟩
  | .local _ .vmem, ⟨19, _⟩ => ⟨S1x256x512, .bf16⟩
  | .local _ .vmem, ⟨20, _⟩ => ⟨S1x256x512, .bf16⟩
  | .local _ .vmem, ⟨21, _⟩ => ⟨S1x256x512, .bf16⟩
  | .local _ .vmem, ⟨22, _⟩ => ⟨S1x320x512, .bf16⟩
  | .local _ .vmem, ⟨23, _⟩ => ⟨S1x320x512, .bf16⟩
  | .local _ .vmem, ⟨24, _⟩ => ⟨S1x256x512, .bf16⟩
  | .local _ .vmem, ⟨25, _⟩ => ⟨S1x256x512, .bf16⟩
  | .local _ .vmem, ⟨26, _⟩ => ⟨S1x1x8x128, .f32⟩
  | .local _ .vmem, ⟨27, _⟩ => ⟨S1x1x8x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26_0 : Ref sig .tc := ⟨.hbm, 37, rfl⟩
abbrev main_v26_1 : Ref sig .tc := ⟨.hbm, 38, rfl⟩
abbrev main_v26_2 : Ref sig .tc := ⟨.hbm, 39, rfl⟩
abbrev main_v26_3 : Ref sig .tc := ⟨.hbm, 40, rfl⟩
abbrev main_v26_4 : Ref sig .tc := ⟨.hbm, 41, rfl⟩
abbrev main_v26_5 : Ref sig .tc := ⟨.hbm, 42, rfl⟩
abbrev main_v26_6 : Ref sig .tc := ⟨.hbm, 43, rfl⟩
abbrev main_v26_7 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S832x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S320x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x320x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x8x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference3Ideal.lean ====
abbrev S4x8192x1024 : Shape := ⟨3, ![4, 8192, 1024]⟩
abbrev S1024 : Shape := ⟨1, ![1024]⟩
abbrev S1024x2560 : Shape := ⟨2, ![1024, 2560]⟩
abbrev S8192x512 : Shape := ⟨2, ![8192, 512]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2560 : Shape := ⟨3, ![4, 8192, 2560]⟩
abbrev S4x8192x256 : Shape := ⟨3, ![4, 8192, 256]⟩
abbrev S4x8192x4x64 : Shape := ⟨4, ![4, 8192, 4, 64]⟩
abbrev S4x8192x4x128 : Shape := ⟨4, ![4, 8192, 4, 128]⟩
abbrev S4x8192x512 : Shape := ⟨3, ![4, 8192, 512]⟩
abbrev S1x8192x512 : Shape := ⟨3, ![1, 8192, 512]⟩
abbrev S4x8192x4x1 : Shape := ⟨4, ![4, 8192, 4, 1]⟩
abbrev S4x8192x4x15 : Shape := ⟨4, ![4, 8192, 4, 15]⟩
abbrev S4x8192x4x80 : Shape := ⟨4, ![4, 8192, 4, 80]⟩
abbrev S4x16x512x8x32 : Shape := ⟨5, ![4, 16, 512, 8, 32]⟩
abbrev S4x16x512x8 : Shape := ⟨4, ![4, 16, 512, 8]⟩
abbrev S4x16x8 : Shape := ⟨3, ![4, 16, 8]⟩
abbrev S4x16x128 : Shape := ⟨3, ![4, 16, 128]⟩
abbrev S4x16x1x128 : Shape := ⟨4, ![4, 16, 1, 128]⟩
abbrev S4x16x8x128 : Shape := ⟨4, ![4, 16, 8, 128]⟩
abbrev S4x32x8x32x256 : Shape := ⟨5, ![4, 32, 8, 32, 256]⟩
abbrev S4x32x32x8x256 : Shape := ⟨5, ![4, 32, 32, 8, 256]⟩
abbrev S4x256x8192 : Shape := ⟨3, ![4, 256, 8192]⟩
abbrev S4x8192x320 : Shape := ⟨3, ![4, 8192, 320]⟩
abbrev S4x320x8192 : Shape := ⟨3, ![4, 320, 8192]⟩

abbrev nBuf : Space → Nat
  | .hbm => 77
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2560, .f32⟩
  | .hbm, ⟨3, _⟩ => ⟨S8192x512, .bf16⟩
  | .hbm, ⟨4, _⟩ => ⟨S4x8192x1024, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x1024, .f32⟩
  | .hbm, ⟨16, _⟩ => ⟨S4x8192x1024, .f32⟩
  | .hbm, ⟨17, _⟩ => ⟨S1x1x1024, .f32⟩
  | .hbm, ⟨18, _⟩ => ⟨S4x8192x1024, .f32⟩
  | .hbm, ⟨19, _⟩ => ⟨S4x8192x1024, .f32⟩
  | .hbm, ⟨20, _⟩ => ⟨S4x8192x2560, .f32⟩
  | .hbm, ⟨21, _⟩ => ⟨S4x8192x1024, .f32⟩
  | .hbm, ⟨22, _⟩ => ⟨S4x8192x256, .f32⟩
  | .hbm, ⟨23, _⟩ => ⟨S4x8192x256, .f32⟩
  | .hbm, ⟨24, _⟩ => ⟨S4x8192x256, .f32⟩
  | .hbm, ⟨25, _⟩ => ⟨S4x8192x256, .f32⟩
  | .hbm, ⟨26, _⟩ => ⟨S4x8192x256, .f32⟩
  | .hbm, ⟨27, _⟩ => ⟨S4x8192x256, .f32⟩
  | .hbm, ⟨28, _⟩ => ⟨S4x8192x4x64, .f32⟩
  | .hbm, ⟨29, _⟩ => ⟨S_, .i32⟩
  | .hbm, ⟨30, _⟩ => ⟨S_, .f32⟩
  | .hbm, ⟨31, _⟩ => ⟨S4x8192x4x128, .f32⟩
  | .hbm, ⟨32, _⟩ => ⟨S4x8192x512, .f32⟩
  | .hbm, ⟨33, _⟩ => ⟨S8192x512, .f32⟩
  | .hbm, ⟨34, _⟩ => ⟨S1x8192x512, .f32⟩
  | .hbm, ⟨35, _⟩ => ⟨S4x8192x512, .f32⟩
  | .hbm, ⟨36, _⟩ => ⟨S4x8192x512, .f32⟩
  | .hbm, ⟨37, _⟩ => ⟨S4x8192x4x64, .f32⟩
  | .hbm, ⟨38, _⟩ => ⟨S_, .f32⟩
  | .hbm, ⟨39, _⟩ => ⟨S4x8192x4x1, .f32⟩
  | .hbm, ⟨40, _⟩ => ⟨S_, .f32⟩
  | .hbm, ⟨41, _⟩ => ⟨S4x8192x4x15, .f32⟩
  | .hbm, ⟨42, _⟩ => ⟨S4x8192x4x80, .f32⟩
  | .hbm, ⟨43, _⟩ => ⟨S4x16x512x8x32, .f32⟩
  | .hbm, ⟨44, _⟩ => ⟨S4x16x512x8x32, .f32⟩
  | .hbm, ⟨45, _⟩ => ⟨S_, .f32⟩
  | .hbm, ⟨46, _⟩ => ⟨S4x16x512x8, .f32⟩
  | .hbm, ⟨47, _⟩ => ⟨S_, .f32⟩
  | .hbm, ⟨48, _⟩ => ⟨S4x16x8, .f32⟩
  | .hbm, ⟨49, _⟩ => ⟨S_, .i32⟩
  | .hbm, ⟨50, _⟩ => ⟨S_, .f32⟩
  | .hbm, ⟨51, _⟩ => ⟨S4x16x128, .f32⟩
  | .hbm, ⟨52, _⟩ => ⟨S4x16x1x128, .f32⟩
  | .hbm, ⟨53, _⟩ => ⟨S4x16x8x128, .f32⟩
  | .hbm, ⟨54, _⟩ => ⟨S4x8192x512, .bf16⟩
  | .hbm, ⟨55, _⟩ => ⟨S4x32x8x32x256, .f32⟩
  | .hbm, ⟨56, _⟩ => ⟨S4x32x32x8x256, .f32⟩
  | .hbm, ⟨57, _⟩ => ⟨S4x8192x256, .f32⟩
  | .hbm, ⟨58, _⟩ => ⟨S4x8192x256, .bf16⟩
  | .hbm, ⟨59, _⟩ => ⟨S_, .f32⟩
  | .hbm, ⟨60, _⟩ => ⟨S4x8192x256, .f32⟩
  | .hbm, ⟨61, _⟩ => ⟨S4x8192x256, .f32⟩
  | .hbm, ⟨62, _⟩ => ⟨S4x256x8192, .f32⟩
  | .hbm, ⟨63, _⟩ => ⟨S4x256x8192, .bf16⟩
  | .hbm, ⟨64, _⟩ => ⟨S_, .f32⟩
  | .hbm, ⟨65, _⟩ => ⟨S4x8192x256, .f32⟩
  | .hbm, ⟨66, _⟩ => ⟨S4x8192x256, .f32⟩
  | .hbm, ⟨67, _⟩ => ⟨S4x256x8192, .f32⟩
  | .hbm, ⟨68, _⟩ => ⟨S4x256x8192, .bf16⟩
  | .hbm, ⟨69, _⟩ => ⟨S4x8192x320, .f32⟩
  | .hbm, ⟨70, _⟩ => ⟨S4x320x8192, .f32⟩
  | .hbm, ⟨71, _⟩ => ⟨S4x320x8192, .bf16⟩
  | .hbm, ⟨72, _⟩ => ⟨S4x32x8x32x256, .f32⟩
  | .hbm, ⟨73, _⟩ => ⟨S4x32x32x8x256, .f32⟩
  | .hbm, ⟨74, _⟩ => ⟨S4x8192x256, .f32⟩
  | .hbm, ⟨75, _⟩ => ⟨S4x256x8192, .f32⟩
  | .hbm, ⟨76, _⟩ => ⟨S4x256x8192, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_call0_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_c_6 : Ref sig .tc := ⟨.hbm, 49, rfl⟩
abbrev main_call1_v0 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x8192x512 : Shape := ⟨3, ![4, 8192, 512]⟩
abbrev S4x8192x256 : Shape := ⟨3, ![4, 8192, 256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S4x256x8192 : Shape := ⟨3, ![4, 256, 8192]⟩
abbrev S1x1024 : Shape := ⟨2, ![1, 1024]⟩
abbrev S1x5632 : Shape := ⟨2, ![1, 5632]⟩
abbrev S1x512x1024 : Shape := ⟨3, ![1, 512, 1024]⟩
abbrev S1x512x512 : Shape := ⟨3, ![1, 512, 512]⟩
abbrev S1x256x512 : Shape := ⟨3, ![1, 256, 512]⟩
abbrev S520x256 : Shape := ⟨2, ![520, 256]⟩
abbrev S22x8x256 : Shape := ⟨3, ![22, 8, 256]⟩
abbrev S512x1024 : Shape := ⟨2, ![512, 1024]⟩
abbrev S512x512 : Shape := ⟨2, ![512, 512]⟩
abbrev S256x512 : Shape := ⟨2, ![256, 512]⟩
abbrev S256x1024 : Shape := ⟨2, ![256, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x8x256 : Shape := ⟨3, ![1, 8, 256]⟩
abbrev S8x256 : Shape := ⟨2, ![8, 256]⟩
abbrev S3x256 : Shape := ⟨2, ![3, 256]⟩
abbrev S1x256 : Shape := ⟨2, ![1, 256]⟩

abbrev nBuf : Space → Nat
  | .hbm => 20
  | .vmem => 20
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x256, .bf16⟩
  | .hbm, ⟨3, _⟩ => ⟨S4x8192x256, .bf16⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024, .f32⟩
  | .hbm, ⟨11, _⟩ => ⟨S4x256x8192, .bf16⟩
  | .hbm, ⟨12, _⟩ => ⟨S4x256x8192, .bf16⟩
  | .hbm, ⟨13, _⟩ => ⟨S1024x1024, .bf16⟩
  | .hbm, ⟨14, _⟩ => ⟨S1x1024, .f32⟩
  | .hbm, ⟨15, _⟩ => ⟨S1024x5632, .bf16⟩
  | .hbm, ⟨16, _⟩ => ⟨S1x5632, .f32⟩
  | .hbm, ⟨17, _⟩ => ⟨S2816x1024, .bf16⟩
  | .hbm, ⟨18, _⟩ => ⟨S1x1024, .f32⟩
  | .hbm, ⟨19, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1024x1024, .bf16⟩
  | .local _ .vmem, ⟨9, _⟩ => ⟨S1x1024, .f32⟩
  | .local _ .vmem, ⟨10, _⟩ => ⟨S1024x5632, .bf16⟩
  | .local _ .vmem, ⟨11, _⟩ => ⟨S3x5632, .f32⟩
  | .local _ .vmem, ⟨12, _⟩ => ⟨S1x5632, .f32⟩
  | .local _ .vmem, ⟨13, _⟩ => ⟨S2816x1024, .bf16⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | .local _ .vmem, ⟨17, _⟩ => ⟨S520x256, .f32⟩
  | .local _ .vmem, ⟨18, _⟩ => ⟨S22x8x256, .f32⟩
  | .local _ .vmem, ⟨19, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S4x8192x1024 : Shape := ⟨3, ![4, 8192, 1024]⟩
abbrev S4x8192x512 : Shape := ⟨3, ![4, 8192, 512]⟩
abbrev S4x8192x256 : Shape := ⟨3, ![4, 8192, 256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩
abbrev S3x2816 : Shape := ⟨2, ![3, 2816]⟩
abbrev S2816 : Shape := ⟨1, ![2816]⟩
abbrev S4x8194x2816 : Shape := ⟨3, ![4, 8194, 2816]⟩
abbrev S1x2816 : Shape := ⟨2, ![1, 2816]⟩
abbrev S1x1x2816 : Shape := ⟨3, ![1, 1, 2816]⟩

abbrev nBuf : Space → Nat
  | .hbm => 104
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x256, .bf16⟩
  | .hbm, ⟨3, _⟩ => ⟨S4x8192x256, .bf16⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024, .f32⟩
  | .hbm, ⟨11, _⟩ => ⟨S4x8192x512, .f32⟩
  | .hbm, ⟨12, _⟩ => ⟨S4x8192x256, .f32⟩
  | .hbm, ⟨13, _⟩ => ⟨S4x8192x256, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S_, .f32⟩
  | .hbm, ⟨19, _⟩ => ⟨S4x8192, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S4x8192x1, .f32⟩
  | .hbm, ⟨28, _⟩ => ⟨S4x8192x1024, .f32⟩
  | .hbm, ⟨29, _⟩ => ⟨S4x8192x1024, .f32⟩
  | .hbm, ⟨30, _⟩ => ⟨S1x1x1024, .f32⟩
  | .hbm, ⟨31, _⟩ => ⟨S4x8192x1024, .f32⟩
  | .hbm, ⟨32, _⟩ => ⟨S4x8192x1024, .f32⟩
  | .hbm, ⟨33, _⟩ => ⟨S4x8192x5632, .f32⟩
  | .hbm, ⟨34, _⟩ => ⟨S4x8192x2816, .f32⟩
  | .hbm, ⟨35, _⟩ => ⟨S3x2816, .f32⟩
  | .hbm, ⟨36, _⟩ => ⟨S2816, .f32⟩
  | .hbm, ⟨37, _⟩ => ⟨S_, .i32⟩
  | .hbm, ⟨38, _⟩ => ⟨S_, .f32⟩
  | .hbm, ⟨39, _⟩ => ⟨S4x8194x2816, .f32⟩
  | .hbm, ⟨40, _⟩ => ⟨S1x2816, .f32⟩
  | .hbm, ⟨41, _⟩ => ⟨S2816, .f32⟩
  | .hbm, ⟨42, _⟩ => ⟨S4x8192x2816, .f32⟩
  | .hbm, ⟨43, _⟩ => ⟨S1x1x2816, .f32⟩
  | .hbm, ⟨44, _⟩ => ⟨S4x8192x2816, .f32⟩
  | .hbm, ⟨45, _⟩ => ⟨S4x8192x2816, .f32⟩
  | .hbm, ⟨46, _⟩ => ⟨S1x2816, .f32⟩
  | .hbm, ⟨47, _⟩ => ⟨S2816, .f32⟩
  | .hbm, ⟨48, _⟩ => ⟨S4x8192x2816, .f32⟩
  | .hbm, ⟨49, _⟩ => ⟨S1x1x2816, .f32⟩
  | .hbm, ⟨50, _⟩ => ⟨S4x8192x2816, .f32⟩
  | .hbm, ⟨51, _⟩ => ⟨S4x8192x2816, .f32⟩
  | .hbm, ⟨52, _⟩ => ⟨S4x8192x2816, .f32⟩
  | .hbm, ⟨53, _⟩ => ⟨S1x2816, .f32⟩
  | .hbm, ⟨54, _⟩ => ⟨S2816, .f32⟩
  | .hbm, ⟨55, _⟩ => ⟨S4x8192x2816, .f32⟩
  | .hbm, ⟨56, _⟩ => ⟨S1x1x2816, .f32⟩
  | .hbm, ⟨57, _⟩ => ⟨S4x8192x2816, .f32⟩
  | .hbm, ⟨58, _⟩ => ⟨S4x8192x2816, .f32⟩
  | .hbm, ⟨59, _⟩ => ⟨S4x8192x2816, .f32⟩
  | .hbm, ⟨60, _⟩ => ⟨S1x1x2816, .f32⟩
  | .hbm, ⟨61, _⟩ => ⟨S4x8192x2816, .f32⟩
  | .hbm, ⟨62, _⟩ => ⟨S4x8192x2816, .f32⟩
  | .hbm, ⟨63, _⟩ => ⟨S4x8192x2816, .f32⟩
  | .hbm, ⟨64, _⟩ => ⟨S3x2816, .f32⟩
  | .hbm, ⟨65, _⟩ => ⟨S2816, .f32⟩
  | .hbm, ⟨66, _⟩ => ⟨S_, .i32⟩
  | .hbm, ⟨67, _⟩ => ⟨S_, .f32⟩
  | .hbm, ⟨68, _⟩ => ⟨S4x8194x2816, .f32⟩
  | .hbm, ⟨69, _⟩ => ⟨S1x2816, .f32⟩
  | .hbm, ⟨70, _⟩ => ⟨S2816, .f32⟩
  | .hbm, ⟨71, _⟩ => ⟨S4x8192x2816, .f32⟩
  | .hbm, ⟨72, _⟩ => ⟨S1x1x2816, .f32⟩
  | .hbm, ⟨73, _⟩ => ⟨S4x8192x2816, .f32⟩
  | .hbm, ⟨74, _⟩ => ⟨S4x8192x2816, .f32⟩
  | .hbm, ⟨75, _⟩ => ⟨S1x2816, .f32⟩
  | .hbm, ⟨76, _⟩ => ⟨S2816, .f32⟩
  | .hbm, ⟨77, _⟩ => ⟨S4x8192x2816, .f32⟩
  | .hbm, ⟨78, _⟩ => ⟨S1x1x2816, .f32⟩
  | .hbm, ⟨79, _⟩ => ⟨S4x8192x2816, .f32⟩
  | .hbm, ⟨80, _⟩ => ⟨S4x8192x2816, .f32⟩
  | .hbm, ⟨81, _⟩ => ⟨S4x8192x2816, .f32⟩
  | .hbm, ⟨82, _⟩ => ⟨S1x2816, .f32⟩
  | .hbm, ⟨83, _⟩ => ⟨S2816, .f32⟩
  | .hbm, ⟨84, _⟩ => ⟨S4x8192x2816, .f32⟩
  | .hbm, ⟨85, _⟩ => ⟨S1x1x2816, .f32⟩
  | .hbm, ⟨86, _⟩ => ⟨S4x8192x2816, .f32⟩
  | .hbm, ⟨87, _⟩ => ⟨S4x8192x2816, .f32⟩
  | .hbm, ⟨88, _⟩ => ⟨S4x8192x2816, .f32⟩
  | .hbm, ⟨89, _⟩ => ⟨S1x1x2816, .f32⟩
  | .hbm, ⟨90, _⟩ => ⟨S4x8192x2816, .f32⟩
  | .hbm, ⟨91, _⟩ => ⟨S4x8192x2816, .f32⟩
  | .hbm, ⟨92, _⟩ => ⟨S4x8192x2816, .f32⟩
  | .hbm, ⟨93, _⟩ => ⟨S4x8192x2816, .f32⟩
  | .hbm, ⟨94, _⟩ => ⟨S_, .f32⟩
  | .hbm, ⟨95, _⟩ => ⟨S4x8192x2816, .f32⟩
  | .hbm, ⟨96, _⟩ => ⟨S4x8192x2816, .f32⟩
  | .hbm, ⟨97, _⟩ => ⟨S_, .f32⟩
  | .hbm, ⟨98, _⟩ => ⟨S4x8192x2816, .f32⟩
  | .hbm, ⟨99, _⟩ => ⟨S4x8192x2816, .f32⟩
  | .hbm, ⟨100, _⟩ => ⟨S4x8192x2816, .f32⟩
  | .hbm, ⟨101, _⟩ => ⟨S4x8192x2816, .f32⟩
  | .hbm, ⟨102, _⟩ => ⟨S4x8192x1024, .f32⟩
  | .hbm, ⟨103, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_2 : Ref sig .tc := ⟨.hbm, 66, rfl⟩
abbrev main_call1_v0 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_call2_v0 : Ref sig .tc := ⟨.hbm, 92, rfl⟩
abbrev main_call2_v1 : Ref sig .tc := ⟨.hbm, 93, rfl⟩
abbrev main_call2_cst : Ref sig .tc := ⟨.hbm, 94, rfl⟩
abbrev main_call2_v2 : Ref sig .tc := ⟨.hbm, 95, rfl⟩
abbrev main_call2_v3 : Ref sig .tc := ⟨.hbm, 96, rfl⟩
abbrev main_call2_cst_0 : Ref sig .tc := ⟨.hbm, 97, rfl⟩
abbrev main_call2_v4 : Ref sig .tc := ⟨.hbm, 98, rfl⟩
abbrev main_call2_v5 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩

abbrev nD : Nat := 1
abbrev τ : Topo := Topo.v7x

variable {F : FTy → Type} [FloatOps F]
-- ==== Proof.LruScan.lean ====
/-
  The recurrence of the RG-LRU kernel, read at an index over the extended reals. One block of 256 frames is scanned
  in two stages: inside every group of 8 frames by three doubling steps (shifts by 1, 2 and 4), then group after group
  by the carried row. Column by column this is the plain linear recurrence `h n = a n * h (n-1) + u n` (`lin`).
-/
module

public import proofs.«01_k».proof.Proof.Gen.KernelIdeal.Skeleton
public import Idealize.ShloMosaic.Lib.Pointwise
public import Idealize.ShloMosaic.Lib.Pipeline.Value

@[expose] public section

set_option maxRecDepth 16384

noncomputable section

open Idealize.ShloMosaic Idealize.ShloMosaic.TcCoe

namespace Cert.KernelIdeal.LruScan

open Cert.KernelIdeal Cert.KernelIdeal.Gen

/-! ## The linear recurrence on sequences -/

/-- The linear recurrence with coefficients `a`, inputs `u` and the value `c` before the first step. -/
def lin (a u : ℕ → EReal) (c : EReal) : ℕ → EReal
  | 0 => a 0 * c + u 0
  | n + 1 => a (n + 1) * lin a u c n + u (n + 1)

/-- A sequence read from place `k` on. -/
def sh (f : ℕ → EReal) (k n : ℕ) : EReal := f (k + n)

/-- Restarting the recurrence after place `k` from its value there continues it. -/
theorem lin_shift (a u : ℕ → EReal) (c : EReal) (k : ℕ) :
    ∀ n, lin (sh a (k + 1)) (sh u (k + 1)) (lin a u c k) n = lin a u c (k + 1 + n)
  | 0 => rfl
  | n + 1 => by
    show a (k + 1 + (n + 1)) * lin (sh a (k + 1)) (sh u (k + 1)) (lin a u c k) n + u (k + 1 + (n + 1)) = _
    rw [lin_shift a u c k n]
    rfl

/-- Sequences that agree up to `n` have the same recurrence value at `n`. -/
theorem lin_congr {a a' u u' : ℕ → EReal} {c c' : EReal} (hc : c = c') :
    ∀ n, (∀ k, k ≤ n → a k = a' k) → (∀ k, k ≤ n → u k = u' k) → lin a u c n = lin a' u' c' n
  | 0, ha, hu => by show a 0 * c + u 0 = a' 0 * c' + u' 0; rw [ha 0 le_rfl, hu 0 le_rfl, hc]
  | n + 1, ha, hu => by
    show a (n + 1) * lin a u c n + u (n + 1) = a' (n + 1) * lin a' u' c' n + u' (n + 1)
    rw [ha _ le_rfl, hu _ le_rfl, lin_congr hc n (fun k h => ha k (Nat.le_succ_of_le h)) (fun k h => hu k (Nat.le_succ_of_le h))]

/-- One doubling step of the coefficients. -/
def dA (d : ℕ) (a : ℕ → EReal) (s : ℕ) : EReal := if d ≤ s then a s * a (s - d) else a s

/-- One doubling step of the inputs. -/
def dU (d : ℕ) (a u : ℕ → EReal) (s : ℕ) : EReal := if d ≤ s then a s * u (s - d) + u s else u s

set_option maxHeartbeats 1000000 in
/-- Three doubling steps compose the first eight steps of the recurrence: coefficients that are nonnegative and below
    infinity distribute over sums. -/
theorem doubling (a u : ℕ → EReal) (c : EReal) (h0 : ∀ n, 0 ≤ a n) (h1 : ∀ n, a n ≠ ⊤) (s : Fin 8) :
    dA 4 (dA 2 (dA 1 a)) s.val * c + dU 4 (dA 2 (dA 1 a)) (dU 2 (dA 1 a) (dU 1 a u)) s.val = lin a u c s.val := by
  have D : ∀ n x y, a n * (x + y) = a n * x + a n * y := fun n x y => EReal.left_distrib_of_nonneg_of_ne_top (h0 n) (h1 n) x y
  fin_cases s <;>
    simp only [dA, dU, lin, Nat.reduceAdd, Nat.reduceLeDiff, Nat.reduceSub, ↓reduceIte, D, mul_assoc, add_assoc, nonpos_iff_eq_zero, Nat.succ_ne_zero,
      OfNat.ofNat_ne_zero, one_ne_zero, le_refl, zero_add, Nat.one_le_ofNat, Nat.le_refl]

/-! ## The masks of the three shifts -/

/-- The mask of the shift by 1 selects by the frame's place in its group. -/
theorem sel1 (s : Fin 8) (x y : EReal) :
    Scalar.select (IntOp.cmpi CmpIPredicate.sge (BitVec.ofNat 32 s.val) 1#32) x y = if 1 ≤ s.val then x else y := by
  fin_cases s <;> rfl

/-- The mask of the shift by 2 selects by the frame's place in its group. -/
theorem sel2 (s : Fin 8) (x y : EReal) :
    Scalar.select (IntOp.cmpi CmpIPredicate.sge (BitVec.ofNat 32 s.val) 2#32) x y = if 2 ≤ s.val then x else y := by
  fin_cases s <;> rfl

/-- The mask of the shift by 4 selects by the frame's place in its group. -/
theorem sel4 (s : Fin 8) (x y : EReal) :
    Scalar.select (IntOp.cmpi CmpIPredicate.sge (BitVec.ofNat 32 s.val) 4#32) x y = if 4 ≤ s.val then x else y := by
  fin_cases s <;> rfl

/-! ## One block's scan as the payloads compose it -/

section Defs

variable {F : FTy → Type} [FloatOps F]
variable (v31 v60 v62 : FVec F S256x512 .f32) (v66 v67 : FVec F S1x512 .f32) (v128 : Vec F S1x512 .f32)

/-- The place of each frame in its group of eight. -/
def i8 : IVec S32x8x512 32 := iota .tc S32x8x512 32 [1] iota_S32x8x512_d1_w32
/-- The inputs after the three doubling steps. -/
def U3 : FVec F S32x8x512 .f32 := k0_pay21 i8 (k0_pay16 v31 v60 v62 v66 v67) (k0_pay17 v62 v66 v67) (k0_pay18 v62 v66 v67) (k0_pay19 v31 v60 v62 v66 v67)
/-- The coefficients after the three doubling steps. -/
def A3 : FVec F S32x8x512 .f32 := k0_pay22 i8 (k0_pay17 v62 v66 v67) (k0_pay18 v62 v66 v67)

/-- Group 0 of the block. -/
def g0 : FVec F S8x512 .f32 := k0_pay23 i8 (k0_pay16 v31 v60 v62 v66 v67) (k0_pay17 v62 v66 v67) (k0_pay18 v62 v66 v67) (k0_pay19 v31 v60 v62 v66 v67) v128
/-- Group 1 of the block. -/
def g1 : FVec F S8x512 .f32 := k0_pay24 i8 (k0_pay16 v31 v60 v62 v66 v67) (k0_pay17 v62 v66 v67) (k0_pay18 v62 v66 v67) (k0_pay19 v31 v60 v62 v66 v67) v128
/-- Group 2 of the block. -/
def g2 : FVec F S8x512 .f32 := k0_pay25 i8 (k0_pay16 v31 v60 v62 v66 v67) (k0_pay17 v62 v66 v67) (k0_pay18 v62 v66 v67) (k0_pay19 v31 v60 v62 v66 v67) v128
/-- Group 3 of the block. -/
def g3 : FVec F S8x512 .f32 := k0_pay26 i8 (k0_pay16 v31 v60 v62 v66 v67) (k0_pay17 v62 v66 v67) (k0_pay18 v62 v66 v67) (k0_pay19 v31 v60 v62 v66 v67) v128
/-- The carried part of group 4. -/
def m4 : FVec F S8x512 .f32 := k0_pay27 i8 (k0_pay16 v31 v60 v62 v66 v67) (k0_pay17 v62 v66 v67) (k0_pay18 v62 v66 v67) (k0_pay19 v31 v60 v62 v66 v67) v128
/-- Group 4 of the block. -/
def g4 : FVec F S8x512 .f32 := k0_pay28 (U3 v31 v60 v62 v66 v67) (m4 v31 v60 v62 v66 v67 v128)
/-- Group 5 of the block. -/
def g5 : FVec F S8x512 .f32 := k0_pay29 (U3 v31 v60 v62 v66 v67) (A3 v62 v66 v67) (m4 v31 v60 v62 v66 v67 v128)
/-- Group 6 of the block. -/
def g6 : FVec F S8x512 .f32 := k0_pay30 (U3 v31 v60 v62 v66 v67) (A3 v62 v66 v67) (m4 v31 v60 v62 v66 v67 v128)
/-- Group 7 of the block. -/
def g7 : FVec F S8x512 .f32 := k0_pay31 (U3 v31 v60 v62 v66 v67) (A3 v62 v66 v67) (m4 v31 v60 v62 v66 v67 v128)
/-- Group 8 of the block. -/
def g8 : FVec F S8x512 .f32 := k0_pay32 (U3 v31 v60 v62 v66 v67) (A3 v62 v66 v67) (m4 v31 v60 v62 v66 v67 v128)
/-- Group 9 of the block. -/
def g9 : FVec F S8x512 .f32 := k0_pay33 (U3 v31 v60 v62 v66 v67) (A3 v62 v66 v67) (m4 v31 v60 v62 v66 v67 v128)
/-- Group 10 of the block. -/
def g10 : FVec F S8x512 .f32 := k0_pay34 (U3 v31 v60 v62 v66 v67) (A3 v62 v66 v67) (m4 v31 v60 v62 v66 v67 v128)
/-- Group 11 of the block. -/
def g11 : FVec F S8x512 .f32 := k0_pay35 (U3 v31 v60 v62 v66 v67) (A3 v62 v66 v67) (m4 v31 v60 v62 v66 v67 v128)
/-- The row carried into group 12. -/
def r12 : FVec F S1x512 .f32 := k0_pay36 (U3 v31 v60 v62 v66 v67) (A3 v62 v66 v67) (m4 v31 v60 v62 v66 v67 v128)
/-- Group 12 of the block. -/
def g12 : FVec F S8x512 .f32 := k0_pay37 (U3 v31 v60 v62 v66 v67) (A3 v62 v66 v67) (r12 v31 v60 v62 v66 v67 v128)
/-- Group 13 of the block. -/
def g13 : FVec F S8x512 .f32 := k0_pay38 (U3 v31 v60 v62 v66 v67) (A3 v62 v66 v67) (r12 v31 v60 v62 v66 v67 v128)
/-- Group 14 of the block. -/
def g14 : FVec F S8x512 .f32 := k0_pay39 (U3 v31 v60 v62 v66 v67) (A3 v62 v66 v67) (r12 v31 v60 v62 v66 v67 v128)
/-- Group 15 of the block. -/
def g15 : FVec F S8x512 .f32 := k0_pay40 (U3 v31 v60 v62 v66 v67) (A3 v62 v66 v67) (r12 v31 v60 v62 v66 v67 v128)
/-- Group 16 of the block. -/
def g16 : FVec F S8x512 .f32 := k0_pay41 (U3 v31 v60 v62 v66 v67) (A3 v62 v66 v67) (r12 v31 v60 v62 v66 v67 v128)
/-- Group 17 of the block. -/
def g17 : FVec F S8x512 .f32 := k0_pay42 (U3 v31 v60 v62 v66 v67) (A3 v62 v66 v67) (r12 v31 v60 v62 v66 v67 v128)
/-- Group 18 of the block. -/
def g18 : FVec F S8x512 .f32 := k0_pay43 (U3 v31 v60 v62 v66 v67) (A3 v62 v66 v67) (r12 v31 v60 v62 v66 v67 v128)
/-- The carried part of group 19. -/
def m19 : FVec F S8x512 .f32 := k0_pay44 (U3 v31 v60 v62 v66 v67) (A3 v62 v66 v67) (r12 v31 v60 v62 v66 v67 v128)
/-- Group 19 of the block. -/
def g19 : FVec F S8x512 .f32 := k0_pay45 (U3 v31 v60 v62 v66 v67) (m19 v31 v60 v62 v66 v67 v128)
/-- Group 20 of the block. -/
def g20 : FVec F S8x512 .f32 := k0_pay46 (U3 v31 v60 v62 v66 v67) (A3 v62 v66 v67) (m19 v31 v60 v62 v66 v67 v128)
/-- Group 21 of the block. -/
def g21 : FVec F S8x512 .f32 := k0_pay47 (U3 v31 v60 v62 v66 v67) (A3 v62 v66 v67) (m19 v31 v60 v62 v66 v67 v128)
/-- Group 22 of the block. -/
def g22 : FVec F S8x512 .f32 := k0_pay48 (U3 v31 v60 v62 v66 v67) (A3 v62 v66 v67) (m19 v31 v60 v62 v66 v67 v128)
/-- Group 23 of the block. -/
def g23 : FVec F S8x512 .f32 := k0_pay49 (U3 v31 v60 v62 v66 v67) (A3 v62 v66 v67) (m19 v31 v60 v62 v66 v67 v128)
/-- Group 24 of the block. -/
def g24 : FVec F S8x512 .f32 := k0_pay50 (U3 v31 v60 v62 v66 v67) (A3 v62 v66 v67) (m19 v31 v60 v62 v66 v67 v128)
/-- Group 25 of the block. -/
def g25 : FVec F S8x512 .f32 := k0_pay51 (U3 v31 v60 v62 v66 v67) (A3 v62 v66 v67) (m19 v31 v60 v62 v66 v67 v128)
/-- Group 26 of the block. -/
def g26 : FVec F S8x512 .f32 := k0_pay52 (U3 v31 v60 v62 v66 v67) (A3 v62 v66 v67) (m19 v31 v60 v62 v66 v67 v128)
/-- The row carried into group 27. -/
def r27 : FVec F S1x512 .f32 := k0_pay53 (U3 v31 v60 v62 v66 v67) (A3 v62 v66 v67) (m19 v31 v60 v62 v66 v67 v128)
/-- Group 27 of the block. -/
def g27 : FVec F S8x512 .f32 := k0_pay54 (U3 v31 v60 v62 v66 v67) (A3 v62 v66 v67) (r27 v31 v60 v62 v66 v67 v128)
/-- Group 28 of the block. -/
def g28 : FVec F S8x512 .f32 := k0_pay55 (U3 v31 v60 v62 v66 v67) (A3 v62 v66 v67) (r27 v31 v60 v62 v66 v67 v128)
/-- Group 29 of the block. -/
def g29 : FVec F S8x512 .f32 := k0_pay56 (U3 v31 v60 v62 v66 v67) (A3 v62 v66 v67) (r27 v31 v60 v62 v66 v67 v128)
/-- Group 30 of the block. -/
def g30 : FVec F S8x512 .f32 := k0_pay57 (U3 v31 v60 v62 v66 v67) (A3 v62 v66 v67) (r27 v31 v60 v62 v66 v67 v128)
/-- Group 31 of the block. -/
def g31 : FVec F S8x512 .f32 := k0_pay58 (U3 v31 v60 v62 v66 v67) (A3 v62 v66 v67) (r27 v31 v60 v62 v66 v67 v128)
/-- The block of 256 scanned frames. -/
def scanOut : FVec F S256x512 .f32 := k0_pay60 (U3 v31 v60 v62 v66 v67) (A3 v62 v66 v67) (g0 v31 v60 v62 v66 v67 v128) (g1 v31 v60 v62 v66 v67 v128) (g2 v31 v60 v62 v66 v67 v128) (g3 v31 v60 v62 v66 v67 v128) (g4 v31 v60 v62 v66 v67 v128) (g5 v31 v60 v62 v66 v67 v128) (g6 v31 v60 v62 v66 v67 v128) (g7 v31 v60 v62 v66 v67 v128) (g8 v31 v60 v62 v66 v67 v128) (g9 v31 v60 v62 v66 v67 v128) (g10 v31 v60 v62 v66 v67 v128) (g11 v31 v60 v62 v66 v67 v128) (g12 v31 v60 v62 v66 v67 v128) (g13 v31 v60 v62 v66 v67 v128) (g14 v31 v60 v62 v66 v67 v128) (g15 v31 v60 v62 v66 v67 v128) (g16 v31 v60 v62 v66 v67 v128) (g17 v31 v60 v62 v66 v67 v128) (g18 v31 v60 v62 v66 v67 v128) (g19 v31 v60 v62 v66 v67 v128) (g20 v31 v60 v62 v66 v67 v128) (g21 v31 v60 v62 v66 v67 v128) (g22 v31 v60 v62 v66 v67 v128) (g23 v31 v60 v62 v66 v67 v128) (g24 v31 v60 v62 v66 v67 v128) (g25 v31 v60 v62 v66 v67 v128) (g26 v31 v60 v62 v66 v67 v128) (r27 v31 v60 v62 v66 v67 v128)
/-- The row the block hands to the next one. -/
def scanCarry : FVec F S1x512 .f32 := k0_pay59 (U3 v31 v60 v62 v66 v67) (A3 v62 v66 v67) (r27 v31 v60 v62 v66 v67 v128)

end Defs

/-! ## The payloads at an index -/

section Reads

variable (v31 v60 v62 : FVec Ideal S256x512 .f32) (v66 v67 : FVec Ideal S1x512 .f32)
variable (U A : FVec Ideal S32x8x512 .f32) (v88 : IVec S32x8x512 32) (v100 v101 v106 v112 : FVec Ideal S32x8x512 .f32) (v128 : FVec Ideal S1x512 .f32)
variable (v : FVec Ideal S8x512 .f32) (q : FVec Ideal S1x512 .f32) (s : Fin 8) (l : Fin 512)

/-- Payload 23 at an index. -/
theorem rd23 : k0_pay23 v88 v100 v101 v106 v112 v128 (ix2 s l) = k0_pay22 v88 v101 v106 (ix3 0 s l) * v128 (ix2 0 l) + k0_pay21 v88 v100 v101 v106 v112 (ix3 0 s l) := by
  unfold k0_pay23
  pointwise
/-- Payload 24 at an index. -/
theorem rd24 : k0_pay24 v88 v100 v101 v106 v112 v128 (ix2 s l) = k0_pay22 v88 v101 v106 (ix3 1 s l) * k0_pay23 v88 v100 v101 v106 v112 v128 (ix2 7 l) + k0_pay21 v88 v100 v101 v106 v112 (ix3 1 s l) := by
  unfold k0_pay24
  pointwise
/-- Payload 25 at an index. -/
theorem rd25 : k0_pay25 v88 v100 v101 v106 v112 v128 (ix2 s l) = k0_pay22 v88 v101 v106 (ix3 2 s l) * k0_pay24 v88 v100 v101 v106 v112 v128 (ix2 7 l) + k0_pay21 v88 v100 v101 v106 v112 (ix3 2 s l) := by
  unfold k0_pay25
  pointwise
/-- Payload 26 at an index. -/
theorem rd26 : k0_pay26 v88 v100 v101 v106 v112 v128 (ix2 s l) = k0_pay22 v88 v101 v106 (ix3 3 s l) * k0_pay25 v88 v100 v101 v106 v112 v128 (ix2 7 l) + k0_pay21 v88 v100 v101 v106 v112 (ix3 3 s l) := by
  unfold k0_pay26
  pointwise
/-- Payload 27 at an index. -/
theorem rd27 : k0_pay27 v88 v100 v101 v106 v112 v128 (ix2 s l) = k0_pay22 v88 v101 v106 (ix3 4 s l) * k0_pay26 v88 v100 v101 v106 v112 v128 (ix2 7 l) := by
  unfold k0_pay27
  pointwise
/-- Payload 28 at an index. -/
theorem rd28 : k0_pay28 U v (ix2 s l) = v (ix2 s l) + U (ix3 4 s l) := by
  unfold k0_pay28
  pointwise
/-- Payload 29 at an index. -/
theorem rd29 : k0_pay29 U A v (ix2 s l) = A (ix3 5 s l) * k0_pay28 U v (ix2 7 l) + U (ix3 5 s l) := by
  unfold k0_pay29
  pointwise
/-- Payload 30 at an index. -/
theorem rd30 : k0_pay30 U A v (ix2 s l) = A (ix3 6 s l) * k0_pay29 U A v (ix2 7 l) + U (ix3 6 s l) := by
  unfold k0_pay30
  pointwise
/-- Payload 31 at an index. -/
theorem rd31 : k0_pay31 U A v (ix2 s l) = A (ix3 7 s l) * k0_pay30 U A v (ix2 7 l) + U (ix3 7 s l) := by
  unfold k0_pay31
  pointwise
/-- Payload 32 at an index. -/
theorem rd32 : k0_pay32 U A v (ix2 s l) = A (ix3 8 s l) * k0_pay31 U A v (ix2 7 l) + U (ix3 8 s l) := by
  unfold k0_pay32
  pointwise
/-- Payload 33 at an index. -/
theorem rd33 : k0_pay33 U A v (ix2 s l) = A (ix3 9 s l) * k0_pay32 U A v (ix2 7 l) + U (ix3 9 s l) := by
  unfold k0_pay33
  pointwise
/-- Payload 34 at an index. -/
theorem rd34 : k0_pay34 U A v (ix2 s l) = A (ix3 10 s l) * k0_pay33 U A v (ix2 7 l) + U (ix3 10 s l) := by
  unfold k0_pay34
  pointwise
/-- Payload 35 at an index. -/
theorem rd35 : k0_pay35 U A v (ix2 s l) = A (ix3 11 s l) * k0_pay34 U A v (ix2 7 l) + U (ix3 11 s l) := by
  unfold k0_pay35
  pointwise
/-- Payload 36 at an index. -/
theorem rd36 : k0_pay36 U A v (ix2 0 l) = k0_pay35 U A v (ix2 7 l) := by
  unfold k0_pay36
  pointwise
/-- Payload 37 at an index. -/
theorem rd37 : k0_pay37 U A q (ix2 s l) = A (ix3 12 s l) * q (ix2 0 l) + U (ix3 12 s l) := by
  unfold k0_pay37
  pointwise
/-- Payload 38 at an index. -/
theorem rd38 : k0_pay38 U A q (ix2 s l) = A (ix3 13 s l) * k0_pay37 U A q (ix2 7 l) + U (ix3 13 s l) := by
  unfold k0_pay38
  pointwise
/-- Payload 39 at an index. -/
theorem rd39 : k0_pay39 U A q (ix2 s l) = A (ix3 14 s l) * k0_pay38 U A q (ix2 7 l) + U (ix3 14 s l) := by
  unfold k0_pay39
  pointwise
/-- Payload 40 at an index. -/
theorem rd40 : k0_pay40 U A q (ix2 s l) = A (ix3 15 s l) * k0_pay39 U A q (ix2 7 l) + U (ix3 15 s l) := by
  unfold k0_pay40
  pointwise
/-- Payload 41 at an index. -/
theorem rd41 : k0_pay41 U A q (ix2 s l) = A (ix3 16 s l) * k0_pay40 U A q (ix2 7 l) + U (ix3 16 s l) := by
  unfold k0_pay41
  pointwise
/-- Payload 42 at an index. -/
theorem rd42 : k0_pay42 U A q (ix2 s l) = A (ix3 17 s l) * k0_pay41 U A q (ix2 7 l) + U (ix3 17 s l) := by
  unfold k0_pay42
  pointwise
/-- Payload 43 at an index. -/
theorem rd43 : k0_pay43 U A q (ix2 s l) = A (ix3 18 s l) * k0_pay42 U A q (ix2 7 l) + U (ix3 18 s l) := by
  unfold k0_pay43
  pointwise
/-- Payload 44 at an index. -/
theorem rd44 : k0_pay44 U A q (ix2 s l) = A (ix3 19 s l) * k0_pay43 U A q (ix2 7 l) := by
  unfold k0_pay44
  pointwise
/-- Payload 45 at an index. -/
theorem rd45 : k0_pay45 U v (ix2 s l) = v (ix2 s l) + U (ix3 19 s l) := by
  unfold k0_pay45
  pointwise
/-- Payload 46 at an index. -/
theorem rd46 : k0_pay46 U A v (ix2 s l) = A (ix3 20 s l) * k0_pay45 U v (ix2 7 l) + U (ix3 20 s l) := by
  unfold k0_pay46
  pointwise
/-- Payload 47 at an index. -/
theorem rd47 : k0_pay47 U A v (ix2 s l) = A (ix3 21 s l) * k0_pay46 U A v (ix2 7 l) + U (ix3 21 s l) := by
  unfold k0_pay47
  pointwise
/-- Payload 48 at an index. -/
theorem rd48 : k0_pay48 U A v (ix2 s l) = A (ix3 22 s l) * k0_pay47 U A v (ix2 7 l) + U (ix3 22 s l) := by
  unfold k0_pay48
  pointwise
/-- Payload 49 at an index. -/
theorem rd49 : k0_pay49 U A v (ix2 s l) = A (ix3 23 s l) * k0_pay48 U A v (ix2 7 l) + U (ix3 23 s l) := by
  unfold k0_pay49
  pointwise
/-- Payload 50 at an index. -/
theorem rd50 : k0_pay50 U A v (ix2 s l) = A (ix3 24 s l) * k0_pay49 U A v (ix2 7 l) + U (ix3 24 s l) := by
  unfold k0_pay50
  pointwise
/-- Payload 51 at an index. -/
theorem rd51 : k0_pay51 U A v (ix2 s l) = A (ix3 25 s l) * k0_pay50 U A v (ix2 7 l) + U (ix3 25 s l) := by
  unfold k0_pay51
  pointwise
/-- Payload 52 at an index. -/
theorem rd52 : k0_pay52 U A v (ix2 s l) = A (ix3 26 s l) * k0_pay51 U A v (ix2 7 l) + U (ix3 26 s l) := by
  unfold k0_pay52
  pointwise
/-- Payload 53 at an index. -/
theorem rd53 : k0_pay53 U A v (ix2 0 l) = k0_pay52 U A v (ix2 7 l) := by
  unfold k0_pay53
  pointwise
/-- Payload 54 at an index. -/
theorem rd54 : k0_pay54 U A q (ix2 s l) = A (ix3 27 s l) * q (ix2 0 l) + U (ix3 27 s l) := by
  unfold k0_pay54
  pointwise
/-- Payload 55 at an index. -/
theorem rd55 : k0_pay55 U A q (ix2 s l) = A (ix3 28 s l) * k0_pay54 U A q (ix2 7 l) + U (ix3 28 s l) := by
  unfold k0_pay55
  pointwise
/-- Payload 56 at an index. -/
theorem rd56 : k0_pay56 U A q (ix2 s l) = A (ix3 29 s l) * k0_pay55 U A q (ix2 7 l) + U (ix3 29 s l) := by
  unfold k0_pay56
  pointwise
/-- Payload 57 at an index. -/
theorem rd57 : k0_pay57 U A q (ix2 s l) = A (ix3 30 s l) * k0_pay56 U A q (ix2 7 l) + U (ix3 30 s l) := by
  unfold k0_pay57
  pointwise
/-- Payload 58 at an index. -/
theorem rd58 : k0_pay58 U A q (ix2 s l) = A (ix3 31 s l) * k0_pay57 U A q (ix2 7 l) + U (ix3 31 s l) := by
  unfold k0_pay58
  pointwise
/-- Payload 59 at an index. -/
theorem rd59 : k0_pay59 U A q (ix2 0 l) = k0_pay58 U A q (ix2 7 l) := by
  unfold k0_pay59
  pointwise

/-- The block is its 32 groups one under the other. -/
theorem rd60 (x0 x1 x2 x3 x4 x5 x6 x7 x8 x9 x10 x11 x12 x13 x14 x15 x16 x17 x18 x19 x20 x21 x22 x23 x24 x25 x26 : FVec Ideal S8x512 .f32) (n : Fin 32) :
    k0_pay60 U A x0 x1 x2 x3 x4 x5 x6 x7 x8 x9 x10 x11 x12 x13 x14 x15 x16 x17 x18 x19 x20 x21 x22 x23 x24 x25 x26 q (ix2 (⟨8 * n.val + s.val, by omega⟩ : Fin 256) l) =
      (![x0, x1, x2, x3, x4, x5, x6, x7, x8, x9, x10, x11, x12, x13, x14, x15, x16, x17, x18, x19, x20, x21, x22, x23, x24, x25, x26, k0_pay54 U A q, k0_pay55 U A q, k0_pay56 U A q, k0_pay57 U A q, k0_pay58 U A q] : Fin 32 → FVec Ideal S8x512 .f32) n (ix2 s l) := by
  unfold k0_pay60
  refine concatenate_ofFn_apply (t := S256x512) (s₁ := S8x512) 0 (![x0, x1, x2, x3, x4, x5, x6, x7, x8, x9, x10, x11, x12, x13, x14, x15, x16, x17, x18, x19, x20, x21, x22, x23, x24, x25, x26, k0_pay54 U A q, k0_pay55 U A q, k0_pay56 U A q, k0_pay57 U A q, k0_pay58 U A q] : Fin 32 → FVec Ideal S8x512 .f32) concatenates_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S256x512_d0 rfl 8 rfl _ n ?_ _ ?_ ?_
  · show (8 * n.val + s.val) / 8 = n.val
    omega
  · show s.val = (8 * n.val + s.val) % 8
    omega
  · intro b hb
    fin_cases b
    · exact absurd rfl hb
    · rfl

/-- The decay coefficients regrouped by eights. -/
theorem rd15 (g : Fin 32) : k0_pay15 v62 v66 v67 (ix3 g s l) = k0_pay14 v62 v66 v67 (ix2 (⟨8 * g.val + s.val, by omega⟩ : Fin 256) l) := by
  unfold k0_pay15
  pointwise
  congr 2
  exact Fin.ext (by show g.val * 8 + s.val = 8 * g.val + s.val; omega)

end Reads

/-! ## One column of the block -/

section Column

variable (v31 v60 v62 : FVec Ideal S256x512 .f32) (v66 v67 : FVec Ideal S1x512 .f32) (v128 : FVec Ideal S1x512 .f32) (l : Fin 512)
variable (a u : ℕ → EReal) (c : EReal)

/-- The hypotheses on one column: its coefficients are `a`, its inputs `u`, and the coefficients are nonnegative reals. -/
structure Col : Prop where
  nn : ∀ n, 0 ≤ a n
  nt : ∀ n, a n ≠ ⊤
  ha : ∀ r : Fin 256, k0_pay14 v62 v66 v67 (ix2 r l) = a r.val
  hu : ∀ r : Fin 256, Ideal.sqrt (1 - a r.val * a r.val) * (v60 (ix2 r l) * v31 (ix2 r l)) = u r.val

variable {v31 v60 v62 v66 v67 l a u}
variable (H : Col v31 v60 v62 v66 v67 l a u)
include H

/-- The decays, read by groups of eight rows. -/
theorem Col.p15 (g : Fin 32) (s : Fin 8) : k0_pay15 v62 v66 v67 (ix3 g s l) = sh a (8 * g.val) s.val :=
  (rd15 v62 v66 v67 s l g).trans (H.ha _)

/-- The first doubling step of the inputs. -/
theorem Col.p16 (g : Fin 32) (s : Fin 8) : k0_pay16 v31 v60 v62 v66 v67 (ix3 g s l) = dU 1 (sh a (8 * g.val)) (sh u (8 * g.val)) s.val := by
  unfold k0_pay16
  pointwise
  rw [sel1, H.p15, H.ha, H.ha]
  have e1 := H.hu ⟨g.val * 8 + s.val, by omega⟩
  have e2 := H.hu ⟨g.val * 8 + (s.val + 8 - 1) % 8, by omega⟩
  simp only at e1 e2
  rw [e1, e2]
  unfold dU sh
  by_cases hs : 1 ≤ s.val
  · rw [if_pos hs, if_pos hs, show g.val * 8 + (s.val + 8 - 1) % 8 = 8 * g.val + (s.val - 1) by omega, show g.val * 8 + s.val = 8 * g.val + s.val by omega]
  · rw [if_neg hs, if_neg hs, zero_add, show g.val * 8 + s.val = 8 * g.val + s.val by omega]

/-- The first doubling step of the decays. -/
theorem Col.p17 (g : Fin 32) (s : Fin 8) : k0_pay17 v62 v66 v67 (ix3 g s l) = dA 1 (sh a (8 * g.val)) s.val := by
  unfold k0_pay17
  pointwise
  rw [sel1, H.p15, H.p15]
  unfold dA
  by_cases hs : 1 ≤ s.val
  · rw [if_pos hs, if_pos hs]
    show _ * sh a _ ((s.val + 8 - 1) % 8) = _
    rw [show (s.val + 8 - 1) % 8 = s.val - 1 by omega]
  · rw [if_neg hs, if_neg hs, mul_one]

/-- The second doubling step of the decays. -/
theorem Col.p18 (g : Fin 32) (s : Fin 8) : k0_pay17 v62 v66 v67 (ix3 g s l) * k0_pay18 v62 v66 v67 (ix3 g s l) = dA 2 (dA 1 (sh a (8 * g.val))) s.val := by
  unfold k0_pay18
  pointwise
  rw [sel2, H.p17, H.p17]
  conv_rhs => unfold dA
  by_cases hs : 2 ≤ s.val
  · rw [if_pos hs, if_pos hs]
    show _ * dA 1 _ ((s.val + 8 - 2) % 8) = _
    rw [show (s.val + 8 - 2) % 8 = s.val - 2 by omega]
    rfl
  · rw [if_neg hs, if_neg hs, mul_one]
    rfl

/-- The second doubling step of the inputs. -/
theorem Col.p19 (g : Fin 32) (s : Fin 8) : k0_pay19 v31 v60 v62 v66 v67 (ix3 g s l) + k0_pay16 v31 v60 v62 v66 v67 (ix3 g s l) = dU 2 (dA 1 (sh a (8 * g.val))) (dU 1 (sh a (8 * g.val)) (sh u (8 * g.val))) s.val := by
  unfold k0_pay19
  pointwise
  rw [sel2, H.p17, H.p16, H.p16]
  conv_rhs => unfold dU
  by_cases hs : 2 ≤ s.val
  · rw [if_pos hs, if_pos hs]
    show _ * dU 1 _ _ ((s.val + 8 - 2) % 8) + _ = _
    rw [show (s.val + 8 - 2) % 8 = s.val - 2 by omega]
    rfl
  · rw [if_neg hs, if_neg hs]
    simp only [mul_zero, zero_add]
    rfl

/-- A group's decays after the three doubling steps. -/
theorem Col.a3 (g : Fin 32) (s : Fin 8) : A3 v62 v66 v67 (ix3 g s l) = dA 4 (dA 2 (dA 1 (sh a (8 * g.val)))) s.val := by
  unfold A3 i8 k0_pay22 k0_pay20
  pointwise
  rw [sel4, H.p18, H.p18]
  conv_rhs => unfold dA
  by_cases hs : 4 ≤ s.val
  · rw [if_pos hs, if_pos hs]
    show _ * dA 2 _ ((s.val + 8 - 4) % 8) = _
    rw [show (s.val + 8 - 4) % 8 = s.val - 4 by omega]
    rfl
  · rw [if_neg hs, if_neg hs, mul_one]
    rfl

/-- A group's inputs after the three doubling steps. -/
theorem Col.u3 (g : Fin 32) (s : Fin 8) : U3 v31 v60 v62 v66 v67 (ix3 g s l) =
    dU 4 (dA 2 (dA 1 (sh a (8 * g.val)))) (dU 2 (dA 1 (sh a (8 * g.val))) (dU 1 (sh a (8 * g.val)) (sh u (8 * g.val)))) s.val := by
  unfold U3 i8 k0_pay21 k0_pay20
  pointwise
  rw [sel4, H.p18, H.p19, H.p19]
  conv_rhs => unfold dU
  by_cases hs : 4 ≤ s.val
  · rw [if_pos hs, if_pos hs]
    show _ * dU 2 _ _ ((s.val + 8 - 4) % 8) + _ = _
    rw [show (s.val + 8 - 4) % 8 = s.val - 4 by omega]
    rfl
  · rw [if_neg hs, if_neg hs]
    simp only [mul_zero, zero_add]
    rfl

/-- Group `g` started from `x` runs the recurrence over its eight frames. -/
theorem Col.step (g : Fin 32) (s : Fin 8) (x : EReal) :
    A3 v62 v66 v67 (ix3 g s l) * x + U3 v31 v60 v62 v66 v67 (ix3 g s l) = lin (sh a (8 * g.val)) (sh u (8 * g.val)) x s.val := by
  rw [H.a3, H.u3]
  exact doubling _ _ x (fun n => H.nn _) (fun n => H.nt _) s

/-- Group `g` started from the value before it continues the block's recurrence. -/
theorem Col.next (g : Fin 32) (s : Fin 8) (x : EReal) (k : ℕ) (hk : k + 1 = 8 * g.val) (hx : x = lin a u c k) :
    A3 v62 v66 v67 (ix3 g s l) * x + U3 v31 v60 v62 v66 v67 (ix3 g s l) = lin a u c (8 * g.val + s.val) := by
  rw [H.step, hx, ← hk, lin_shift]

/-- The first group, from the carried state, is the recurrence on rows 0 to 7. -/
theorem Col.first (s : Fin 8) : A3 v62 v66 v67 (ix3 0 s l) * c + U3 v31 v60 v62 v66 v67 (ix3 0 s l) = lin a u c (8 * 0 + s.val) := by
  rw [H.step]
  show lin (sh a 0) (sh u 0) c s.val = _
  rw [Nat.mul_zero, Nat.zero_add]
  exact lin_congr rfl _ (fun k _ => congrArg a (Nat.zero_add k)) (fun k _ => congrArg u (Nat.zero_add k))

variable {v128 c}

variable (hc : v128 (ix2 0 l) = c)
include hc

/-- Group 0 holds the recurrence on rows 0 to 7. -/
theorem Col.G0 (s : Fin 8) : g0 v31 v60 v62 v66 v67 v128 (ix2 s l) = lin a u c (8 * 0 + s.val) :=
  (rd23 _ _ _ _ _ _ s l).trans ((congrArg (fun x => A3 v62 v66 v67 (ix3 0 s l) * x + U3 v31 v60 v62 v66 v67 (ix3 0 s l)) hc).trans (H.first c s))
/-- Group 1 holds the recurrence on rows 8 to 15. -/
theorem Col.G1 (s : Fin 8) : g1 v31 v60 v62 v66 v67 v128 (ix2 s l) = lin a u c (8 * 1 + s.val) :=
  (rd24 _ _ _ _ _ _ s l).trans (H.next c 1 s _ 7 rfl (H.G0 hc 7))
/-- Group 2 holds the recurrence on rows 16 to 23. -/
theorem Col.G2 (s : Fin 8) : g2 v31 v60 v62 v66 v67 v128 (ix2 s l) = lin a u c (8 * 2 + s.val) :=
  (rd25 _ _ _ _ _ _ s l).trans (H.next c 2 s _ 15 rfl (H.G1 hc 7))
/-- Group 3 holds the recurrence on rows 24 to 31. -/
theorem Col.G3 (s : Fin 8) : g3 v31 v60 v62 v66 v67 v128 (ix2 s l) = lin a u c (8 * 3 + s.val) :=
  (rd26 _ _ _ _ _ _ s l).trans (H.next c 3 s _ 23 rfl (H.G2 hc 7))
/-- Group 4 holds the recurrence on rows 32 to 39. -/
theorem Col.G4 (s : Fin 8) : g4 v31 v60 v62 v66 v67 v128 (ix2 s l) = lin a u c (8 * 4 + s.val) :=
  (rd28 _ _ s l).trans ((congrArg (· + U3 v31 v60 v62 v66 v67 (ix3 4 s l)) (rd27 _ _ _ _ _ _ s l)).trans (H.next c 4 s _ 31 rfl (H.G3 hc 7)))
/-- Group 5 holds the recurrence on rows 40 to 47. -/
theorem Col.G5 (s : Fin 8) : g5 v31 v60 v62 v66 v67 v128 (ix2 s l) = lin a u c (8 * 5 + s.val) :=
  (rd29 _ _ _ s l).trans (H.next c 5 s _ 39 rfl (H.G4 hc 7))
/-- Group 6 holds the recurrence on rows 48 to 55. -/
theorem Col.G6 (s : Fin 8) : g6 v31 v60 v62 v66 v67 v128 (ix2 s l) = lin a u c (8 * 6 + s.val) :=
  (rd30 _ _ _ s l).trans (H.next c 6 s _ 47 rfl (H.G5 hc 7))
/-- Group 7 holds the recurrence on rows 56 to 63. -/
theorem Col.G7 (s : Fin 8) : g7 v31 v60 v62 v66 v67 v128 (ix2 s l) = lin a u c (8 * 7 + s.val) :=
  (rd31 _ _ _ s l).trans (H.next c 7 s _ 55 rfl (H.G6 hc 7))
/-- Group 8 holds the recurrence on rows 64 to 71. -/
theorem Col.G8 (s : Fin 8) : g8 v31 v60 v62 v66 v67 v128 (ix2 s l) = lin a u c (8 * 8 + s.val) :=
  (rd32 _ _ _ s l).trans (H.next c 8 s _ 63 rfl (H.G7 hc 7))
/-- Group 9 holds the recurrence on rows 72 to 79. -/
theorem Col.G9 (s : Fin 8) : g9 v31 v60 v62 v66 v67 v128 (ix2 s l) = lin a u c (8 * 9 + s.val) :=
  (rd33 _ _ _ s l).trans (H.next c 9 s _ 71 rfl (H.G8 hc 7))
/-- Group 10 holds the recurrence on rows 80 to 87. -/
theorem Col.G10 (s : Fin 8) : g10 v31 v60 v62 v66 v67 v128 (ix2 s l) = lin a u c (8 * 10 + s.val) :=
  (rd34 _ _ _ s l).trans (H.next c 10 s _ 79 rfl (H.G9 hc 7))
/-- Group 11 holds the recurrence on rows 88 to 95. -/
theorem Col.G11 (s : Fin 8) : g11 v31 v60 v62 v66 v67 v128 (ix2 s l) = lin a u c (8 * 11 + s.val) :=
  (rd35 _ _ _ s l).trans (H.next c 11 s _ 87 rfl (H.G10 hc 7))
/-- Group 12 holds the recurrence on rows 96 to 103. -/
theorem Col.G12 (s : Fin 8) : g12 v31 v60 v62 v66 v67 v128 (ix2 s l) = lin a u c (8 * 12 + s.val) :=
  (rd37 _ _ _ s l).trans (H.next c 12 s _ 95 rfl ((rd36 _ _ _ l).trans (H.G11 hc 7)))
/-- Group 13 holds the recurrence on rows 104 to 111. -/
theorem Col.G13 (s : Fin 8) : g13 v31 v60 v62 v66 v67 v128 (ix2 s l) = lin a u c (8 * 13 + s.val) :=
  (rd38 _ _ _ s l).trans (H.next c 13 s _ 103 rfl (H.G12 hc 7))
/-- Group 14 holds the recurrence on rows 112 to 119. -/
theorem Col.G14 (s : Fin 8) : g14 v31 v60 v62 v66 v67 v128 (ix2 s l) = lin a u c (8 * 14 + s.val) :=
  (rd39 _ _ _ s l).trans (H.next c 14 s _ 111 rfl (H.G13 hc 7))
/-- Group 15 holds the recurrence on rows 120 to 127. -/
theorem Col.G15 (s : Fin 8) : g15 v31 v60 v62 v66 v67 v128 (ix2 s l) = lin a u c (8 * 15 + s.val) :=
  (rd40 _ _ _ s l).trans (H.next c 15 s _ 119 rfl (H.G14 hc 7))
/-- Group 16 holds the recurrence on rows 128 to 135. -/
theorem Col.G16 (s : Fin 8) : g16 v31 v60 v62 v66 v67 v128 (ix2 s l) = lin a u c (8 * 16 + s.val) :=
  (rd41 _ _ _ s l).trans (H.next c 16 s _ 127 rfl (H.G15 hc 7))
/-- Group 17 holds the recurrence on rows 136 to 143. -/
theorem Col.G17 (s : Fin 8) : g17 v31 v60 v62 v66 v67 v128 (ix2 s l) = lin a u c (8 * 17 + s.val) :=
  (rd42 _ _ _ s l).trans (H.next c 17 s _ 135 rfl (H.G16 hc 7))
/-- Group 18 holds the recurrence on rows 144 to 151. -/
theorem Col.G18 (s : Fin 8) : g18 v31 v60 v62 v66 v67 v128 (ix2 s l) = lin a u c (8 * 18 + s.val) :=
  (rd43 _ _ _ s l).trans (H.next c 18 s _ 143 rfl (H.G17 hc 7))
/-- Group 19 holds the recurrence on rows 152 to 159. -/
theorem Col.G19 (s : Fin 8) : g19 v31 v60 v62 v66 v67 v128 (ix2 s l) = lin a u c (8 * 19 + s.val) :=
  (rd45 _ _ s l).trans ((congrArg (· + U3 v31 v60 v62 v66 v67 (ix3 19 s l)) (rd44 _ _ _ s l)).trans (H.next c 19 s _ 151 rfl (H.G18 hc 7)))
/-- Group 20 holds the recurrence on rows 160 to 167. -/
theorem Col.G20 (s : Fin 8) : g20 v31 v60 v62 v66 v67 v128 (ix2 s l) = lin a u c (8 * 20 + s.val) :=
  (rd46 _ _ _ s l).trans (H.next c 20 s _ 159 rfl (H.G19 hc 7))
/-- Group 21 holds the recurrence on rows 168 to 175. -/
theorem Col.G21 (s : Fin 8) : g21 v31 v60 v62 v66 v67 v128 (ix2 s l) = lin a u c (8 * 21 + s.val) :=
  (rd47 _ _ _ s l).trans (H.next c 21 s _ 167 rfl (H.G20 hc 7))
/-- Group 22 holds the recurrence on rows 176 to 183. -/
theorem Col.G22 (s : Fin 8) : g22 v31 v60 v62 v66 v67 v128 (ix2 s l) = lin a u c (8 * 22 + s.val) :=
  (rd48 _ _ _ s l).trans (H.next c 22 s _ 175 rfl (H.G21 hc 7))
/-- Group 23 holds the recurrence on rows 184 to 191. -/
theorem Col.G23 (s : Fin 8) : g23 v31 v60 v62 v66 v67 v128 (ix2 s l) = lin a u c (8 * 23 + s.val) :=
  (rd49 _ _ _ s l).trans (H.next c 23 s _ 183 rfl (H.G22 hc 7))
/-- Group 24 holds the recurrence on rows 192 to 199. -/
theorem Col.G24 (s : Fin 8) : g24 v31 v60 v62 v66 v67 v128 (ix2 s l) = lin a u c (8 * 24 + s.val) :=
  (rd50 _ _ _ s l).trans (H.next c 24 s _ 191 rfl (H.G23 hc 7))
/-- Group 25 holds the recurrence on rows 200 to 207. -/
theorem Col.G25 (s : Fin 8) : g25 v31 v60 v62 v66 v67 v128 (ix2 s l) = lin a u c (8 * 25 + s.val) :=
  (rd51 _ _ _ s l).trans (H.next c 25 s _ 199 rfl (H.G24 hc 7))
/-- Group 26 holds the recurrence on rows 208 to 215. -/
theorem Col.G26 (s : Fin 8) : g26 v31 v60 v62 v66 v67 v128 (ix2 s l) = lin a u c (8 * 26 + s.val) :=
  (rd52 _ _ _ s l).trans (H.next c 26 s _ 207 rfl (H.G25 hc 7))
/-- Group 27 holds the recurrence on rows 216 to 223. -/
theorem Col.G27 (s : Fin 8) : g27 v31 v60 v62 v66 v67 v128 (ix2 s l) = lin a u c (8 * 27 + s.val) :=
  (rd54 _ _ _ s l).trans (H.next c 27 s _ 215 rfl ((rd53 _ _ _ l).trans (H.G26 hc 7)))
/-- Group 28 holds the recurrence on rows 224 to 231. -/
theorem Col.G28 (s : Fin 8) : g28 v31 v60 v62 v66 v67 v128 (ix2 s l) = lin a u c (8 * 28 + s.val) :=
  (rd55 _ _ _ s l).trans (H.next c 28 s _ 223 rfl (H.G27 hc 7))
/-- Group 29 holds the recurrence on rows 232 to 239. -/
theorem Col.G29 (s : Fin 8) : g29 v31 v60 v62 v66 v67 v128 (ix2 s l) = lin a u c (8 * 29 + s.val) :=
  (rd56 _ _ _ s l).trans (H.next c 29 s _ 231 rfl (H.G28 hc 7))
/-- Group 30 holds the recurrence on rows 240 to 247. -/
theorem Col.G30 (s : Fin 8) : g30 v31 v60 v62 v66 v67 v128 (ix2 s l) = lin a u c (8 * 30 + s.val) :=
  (rd57 _ _ _ s l).trans (H.next c 30 s _ 239 rfl (H.G29 hc 7))
/-- Group 31 holds the recurrence on rows 248 to 255. -/
theorem Col.G31 (s : Fin 8) : g31 v31 v60 v62 v66 v67 v128 (ix2 s l) = lin a u c (8 * 31 + s.val) :=
  (rd58 _ _ _ s l).trans (H.next c 31 s _ 247 rfl (H.G30 hc 7))

/-- Every frame of the block holds the recurrence's value. -/
theorem Col.out (r : Fin 256) : scanOut v31 v60 v62 v66 v67 v128 (ix2 r l) = lin a u c r.val := by
  obtain ⟨n, s, rfl⟩ : ∃ (n : Fin 32) (s : Fin 8), r = (⟨8 * n.val + s.val, by omega⟩ : Fin 256) :=
    ⟨⟨r.val / 8, by omega⟩, ⟨r.val % 8, by omega⟩, Fin.ext (by show r.val = 8 * (r.val / 8) + r.val % 8; omega)⟩
  refine (rd60 _ _ _ s l _ _ _ _ _ _ _ _ _ _ _ _ _ _ _ _ _ _ _ _ _ _ _ _ _ _ _ n).trans ?_
  fin_cases n
  · exact H.G0 hc s
  · exact H.G1 hc s
  · exact H.G2 hc s
  · exact H.G3 hc s
  · exact H.G4 hc s
  · exact H.G5 hc s
  · exact H.G6 hc s
  · exact H.G7 hc s
  · exact H.G8 hc s
  · exact H.G9 hc s
  · exact H.G10 hc s
  · exact H.G11 hc s
  · exact H.G12 hc s
  · exact H.G13 hc s
  · exact H.G14 hc s
  · exact H.G15 hc s
  · exact H.G16 hc s
  · exact H.G17 hc s
  · exact H.G18 hc s
  · exact H.G19 hc s
  · exact H.G20 hc s
  · exact H.G21 hc s
  · exact H.G22 hc s
  · exact H.G23 hc s
  · exact H.G24 hc s
  · exact H.G25 hc s
  · exact H.G26 hc s
  · exact H.G27 hc s
  · exact H.G28 hc s
  · exact H.G29 hc s
  · exact H.G30 hc s
  · exact H.G31 hc s

/-- The row handed on is the recurrence's value at the block's last frame. -/
theorem Col.carry : scanCarry v31 v60 v62 v66 v67 v128 (ix2 0 l) = lin a u c 255 :=
  (rd59 _ _ _ l).trans (H.G31 hc 7)

end Column

end Cert.KernelIdeal.LruScan

end
-- ==== Proof.LruSpec.lean ====
/-
  The RG-LRU layer in closed form over the extended reals: the causal convolution of four taps, the two gates, the
  decay and the scaled input of the recurrence, each as a function of the frame `n` and the channel `l`, and the
  arithmetic facts about them that both programs need.
-/
module

public import proofs.«01_k».proof.Proof.LruScan

@[expose] public section

set_option maxRecDepth 16384

noncomputable section

open Idealize.ShloMosaic

namespace Cert.KernelIdeal.LruSpec

open Cert.KernelIdeal.LruScan

/-- The frame `k` places before frame `n`, zero before the first frame. -/
def back (x : ℕ → Fin 512 → EReal) (k n : ℕ) (l : Fin 512) : EReal := if k ≤ n then x (n - k) l else 0

/-- The causal convolution of four taps with its bias. -/
def cv (w : Fin 4 → Fin 512 → EReal) (cb : Fin 512 → EReal) (x : ℕ → Fin 512 → EReal) (n : ℕ) (l : Fin 512) : EReal :=
  cb l + w 3 l * back x 0 n l + w 2 l * back x 1 n l + w 1 l * back x 2 n l + w 0 l * back x 3 n l

/-- A gate before its nonlinearity: the block of 64 channels of `l` against the gate's weights, and the bias. -/
def pre (g : Fin 8 → Fin 64 → Fin 64 → EReal) (b : Fin 512 → EReal) (v : Fin 512 → EReal) (l : Fin 512) : EReal :=
  ∑ k : Fin 64, v ⟨l.val / 64 * 64 + k.val, by omega⟩ * g ⟨l.val / 64, by omega⟩ k ⟨l.val % 64, by omega⟩ + b l

/-- The logistic function. -/
def sg (p : EReal) : EReal := Ideal.div 1 (1 + Ideal.exp (-p))

/-- The softplus of `-lam`. -/
def sp (lam : EReal) : EReal := max (-lam) 0 + Ideal.log (1 + Ideal.exp (-(max (-lam) (- -lam))))

/-- The logarithm of the decay. -/
def la (r lam : EReal) : EReal := Ideal.ofBits FTy.f32 3238002688#32 * r * sp lam

/-- The word of `-8`. -/
theorem neg8 : Ideal.ofBits FTy.f32 3238002688#32 = ((-8 : ℝ) : EReal) := by
  simp [Ideal.ofBits, Ideal.ieee]
  rw [← EReal.coe_mul]
  norm_num

/-- The word of `2`. -/
theorem two : Ideal.ofBits FTy.f32 1073741824#32 = ((2 : ℝ) : EReal) := by
  simp [Ideal.ofBits, Ideal.ieee]
  rw [← EReal.coe_mul]
  norm_num

/-- The exponential is nonnegative. -/
theorem exp_nn (x : EReal) : 0 ≤ Ideal.exp x := by
  induction x with
  | bot => exact le_refl _
  | top => exact le_top
  | coe r => exact EReal.coe_nonneg.mpr (Real.exp_pos r).le

/-- The exponential of a nonpositive number is below infinity. -/
theorem exp_nt {x : EReal} (h : x ≤ 0) : Ideal.exp x ≠ ⊤ := by
  induction x with
  | bot => exact EReal.zero_ne_top
  | top => simp at h
  | coe r => exact EReal.coe_ne_top _

/-- The exponential of a doubled nonpositive number is the square of the exponential. -/
theorem exp_two {x : EReal} (h : x ≤ 0) : Ideal.exp (((2 : ℝ) : EReal) * x) = Ideal.exp x * Ideal.exp x := by
  induction x with
  | bot =>
    rw [EReal.coe_mul_bot_of_pos (by norm_num)]
    show (0 : EReal) = 0 * 0
    simp
  | top => simp at h
  | coe r =>
    rw [← EReal.coe_mul]
    show ((Real.exp (2 * r) : ℝ) : EReal) = (Real.exp r : ℝ) * (Real.exp r : ℝ)
    rw [← EReal.coe_mul, two_mul, Real.exp_add]

/-- The logistic function is nonnegative. -/
theorem sg_nn (p : EReal) : 0 ≤ sg p := by
  have h : (0 : EReal) < 1 + Ideal.exp (-p) :=
    lt_of_lt_of_le zero_lt_one (by simpa using add_le_add (le_refl (1 : EReal)) (exp_nn (-p)))
  unfold sg Ideal.div
  rw [if_neg h.ne', one_mul]
  exact EReal.inv_nonneg_of_nonneg h.le

/-- The logarithm of a number that is at least one is nonnegative. -/
theorem log_nn {x : EReal} (h : 1 ≤ x) : 0 ≤ Ideal.log x := by
  induction x with
  | bot => exact absurd (le_bot_iff.mp h) (by exact EReal.coe_ne_bot 1)
  | top => exact le_top
  | coe r =>
    have h1 : (1 : ℝ) ≤ r := by exact_mod_cast h
    show (0 : EReal) ≤ if r ≤ 0 then ⊥ else (Real.log r : EReal)
    rw [if_neg (by linarith)]
    exact EReal.coe_nonneg.mpr (Real.log_nonneg h1)

/-- The softplus is nonnegative. -/
theorem sp_nn (lam : EReal) : 0 ≤ sp lam :=
  add_nonneg (le_max_right _ _) (log_nn (by simpa using add_le_add (le_refl (1 : EReal)) (exp_nn _)))

/-- The logarithm of the decay is nonpositive. -/
theorem la_np {r : EReal} (lam : EReal) (h : 0 ≤ r) : la r lam ≤ 0 := by
  unfold la
  rw [neg8, mul_assoc, EReal.coe_neg, EReal.neg_mul]
  rw [EReal.neg_le, neg_zero]
  exact mul_nonneg (EReal.coe_nonneg.mpr (by norm_num)) (mul_nonneg h (sp_nn lam))

/-- One less a doubled exponential, as the reference writes it, is one less the square. -/
theorem expm1_two {x : EReal} (h : x ≤ 0) :
    -(Ideal.exp (Ideal.ofBits FTy.f32 1073741824#32 * x) - 1) = 1 - Ideal.exp x * Ideal.exp x := by
  rw [two, exp_two h, EReal.neg_sub (Or.inr (by exact EReal.coe_ne_bot 1)) (Or.inr (by exact EReal.coe_ne_top 1)), sub_eq_add_neg, add_comm]

/-- The decay at a frame and a channel. -/
def av (lam : Fin 512 → EReal) (wr : Fin 8 → Fin 64 → Fin 64 → EReal) (br : Fin 512 → EReal) (v : ℕ → Fin 512 → EReal)
    (l : Fin 512) (n : ℕ) : EReal := Ideal.exp (la (sg (pre wr br (v n) l)) (lam l))

/-- The scaled input of the recurrence at a frame and a channel. -/
def uv (lam : Fin 512 → EReal) (wr : Fin 8 → Fin 64 → Fin 64 → EReal) (br : Fin 512 → EReal)
    (wi : Fin 8 → Fin 64 → Fin 64 → EReal) (bi : Fin 512 → EReal) (v : ℕ → Fin 512 → EReal) (l : Fin 512) (n : ℕ) : EReal :=
  Ideal.sqrt (1 - av lam wr br v l n * av lam wr br v l n) * (sg (pre wi bi (v n) l) * v n l)

/-- The decay is nonnegative. -/
theorem av_nn (lam : Fin 512 → EReal) (wr : Fin 8 → Fin 64 → Fin 64 → EReal) (br : Fin 512 → EReal) (v : ℕ → Fin 512 → EReal)
    (l : Fin 512) (n : ℕ) : 0 ≤ av lam wr br v l n := exp_nn _

/-- The decay is below infinity. -/
theorem av_nt (lam : Fin 512 → EReal) (wr : Fin 8 → Fin 64 → Fin 64 → EReal) (br : Fin 512 → EReal) (v : ℕ → Fin 512 → EReal)
    (l : Fin 512) (n : ℕ) : av lam wr br v l n ≠ ⊤ := exp_nt (la_np _ (sg_nn _))

/-- The GELU by the hyperbolic tangent. -/
def ge (y : EReal) : EReal :=
  y * (Ideal.ofBits FTy.f32 1056964608#32 *
    (1 + Ideal.tanh (Ideal.ofBits FTy.f32 1061962282#32 * (y + Ideal.ofBits FTy.f32 1027024659#32 * (y * (y * y))))))

/-! ## The layer on arrays -/

section Arrays

open Cert.KernelIdeal

variable (x : FVec Ideal S4x8192x1024 .f32) (w : FVec Ideal S4x512 .f32) (cb : FVec Ideal S512 .f32) (wr : FVec Ideal S8x64x64 .f32)
  (br : FVec Ideal S512 .f32) (wi : FVec Ideal S8x64x64 .f32) (bi lam : FVec Ideal S512 .f32)

/-- The recurrence half of the projection, batch `b`, by frame and channel; zero past the last frame. -/
def xs (b : Fin 4) (n : ℕ) (l : Fin 512) : EReal := if h : n < 8192 then x (ix3 b ⟨n, h⟩ ⟨l.val, by omega⟩) else 0

/-- The convolution of batch `b`. -/
def cvs (b : Fin 4) : ℕ → Fin 512 → EReal := cv (fun k l => w (ix2 k l)) (fun l => cb (ix1 l)) (xs x b)

/-- The decay of batch `b` at a channel. -/
def avs (b : Fin 4) (l : Fin 512) : ℕ → EReal :=
  av (fun l => lam (ix1 l)) (fun q k o => wr (ix3 q k o)) (fun l => br (ix1 l)) (cvs x w cb b) l

/-- The scaled input of batch `b` at a channel. -/
def uvs (b : Fin 4) (l : Fin 512) : ℕ → EReal :=
  uv (fun l => lam (ix1 l)) (fun q k o => wr (ix3 q k o)) (fun l => br (ix1 l)) (fun q k o => wi (ix3 q k o)) (fun l => bi (ix1 l)) (cvs x w cb b) l

/-- The recurrence of batch `b` at a channel. -/
def hs (b : Fin 4) (l : Fin 512) : ℕ → EReal := lin (avs x w cb wr br lam b l) (uvs x w cb wr br wi bi lam b l) 0

/-- The layer's output at a frame and a channel. -/
def layer (b : Fin 4) (n : Fin 8192) (l : Fin 512) : EReal :=
  hs x w cb wr br wi bi lam b l n.val * ge (x (ix3 b n ⟨512 + l.val, by omega⟩))

end Arrays

end Cert.KernelIdeal.LruSpec
end
-- ==== Proof.LruBody.lean ====
/-
  One grid point of the RG-LRU kernel. The body's stores are read back into named terms over the blocks it loads: the
  three shifted reads of the buffer of frames, the convolution, the gates, the scan and the product with the GELU.
-/
module

public import proofs.«01_k».proof.Proof.LruSpec
public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.Pipeline.Value

@[expose] public section

set_option maxRecDepth 16384

noncomputable section

open Idealize.ShloMosaic Idealize.ShloMosaic.TcCoe

namespace Cert.KernelIdeal.LruBody

open Cert.KernelIdeal Cert.KernelIdeal.Gen Cert.KernelIdeal.LruScan

section Terms

variable {F : FTy → Type} [FloatOps F]

/-- The pieces stored over what the buffer of frames held: the block at rows 8 to 263. -/
def pB (x0 : Vec F S1x256x512 .f32) : List (View.Piece (Elt F) S264x512 .f32) :=
  [⟨Rect.unit ![8, 0] ![256, 512] inb_S264x512_S256x512_8_0, k0_pay4 x0⟩]

/-- The pieces stored at a first point: zeros at rows 0 to 7 and the block at rows 8 to 263. -/
def pA (x0 : Vec F S1x256x512 .f32) : List (View.Piece (Elt F) S264x512 .f32) :=
  [⟨Rect.unit ![8, 0] ![256, 512] inb_S264x512_S256x512_8_0, k0_pay4 x0⟩, ⟨Rect.unit ![0, 0] ![8, 512] inb_S264x512_S8x512_0_0, k0_pay2⟩]

/-- What the buffer of frames holds at the end: the block's last eight rows moved to the front. -/
def pEnd (x0 : Vec F S1x256x512 .f32) (L : List (View.Piece (Elt F) S264x512 .f32)) : Vec F S264x512 .f32 :=
  View.canon (⟨Rect.unit ![0, 0] ![8, 512] inb_S264x512_S8x512_0_0, k0_pay8 (View.ld x0 (Rect.unit ![0, 248, 0] ![1, 8, 512] inb_S1x256x512_S1x8x512_0_248_0))⟩ :: L)

/-- 256 rows of the buffer of frames from row `k` on, after stores over known contents. -/
def rdB (v : Memref sig .tc .vmem S264x512 .f32) (f : v.view.ty.Contents (Elt F)) (L : List (View.Piece (Elt F) S264x512 .f32)) (k : ℕ)
    (inb : ∀ a, (![k, 0] : Fin 2 → ℕ) a + (![256, 512] : Fin 2 → ℕ) a ≤ S264x512.size a) : Vec F S256x512 .f32 :=
  View.ld (View.read (Elt F) v.view (v.view.writes (Elt F) f L)) (Rect.unit (s := S264x512) ![k, 0] ![256, 512] inb)

/-- 256 rows of the buffer of frames from row `k` on, after stores that cover them. -/
def rdA (v : Memref sig .tc .vmem S264x512 .f32) (L : List (View.Piece (Elt F) S264x512 .f32)) (k : ℕ)
    (inb : ∀ a, (![k, 0] : Fin 2 → ℕ) a + (![256, 512] : Fin 2 → ℕ) a ≤ S264x512.size a) : Vec F S256x512 .f32 :=
  v.view.readCov L (Rect.unit (s := S264x512) ![k, 0] ![256, 512] inb).toLoadRect

variable (x0 x1 : Vec F S1x256x512 .f32) (x2 : Vec F S4x512 .f32) (x3 : Vec F S1x512 .f32) (x4 : Vec F S512x1024 .bf16) (x5 : Vec F S1x1024 .f32)
  (x6 : Vec F S1x512 .f32) (z7 z6 z5 : Vec F S256x512 .f32) (h : Vec F S1x512 .f32)

/-- The convolution but its last tap. -/
def c26 : Vec F S256x512 .f32 :=
  k0_pay5 x3 (View.ld x2 (Rect.unit ![3, 0] ![1, 512] inb_S4x512_S1x512_3_0)) x0 (View.ld x2 (Rect.unit ![2, 0] ![1, 512] inb_S4x512_S1x512_2_0)) z7
    (View.ld x2 (Rect.unit ![1, 0] ![1, 512] inb_S4x512_S1x512_1_0)) z6

/-- The last tap's weights. -/
def c29 : Vec F S256x512 .f32 := k0_pay6 (View.ld x2 (Rect.unit ![0, 0] ![1, 512] inb_S4x512_S1x512_0_0))

/-- The convolution of the block. -/
def c31 : Vec F S256x512 .f32 := k0_pay7 (c26 x0 x2 x3 z7 z6) z5 (c29 x2)

/-- The input gate of the block. -/
def c60 : Vec F S256x512 .f32 := k0_pay10 (c26 x0 x2 x3 z7 z6) z5 (c29 x2) x4 x5

/-- Minus eight times the recurrence gate of the block. -/
def c62 : Vec F S256x512 .f32 := k0_pay11 (c26 x0 x2 x3 z7 z6) z5 (c29 x2) x4 x5

/-- The block of the output. -/
def blockOut : Vec F S1x256x512 .bf16 :=
  k0_pay1 (scanOut (c31 x0 x2 x3 z7 z6 z5) (c60 x0 x2 x3 x4 x5 z7 z6 z5) (c62 x0 x2 x3 x4 x5 z7 z6 z5) (k0_pay12 x6) k0_pay13 h) (k0_pay61 x1) (k0_pay62 x1) k0_pay63

/-- The state the block hands on. -/
def blockCarry : Vec F S1x512 .f32 :=
  scanCarry (c31 x0 x2 x3 z7 z6 z5) (c60 x0 x2 x3 x4 x5 z7 z6 z5) (c62 x0 x2 x3 x4 x5 z7 z6 z5) (k0_pay12 x6) k0_pay13 h

end Terms

section Points

variable {F : FTy → Type} [FloatOps F]

set_option maxHeartbeats 2000000 in
/-- The output at a later point of a batch. -/
theorem out_B (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x512 .f32) (harg8 : arg8.IsWhole) (arg9 : Memref sig .tc .vmem S1x256x512 .bf16) (harg9 : arg9.IsWhole) (arg10 : Memref sig .tc .vmem S264x512 .f32) (harg10 : arg10.IsWhole) (arg11 : Memref sig .tc .vmem S1x512 .f32) (harg11 : arg11.IsWhole) (hc0 : ¬cond0_0 i)
    (x0 : Vec F S1x256x512 .f32) (x1 : Vec F S1x256x512 .f32) (x2 : Vec F S4x512 .f32) (x3 : Vec F S1x512 .f32) (x4 : Vec F S512x1024 .bf16) (x5 : Vec F S1x1024 .f32) (x6 : Vec F S1x512 .f32) (xs0 : Vec F S264x512 .f32) (xs1 : Vec F S1x512 .f32) :
    out0_B_7 c i arg2 harg2 arg3 harg3 arg4 harg4 arg5 harg5 arg6 harg6 arg7 harg7 arg8 harg8 arg9 harg9 arg10 harg10 arg11 harg11 hc0 x0 x1 x2 x3 x4 x5 x6 xs0 xs1
    = blockOut x0 x1 x2 x3 x4 x5 x6 (rdB arg10 (harg10.unread xs0) (pB x0) 7 inb_S264x512_S256x512_7_0) (rdB arg10 (harg10.unread xs0) (pB x0) 6 inb_S264x512_S256x512_6_0) (rdB arg10 (harg10.unread xs0) (pB x0) 5 inb_S264x512_S256x512_5_0) xs1 := by
  frame_out
  rfl

set_option maxHeartbeats 2000000 in
/-- The output at the first point of a batch. -/
theorem out_A (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x512 .f32) (harg8 : arg8.IsWhole) (arg9 : Memref sig .tc .vmem S1x256x512 .bf16) (harg9 : arg9.IsWhole) (arg10 : Memref sig .tc .vmem S264x512 .f32) (harg10 : arg10.IsWhole) (arg11 : Memref sig .tc .vmem S1x512 .f32) (harg11 : arg11.IsWhole) (hc0 : cond0_0 i)
    (x0 : Vec F S1x256x512 .f32) (x1 : Vec F S1x256x512 .f32) (x2 : Vec F S4x512 .f32) (x3 : Vec F S1x512 .f32) (x4 : Vec F S512x1024 .bf16) (x5 : Vec F S1x1024 .f32) (x6 : Vec F S1x512 .f32) :
    out0_A_7 c i arg2 harg2 arg3 harg3 arg4 harg4 arg5 harg5 arg6 harg6 arg7 harg7 arg8 harg8 arg9 harg9 arg10 harg10 arg11 harg11 hc0 x0 x1 x2 x3 x4 x5 x6
    = blockOut x0 x1 x2 x3 x4 x5 x6 (rdA arg10 (pA x0) 7 inb_S264x512_S256x512_7_0) (rdA arg10 (pA x0) 6 inb_S264x512_S256x512_6_0) (rdA arg10 (pA x0) 5 inb_S264x512_S256x512_5_0) k0_pay3 := by
  frame_out
  rfl

set_option maxHeartbeats 2000000 in
/-- The state handed on at a later point of a batch. -/
theorem carry_B (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x512 .f32) (harg8 : arg8.IsWhole) (arg9 : Memref sig .tc .vmem S1x256x512 .bf16) (harg9 : arg9.IsWhole) (arg10 : Memref sig .tc .vmem S264x512 .f32) (harg10 : arg10.IsWhole) (arg11 : Memref sig .tc .vmem S1x512 .f32) (harg11 : arg11.IsWhole) (hc0 : ¬cond0_0 i)
    (x0 : Vec F S1x256x512 .f32) (x1 : Vec F S1x256x512 .f32) (x2 : Vec F S4x512 .f32) (x3 : Vec F S1x512 .f32) (x4 : Vec F S512x1024 .bf16) (x5 : Vec F S1x1024 .f32) (x6 : Vec F S1x512 .f32) (xs0 : Vec F S264x512 .f32) (xs1 : Vec F S1x512 .f32) :
    sout0_B_1 c i arg2 harg2 arg3 harg3 arg4 harg4 arg5 harg5 arg6 harg6 arg7 harg7 arg8 harg8 arg9 harg9 arg10 harg10 arg11 harg11 hc0 x0 x1 x2 x3 x4 x5 x6 xs0 xs1
    = blockCarry x0 x2 x3 x4 x5 x6 (rdB arg10 (harg10.unread xs0) (pB x0) 7 inb_S264x512_S256x512_7_0) (rdB arg10 (harg10.unread xs0) (pB x0) 6 inb_S264x512_S256x512_6_0) (rdB arg10 (harg10.unread xs0) (pB x0) 5 inb_S264x512_S256x512_5_0) xs1 := by
  frame_out
  rfl

set_option maxHeartbeats 2000000 in
/-- The state handed on at the first point of a batch. -/
theorem carry_A (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x512 .f32) (harg8 : arg8.IsWhole) (arg9 : Memref sig .tc .vmem S1x256x512 .bf16) (harg9 : arg9.IsWhole) (arg10 : Memref sig .tc .vmem S264x512 .f32) (harg10 : arg10.IsWhole) (arg11 : Memref sig .tc .vmem S1x512 .f32) (harg11 : arg11.IsWhole) (hc0 : cond0_0 i)
    (x0 : Vec F S1x256x512 .f32) (x1 : Vec F S1x256x512 .f32) (x2 : Vec F S4x512 .f32) (x3 : Vec F S1x512 .f32) (x4 : Vec F S512x1024 .bf16) (x5 : Vec F S1x1024 .f32) (x6 : Vec F S1x512 .f32) :
    sout0_A_1 c i arg2 harg2 arg3 harg3 arg4 harg4 arg5 harg5 arg6 harg6 arg7 harg7 arg8 harg8 arg9 harg9 arg10 harg10 arg11 harg11 hc0 x0 x1 x2 x3 x4 x5 x6
    = blockCarry x0 x2 x3 x4 x5 x6 (rdA arg10 (pA x0) 7 inb_S264x512_S256x512_7_0) (rdA arg10 (pA x0) 6 inb_S264x512_S256x512_6_0) (rdA arg10 (pA x0) 5 inb_S264x512_S256x512_5_0) k0_pay3 := by
  frame_out
  rfl

set_option maxHeartbeats 2000000 in
/-- The buffer of frames after a later point. -/
theorem buf_B (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x512 .f32) (harg8 : arg8.IsWhole) (arg9 : Memref sig .tc .vmem S1x256x512 .bf16) (harg9 : arg9.IsWhole) (arg10 : Memref sig .tc .vmem S264x512 .f32) (harg10 : arg10.IsWhole) (arg11 : Memref sig .tc .vmem S1x512 .f32) (harg11 : arg11.IsWhole) (hc0 : ¬cond0_0 i)
    (x0 : Vec F S1x256x512 .f32) (x1 : Vec F S1x256x512 .f32) (x2 : Vec F S4x512 .f32) (x3 : Vec F S1x512 .f32) (x4 : Vec F S512x1024 .bf16) (x5 : Vec F S1x1024 .f32) (x6 : Vec F S1x512 .f32) (xs0 : Vec F S264x512 .f32) (xs1 : Vec F S1x512 .f32) :
    sout0_B_0 c i arg2 harg2 arg3 harg3 arg4 harg4 arg5 harg5 arg6 harg6 arg7 harg7 arg8 harg8 arg9 harg9 arg10 harg10 arg11 harg11 hc0 x0 x1 x2 x3 x4 x5 x6 xs0 xs1
    = pEnd x0 (pB x0) := by
  frame_out
  rfl

set_option maxHeartbeats 2000000 in
/-- The buffer of frames after the first point. -/
theorem buf_A (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x512 .f32) (harg8 : arg8.IsWhole) (arg9 : Memref sig .tc .vmem S1x256x512 .bf16) (harg9 : arg9.IsWhole) (arg10 : Memref sig .tc .vmem S264x512 .f32) (harg10 : arg10.IsWhole) (arg11 : Memref sig .tc .vmem S1x512 .f32) (harg11 : arg11.IsWhole) (hc0 : cond0_0 i)
    (x0 : Vec F S1x256x512 .f32) (x1 : Vec F S1x256x512 .f32) (x2 : Vec F S4x512 .f32) (x3 : Vec F S1x512 .f32) (x4 : Vec F S512x1024 .bf16) (x5 : Vec F S1x1024 .f32) (x6 : Vec F S1x512 .f32) :
    sout0_A_0 c i arg2 harg2 arg3 harg3 arg4 harg4 arg5 harg5 arg6 harg6 arg7 harg7 arg8 harg8 arg9 harg9 arg10 harg10 arg11 harg11 hc0 x0 x1 x2 x3 x4 x5 x6
    = pEnd x0 (pA x0) := by
  frame_out
  rfl

end Points

section Reads

variable (x0 : Vec Ideal S1x256x512 .f32)

/-- The block's payload at an index. -/
theorem pay4_at (r : Fin 256) (l : Fin 512) : k0_pay4 x0 (ix2 r l) = x0 (ix3 0 r l) := by
  unfold k0_pay4
  pointwise

/-- The zeros' payload at an index. -/
theorem pay2_at (r : Fin 8) (l : Fin 512) : (k0_pay2 (F := Ideal)) (ix2 r l) = 0 := by
  unfold k0_pay2
  pointwise

/-- A place of the block's rectangle. -/
theorem emb8 (q : Fin 264) (h : 8 ≤ q.val) (l : Fin 512) :
    (Rect.unit (s := S264x512) ![8, 0] ![256, 512] inb_S264x512_S256x512_8_0).emb (ix2 (⟨q.val - 8, by omega⟩ : Fin 256) l) = ix2 q l := by
  funext a
  fin_cases a
  · exact Fin.ext ((Rect.idx_unit_val _ _ _ _ 0).trans (by show 8 + (q.val - 8) = q.val; omega))
  · exact Fin.ext ((Rect.idx_unit_val _ _ _ _ 1).trans (by show 0 + l.val = l.val; omega))

/-- A place before the block's rectangle. -/
theorem not8 (q : Fin 264) (h : ¬8 ≤ q.val) (l : Fin 512) : (ix2 q l : S264x512.Idx) ∉ (Rect.unit (s := S264x512) ![8, 0] ![256, 512] inb_S264x512_S256x512_8_0).set := by
  rw [Rect.mem_set_unit]
  exact fun e => h (e 0).1

/-- A place of the first rows' rectangle. -/
theorem emb0 (q : Fin 264) (h : q.val < 8) (l : Fin 512) :
    (Rect.unit (s := S264x512) ![0, 0] ![8, 512] inb_S264x512_S8x512_0_0).emb (ix2 (⟨q.val, h⟩ : Fin 8) l) = ix2 q l := by
  funext a
  fin_cases a
  · exact Fin.ext ((Rect.idx_unit_val _ _ _ _ 0).trans (by show 0 + q.val = q.val; omega))
  · exact Fin.ext ((Rect.idx_unit_val _ _ _ _ 1).trans (by show 0 + l.val = l.val; omega))

/-- Row `k + r` read through the window of rows from `k` on. -/
theorem win_at (X : Vec Ideal S264x512 .f32) (k : ℕ) (hk : k ≤ 8)
    (inb : ∀ a, (![k, 0] : Fin 2 → ℕ) a + (![256, 512] : Fin 2 → ℕ) a ≤ S264x512.size a) (r : Fin 256) (l : Fin 512) :
    View.ld X (Rect.unit (s := S264x512) ![k, 0] ![256, 512] inb) (ix2 r l) = X (ix2 (⟨k + r.val, by omega⟩ : Fin 264) l) := by
  refine View.ld_unit_apply_of X _ _ inb _ _ fun a => ?_
  fin_cases a
  · rfl
  · show l.val = 0 + l.val
    omega

/-- The shifted read of the buffer at a later point: the block from row 8 on, before it the rows left by the point before. -/
theorem ld_B (arg10 : Memref sig .tc .vmem S264x512 .f32) (harg10 : arg10.IsWhole) (xs0 : Vec Ideal S264x512 .f32)
    (k : ℕ) (hk : k ≤ 8) (inb : ∀ a, (![k, 0] : Fin 2 → ℕ) a + (![256, 512] : Fin 2 → ℕ) a ≤ S264x512.size a) (r : Fin 256) (l : Fin 512) :
    rdB arg10 (harg10.unread xs0) (pB x0) k inb (ix2 r l)
    = if h : 8 ≤ k + r.val then x0 (ix3 0 ⟨k + r.val - 8, by omega⟩ l) else xs0 (ix2 ⟨k + r.val, by omega⟩ l) := by
  unfold rdB
  rw [win_at _ k hk]
  unfold pB
  by_cases h : 8 ≤ k + r.val
  · rw [dif_pos h, ← emb8 ⟨k + r.val, by omega⟩ h l, View.read_writes_cons_emb, pay4_at]
  · rw [dif_neg h, View.writes_cons, View.read_slice_write_of_not_mem _ _ _ _ (by rw [Rect.map_emb_univ]; exact not8 ⟨k + r.val, by omega⟩ h l), View.writes_nil, harg10.read_unread]

/-- The shifted read of the buffer at a first point: the block from row 8 on, before it zeros. -/
theorem ld_A (arg10 : Memref sig .tc .vmem S264x512 .f32)
    (k : ℕ) (hk : k ≤ 8) (inb : ∀ a, (![k, 0] : Fin 2 → ℕ) a + (![256, 512] : Fin 2 → ℕ) a ≤ S264x512.size a) (r : Fin 256) (l : Fin 512) :
    rdA arg10 (pA x0) k inb (ix2 r l)
    = if h : 8 ≤ k + r.val then x0 (ix3 0 ⟨k + r.val - 8, by omega⟩ l) else 0 := by
  unfold rdA
  rw [View.readCov_eq_canon']
  refine (win_at _ k hk inb r l).trans ?_
  unfold pA
  by_cases h : 8 ≤ k + r.val
  · rw [dif_pos h, ← emb8 ⟨k + r.val, by omega⟩ h l, View.canon_cons_emb, pay4_at]
  · rw [dif_neg h]
    have hq : k + r.val < 8 := by omega
    refine (View.canon_cons_of_not_mem (Val := Elt Ideal) (⟨Rect.unit ![8, 0] ![256, 512] inb_S264x512_S256x512_8_0, k0_pay4 x0⟩ : View.Piece (Elt Ideal) S264x512 .f32)
      _ (not8 ⟨k + r.val, by omega⟩ h l)).trans ?_
    rw [← emb0 ⟨k + r.val, by omega⟩ hq l, View.canon_cons_emb]
    exact pay2_at _ _

/-- The first eight rows of the buffer at the end are the block's last eight. -/
theorem end_at (L : List (View.Piece (Elt Ideal) S264x512 .f32)) (r : Fin 264) (hr : r.val < 8) (l : Fin 512) :
    pEnd x0 L (ix2 r l) = x0 (ix3 0 ⟨248 + r.val, by omega⟩ l) := by
  unfold pEnd
  rw [← emb0 r hr l, View.canon_cons_emb]
  unfold k0_pay8
  pointwise

end Reads

end Cert.KernelIdeal.LruBody

end
-- ==== Proof.LruHost.lean ====
/-
  What the RG-LRU kernel's host operations hand the grid: the two block-diagonal weight matrices side by side, the two
  biases side by side, and the sums over a block-diagonal column collapsed to its block.
-/
module

public import proofs.«01_k».proof.Proof.LruBody

@[expose] public section

set_option maxRecDepth 16384

noncomputable section

open Idealize.ShloMosaic Idealize.ShloMosaic.TcCoe Idealize.ShloMosaic.StableHlo

namespace Cert.KernelIdeal.LruHost

open Cert.KernelIdeal Cert.KernelIdeal.Gen Cert.KernelIdeal.LruSpec

variable (w w' : FVec Ideal S8x64x64 .f32) (b b' : FVec Ideal S512 .f32)

/-- The identity matrix of the eight blocks. -/
def kEye : FVec Ideal S8x8 .f32 :=
  uitofp .f32 (cmpi .eq (addi (iotaInDim S8x8 32 0) (broadcastInDim S8x8 ![] bcast_S_S8x8 (constantI S_ 32 0#32))) (iotaInDim S8x8 32 1))

/-- A gate's weights as a block-diagonal matrix. -/
def kBD : FVec Ideal S512x512 .f32 :=
  shapeCast S512x512 (mulf (broadcastInDim S8x64x8x64 ![0, 1, 2, 3] bcast_S8x64x1x64_S8x64x8x64_0_1_2_3 (broadcastInDim S8x64x1x64 ![0, 1, 3] bcast_S8x64x64_S8x64x1x64_0_1_3 w))
    (broadcastInDim S8x64x8x64 ![0, 1, 2, 3] bcast_S8x1x8x1_S8x64x8x64_0_1_2_3 (broadcastInDim S8x1x8x1 ![0, 2] bcast_S8x8_S8x1x8x1_0_2 kEye))) shapeCasts_S8x64x8x64_S512x512

/-- The two gates' matrices side by side. -/
def kWg : FVec Ideal S512x1024 .bf16 :=
  truncf .bf16 (concatenate S512x1024 1 [⟨S512x512, kBD w⟩, ⟨S512x512, kBD w'⟩] concatenates_S512x512_S512x512_S512x1024_d1) bitsLt_bf16_f32

/-- The two gates' biases side by side. -/
def kBg : FVec Ideal S1x1024 .f32 :=
  broadcastInDim S1x1024 ![1] bcast_S1024_S1x1024_1 (concatenate S1024 0 [⟨S512, b⟩, ⟨S512, b'⟩] concatenates_S512_S512_S1024_d0)

variable (m : (ℓ : Loc nD τ sig) → Buf (Elt Ideal) ℓ) (c : Dev nD)

set_option maxHeartbeats 2000000 in
/-- The weights the grid reads. -/
theorem V_wg : V m c main_v25 = kWg (m ((c : Thread nD τ).loc main_arg3)) (m ((c : Thread nD τ).loc main_arg5)) := by
  show after hostOps0 _ _ = _
  after_results
  rfl

/-- The biases the grid reads. -/
theorem V_bg : V m c main_v27 = kBg (m ((c : Thread nD τ).loc main_arg4)) (m ((c : Thread nD τ).loc main_arg6)) := by
  show after hostOps0 _ _ = _
  after_results
  rfl

/-- The convolution's bias the grid reads. -/
theorem V_cb : V m c main_v28 = broadcastInDim S1x512 ![1] bcast_S512_S1x512_1 (m ((c : Thread nD τ).loc main_arg2) : FVec Ideal S512 .f32) := by
  show after hostOps0 _ _ = _
  after_results

/-- The decay's parameter the grid reads. -/
theorem V_lam : V m c main_v29 = broadcastInDim S1x512 ![1] bcast_S512_S1x512_1 (m ((c : Thread nD τ).loc main_arg7) : FVec Ideal S512 .f32) := by
  show after hostOps0 _ _ = _
  after_results

/-- The identity matrix at an index. -/
theorem kEye_at (i j : Fin 8) : kEye (ix2 i j) = if i = j then 1 else 0 := by
  unfold kEye
  pointwise
  have e : (∀ i j : Fin 8, IntOp.cmpi CmpIPredicate.eq (IntOp.addi (BitVec.ofNat 32 i.val) 0#32) (BitVec.ofNat 32 j.val) = if i = j then 1#1 else 0#1) := by decide
  rw [e]
  by_cases h : i = j
  · rw [if_pos h, if_pos h]
    simp [FloatOps.uitofp]
  · rw [if_neg h, if_neg h]
    simp [FloatOps.uitofp]

/-- The block-diagonal matrix at an index. -/
theorem kBD_at (i j : Fin 512) : kBD w (ix2 i j) = if i.val / 64 = j.val / 64 then w (ix3 ⟨i.val / 64, by omega⟩ ⟨i.val % 64, by omega⟩ ⟨j.val % 64, by omega⟩) else 0 := by
  unfold kBD
  pointwise
  rw [kEye_at]
  by_cases h : i.val / 64 = j.val / 64
  · rw [if_pos (Fin.ext h), if_pos h, mul_one]
  · rw [if_neg (fun q => h (congrArg Fin.val q)), if_neg h, mul_zero]

/-- The left matrix. -/
theorem kWg_left (i j : Fin 512) : kWg w w' (ix2 i ⟨j.val, by omega⟩) = kBD w (ix2 i j) := by
  unfold kWg
  pointwise

/-- The right matrix. -/
theorem kWg_right (i j : Fin 512) : kWg w w' (ix2 i ⟨512 + j.val, by omega⟩) = kBD w' (ix2 i j) := by
  unfold kWg
  pointwise

/-- The left bias. -/
theorem kBg_left (j : Fin 512) : kBg b b' (ix2 0 ⟨j.val, by omega⟩) = b (ix1 j) := by
  unfold kBg
  pointwise

/-- The right bias. -/
theorem kBg_right (j : Fin 512) : kBg b b' (ix2 0 ⟨512 + j.val, by omega⟩) = b' (ix1 j) := by
  unfold kBg
  pointwise

/-- A sum against a column of a block-diagonal matrix is the sum over the column's block. -/
theorem sum_bd (v : Fin 512 → EReal) (l : Fin 512) :
    ∑ k : Fin 512, v k * kBD w (ix2 k l)
    = ∑ k : Fin 64, v ⟨l.val / 64 * 64 + k.val, by omega⟩ * w (ix3 ⟨l.val / 64, by omega⟩ k ⟨l.val % 64, by omega⟩) := by
  have e : ∀ k : Fin 512, v k * kBD w (ix2 k l) = if k.val / 64 = l.val / 64 then v k * w (ix3 ⟨k.val / 64, by omega⟩ ⟨k.val % 64, by omega⟩ ⟨l.val % 64, by omega⟩) else 0 := fun k => by
    rw [kBD_at, mul_ite, mul_zero]
  rw [Finset.sum_congr rfl fun k _ => e k, ← Finset.sum_filter]
  refine Finset.sum_bij' (fun k _ => (⟨k.val % 64, by omega⟩ : Fin 64)) (fun k _ => (⟨l.val / 64 * 64 + k.val, by omega⟩ : Fin 512)) ?_ ?_ ?_ ?_ ?_
  · exact fun _ _ => Finset.mem_univ _
  · intro k _
    exact Finset.mem_filter.mpr ⟨Finset.mem_univ _, by show (l.val / 64 * 64 + k.val) / 64 = l.val / 64; omega⟩
  · intro k hk
    have := (Finset.mem_filter.mp hk).2
    exact Fin.ext (by show l.val / 64 * 64 + k.val % 64 = k.val; omega)
  · intro k _
    exact Fin.ext (by show (l.val / 64 * 64 + k.val) % 64 = k.val; omega)
  · intro k hk
    have h := (Finset.mem_filter.mp hk).2
    have e1 : (⟨l.val / 64 * 64 + k.val % 64, by omega⟩ : Fin 512) = k := Fin.ext (by show l.val / 64 * 64 + k.val % 64 = k.val; omega)
    have e2 : (⟨k.val / 64, by omega⟩ : Fin 8) = ⟨l.val / 64, by omega⟩ := Fin.ext h
    simp only [e1, e2]

end Cert.KernelIdeal.LruHost

end
-- ==== Proof.LruValue.lean ====
/-
  The RG-LRU kernel's result. Block by block the kernel's terms are the layer's: the convolution from the buffer of
  frames, the gates, the recurrence continued from the row carried from the block before. An induction over the grid
  points gives the whole array.
-/
module

public import proofs.«01_k».proof.Proof.LruHost
public import proofs.«01_k».proof.Proof.Gen.KernelIdeal.Value

@[expose] public section

set_option maxRecDepth 16384

noncomputable section

open Idealize.ShloMosaic Idealize.ShloMosaic.TcCoe

namespace Cert.KernelIdeal.LruValue

open Cert.KernelIdeal Cert.KernelIdeal.Gen Cert.KernelIdeal.Value Cert.KernelIdeal.LruScan Cert.KernelIdeal.LruSpec Cert.KernelIdeal.LruBody Cert.KernelIdeal.LruHost

section Block

variable (x : FVec Ideal S4x8192x1024 .f32) (w : FVec Ideal S4x512 .f32) (cb : FVec Ideal S512 .f32) (wr : FVec Ideal S8x64x64 .f32)
  (br : FVec Ideal S512 .f32) (wi : FVec Ideal S8x64x64 .f32) (bi lam : FVec Ideal S512 .f32)
  (b : Fin 4) (n0 : ℕ) (x0 x1 : Vec Ideal S1x256x512 .f32) (z7 z6 z5 : Vec Ideal S256x512 .f32) (h : Vec Ideal S1x512 .f32)

/-- A vector as one row. -/
def row (v : FVec Ideal S512 .f32) : FVec Ideal S1x512 .f32 := broadcastInDim S1x512 ![1] bcast_S512_S1x512_1 v

/-- A vector as one row, at an index. -/
theorem row_at (v : FVec Ideal S512 .f32) (l : Fin 512) : row v (ix2 0 l) = v (ix1 l) := by
  unfold row
  pointwise

/-- What a block of the grid reads: its frames and the three shifted reads of the buffer of frames. -/
structure Blk : Prop where
  h0 : ∀ (r : Fin 256) l, x0 (ix3 0 r l) = xs x b (n0 + r.val) l
  h7 : ∀ (r : Fin 256) l, z7 (ix2 r l) = back (xs x b) 1 (n0 + r.val) l
  h6 : ∀ (r : Fin 256) l, z6 (ix2 r l) = back (xs x b) 2 (n0 + r.val) l
  h5 : ∀ (r : Fin 256) l, z5 (ix2 r l) = back (xs x b) 3 (n0 + r.val) l

variable {x b n0 x0 z7 z6 z5}
variable (H : Blk x b n0 x0 z7 z6 z5)
include H

/-- The block's convolution. -/
theorem Blk.conv (r : Fin 256) (l : Fin 512) : c31 x0 w (row cb) z7 z6 z5 (ix2 r l) = cvs x w cb b (n0 + r.val) l := by
  unfold c31 c26 c29 k0_pay7 k0_pay5 k0_pay6
  pointwise
  rw [row_at, H.h0, H.h7, H.h6, H.h5]
  unfold cvs cv
  rfl

/-- The block's input gate. -/
theorem Blk.gateI (r : Fin 256) (l : Fin 512) : c60 x0 w (row cb) (kWg wr wi) (kBg br bi) z7 z6 z5 (ix2 r l)
    = sg (pre (fun q k o => wi (ix3 q k o)) (fun l => bi (ix1 l)) (cvs x w cb b (n0 + r.val)) l) := by
  unfold c60 k0_pay10 k0_pay9
  pointwise
  rw [kBg_right]
  have e : ∀ k : Fin 512, k0_pay7 (c26 x0 w (row cb) z7 z6) z5 (c29 (F := Ideal) w) (ix2 r k) * kWg wr wi (ix2 k ⟨512 + l.val, by omega⟩)
      = cvs x w cb b (n0 + r.val) k * kBD wi (ix2 k l) := fun k => by
    rw [kWg_right]
    exact congrArg (· * kBD wi (ix2 k l)) (H.conv w cb r k)
  rw [Finset.sum_congr rfl fun k _ => e k, sum_bd, zero_sub]
  rfl

/-- Minus eight times the block's recurrence gate. -/
theorem Blk.gateR (r : Fin 256) (l : Fin 512) : c62 x0 w (row cb) (kWg wr wi) (kBg br bi) z7 z6 z5 (ix2 r l)
    = Ideal.ofBits FTy.f32 3238002688#32 * sg (pre (fun q k o => wr (ix3 q k o)) (fun l => br (ix1 l)) (cvs x w cb b (n0 + r.val)) l) := by
  unfold c62 k0_pay11 k0_pay9
  pointwise
  rw [kBg_left]
  have e : ∀ k : Fin 512, k0_pay7 (c26 x0 w (row cb) z7 z6) z5 (c29 (F := Ideal) w) (ix2 r k) * kWg wr wi (ix2 k ⟨l.val, by omega⟩)
      = cvs x w cb b (n0 + r.val) k * kBD wr (ix2 k l) := fun k => by
    rw [kWg_left]
    exact congrArg (· * kBD wr (ix2 k l)) (H.conv w cb r k)
  rw [Finset.sum_congr rfl fun k _ => e k, sum_bd, zero_sub]
  rfl

/-- Every column of the block satisfies the scan's hypotheses with the layer's decay and input from frame `n0` on. -/
theorem Blk.col (l : Fin 512) : Col (c31 x0 w (row cb) z7 z6 z5) (c60 x0 w (row cb) (kWg wr wi) (kBg br bi) z7 z6 z5)
    (c62 x0 w (row cb) (kWg wr wi) (kBg br bi) z7 z6 z5) (k0_pay12 (row lam)) k0_pay13 l
    (sh (avs x w cb wr br lam b l) n0) (sh (uvs x w cb wr br wi bi lam b l) n0) where
  nn n := av_nn (fun l => lam (ix1 l)) (fun q k o => wr (ix3 q k o)) (fun l => br (ix1 l)) (cvs x w cb b) l (n0 + n)
  nt n := av_nt (fun l => lam (ix1 l)) (fun q k o => wr (ix3 q k o)) (fun l => br (ix1 l)) (cvs x w cb b) l (n0 + n)
  ha r := by
    unfold k0_pay14 k0_pay12 k0_pay13
    pointwise
    rw [H.gateR, row_at, zero_sub, zero_sub]
    rfl
  hu r := by
    rw [H.gateI, H.conv]
    rfl

/-- The block's output from the state before it. -/
theorem Blk.out (h : Vec Ideal S1x512 .f32) (hc : EReal) (l : Fin 512) (hh : h (ix2 0 l) = hc) (r : Fin 256) :
    blockOut x0 x1 w (row cb) (kWg wr wi) (kBg br bi) (row lam) z7 z6 z5 h (ix3 0 r l)
    = lin (sh (avs x w cb wr br lam b l) n0) (sh (uvs x w cb wr br wi bi lam b l) n0) hc r.val * ge (x1 (ix3 0 r l)) := by
  have e := (H.col w cb wr br wi bi lam l).out hh r
  unfold blockOut k0_pay1 k0_pay61 k0_pay62 k0_pay61 k0_pay63
  pointwise
  rw [e]
  rfl

/-- The state the block hands on. -/
theorem Blk.carry (h : Vec Ideal S1x512 .f32) (hc : EReal) (l : Fin 512) (hh : h (ix2 0 l) = hc) :
    blockCarry x0 w (row cb) (kWg wr wi) (kBg br bi) (row lam) z7 z6 z5 h (ix2 0 l)
    = lin (sh (avs x w cb wr br lam b l) n0) (sh (uvs x w cb wr br wi bi lam b l) n0) hc 255 :=
  (H.col w cb wr br wi bi lam l).carry hh

end Block

section Points

variable (m : (ℓ : Loc nD τ sig) → Buf (Elt Ideal) ℓ) (c : Dev nD)

/-- Where each window's block lies at a point of the grid. -/
theorem idxs : ∀ t : Fin cfg0.N, win0_0.index t = ![t.val / 32, t.val % 32, 0] ∧ win0_1.index t = ![t.val / 32, t.val % 32, 1] :=
  (by decide +kernel : ∀ t : Fin grid0.N, _)

/-- The first half's block. -/
theorem blk0 (t : Fin cfg0.N) (r : Fin 256) (l : Fin 512) : (iblk m c 0 t : Vec Ideal S1x256x512 .f32) (ix3 0 r l)
    = xs (m ((c : Thread nD τ).loc main_arg0)) ⟨t.val / 32, by have := t.isLt; have : cfg0.N = 128 := N_0; omega⟩ (256 * (t.val % 32) + r.val) l := by
  have hN : t.val < 128 := lt_of_lt_of_eq t.isLt N_0
  unfold xs
  rw [dif_pos (by omega)]
  blk_ext [iblk, V_main_arg0, (idxs t).1]

/-- The second half's block. -/
theorem blk1 (t : Fin cfg0.N) (r : Fin 256) (l : Fin 512) : (iblk m c 1 t : Vec Ideal S1x256x512 .f32) (ix3 0 r l)
    = (m ((c : Thread nD τ).loc main_arg0) : FVec Ideal S4x8192x1024 .f32) (ix3 ⟨t.val / 32, by have := t.isLt; have : cfg0.N = 128 := N_0; omega⟩ ⟨256 * (t.val % 32) + r.val, by omega⟩ ⟨512 + l.val, by omega⟩) := by
  have hN : t.val < 128 := lt_of_lt_of_eq t.isLt N_0
  blk_ext [iblk, V_main_arg0, (idxs t).2]

/-- The other windows' blocks are their whole arrays. -/
theorem idxW : ∀ t : Fin cfg0.N, win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- The taps are read whole. -/
theorem blk2 (t : Fin cfg0.N) : (iblk m c 2 t : Vec Ideal S4x512 .f32) = m ((c : Thread nD τ).loc main_arg1) := by
  refine Eq.trans ?_ (V_main_arg1 m c)
  funext j
  rw [iblk]
  show V m c main_arg1 _ = V m c main_arg1 j
  refine congrArg (V m c main_arg1) ?_
  funext a
  refine Fin.ext ?_
  fin_cases a <;> blk_simp [(idxW t).1]

/-- The convolution's bias are read whole. -/
theorem blk3 (t : Fin cfg0.N) : (iblk m c 3 t : Vec Ideal S1x512 .f32) = row (m ((c : Thread nD τ).loc main_arg2)) := by
  refine Eq.trans ?_ (V_cb m c)
  funext j
  rw [iblk]
  show V m c main_v28 _ = V m c main_v28 j
  refine congrArg (V m c main_v28) ?_
  funext a
  refine Fin.ext ?_
  fin_cases a <;> blk_simp [(idxW t).2.1]

/-- The gates' weights are read whole. -/
theorem blk4 (t : Fin cfg0.N) : (iblk m c 4 t : Vec Ideal S512x1024 .bf16) = kWg (m ((c : Thread nD τ).loc main_arg3)) (m ((c : Thread nD τ).loc main_arg5)) := by
  refine Eq.trans ?_ (V_wg m c)
  funext j
  rw [iblk]
  show V m c main_v25 _ = V m c main_v25 j
  refine congrArg (V m c main_v25) ?_
  funext a
  refine Fin.ext ?_
  fin_cases a <;> blk_simp [(idxW t).2.2.1]

/-- The gates' biases are read whole. -/
theorem blk5 (t : Fin cfg0.N) : (iblk m c 5 t : Vec Ideal S1x1024 .f32) = kBg (m ((c : Thread nD τ).loc main_arg4)) (m ((c : Thread nD τ).loc main_arg6)) := by
  refine Eq.trans ?_ (V_bg m c)
  funext j
  rw [iblk]
  show V m c main_v27 _ = V m c main_v27 j
  refine congrArg (V m c main_v27) ?_
  funext a
  refine Fin.ext ?_
  fin_cases a <;> blk_simp [(idxW t).2.2.2.1]

/-- The decay's parameter are read whole. -/
theorem blk6 (t : Fin cfg0.N) : (iblk m c 6 t : Vec Ideal S1x512 .f32) = row (m ((c : Thread nD τ).loc main_arg7)) := by
  refine Eq.trans ?_ (V_lam m c)
  funext j
  rw [iblk]
  show V m c main_v29 _ = V m c main_v29 j
  refine congrArg (V m c main_v29) ?_
  funext a
  refine Fin.ext ?_
  fin_cases a <;> blk_simp [(idxW t).2.2.2.2]

/-- The arrays of the layer, as the memory holds them on entry. -/
abbrev aX : FVec Ideal S4x8192x1024 .f32 := m ((c : Thread nD τ).loc main_arg0)
/-- The taps. -/
abbrev aW : FVec Ideal S4x512 .f32 := m ((c : Thread nD τ).loc main_arg1)
/-- The convolution's bias. -/
abbrev aCb : FVec Ideal S512 .f32 := m ((c : Thread nD τ).loc main_arg2)
/-- The recurrence gate's weights. -/
abbrev aWr : FVec Ideal S8x64x64 .f32 := m ((c : Thread nD τ).loc main_arg3)
/-- The recurrence gate's bias. -/
abbrev aBr : FVec Ideal S512 .f32 := m ((c : Thread nD τ).loc main_arg4)
/-- The input gate's weights. -/
abbrev aWi : FVec Ideal S8x64x64 .f32 := m ((c : Thread nD τ).loc main_arg5)
/-- The input gate's bias. -/
abbrev aBi : FVec Ideal S512 .f32 := m ((c : Thread nD τ).loc main_arg6)
/-- The decay's parameter. -/
abbrev aLam : FVec Ideal S512 .f32 := m ((c : Thread nD τ).loc main_arg7)

/-- The batch of a point of the grid. -/
abbrev bat (t : ℕ) (h : t < 128) : Fin 4 := ⟨t / 32, by omega⟩

/-- The recurrence on the memory's arrays. -/
abbrev hm (b : Fin 4) (l : Fin 512) : ℕ → EReal := hs (aX m c) (aW m c) (aCb m c) (aWr m c) (aBr m c) (aWi m c) (aBi m c) (aLam m c) b l

/-- A first point's reads. -/
theorem blkA (t : Fin cfg0.N) (ht : t.val < 128) (h0 : t.val % 32 = 0) (v : Memref sig .tc .vmem S264x512 .f32) :
    Blk (aX m c) (bat t.val ht) 0 (iblk m c 0 t) (rdA v (pA (iblk m c 0 t)) 7 inb_S264x512_S256x512_7_0)
      (rdA v (pA (iblk m c 0 t)) 6 inb_S264x512_S256x512_6_0) (rdA v (pA (iblk m c 0 t)) 5 inb_S264x512_S256x512_5_0) := by
  have e : ∀ (r : Fin 256) (l : Fin 512), (iblk m c 0 t : Vec Ideal S1x256x512 .f32) (ix3 0 r l) = xs (aX m c) (bat t.val ht) r.val l := fun r l => by
    rw [blk0, h0, Nat.mul_zero, Nat.zero_add]
  have g : ∀ (k j : ℕ) (hk : k ≤ 8) (hj : k + j = 8) (inb : ∀ a, (![k, 0] : Fin 2 → ℕ) a + (![256, 512] : Fin 2 → ℕ) a ≤ S264x512.size a)
      (r : Fin 256) (l : Fin 512), rdA v (pA (iblk m c 0 t)) k inb (ix2 r l) = back (xs (aX m c) (bat t.val ht)) j (0 + r.val) l := fun k j hk hj inb r l => by
    rw [ld_A _ _ k hk]
    unfold back
    by_cases h : 8 ≤ k + r.val
    · rw [dif_pos h, if_pos (by omega), e]
      exact congrArg (fun n => xs (aX m c) (bat t.val ht) n l) (show k + r.val - 8 = 0 + r.val - j by omega)
    · rw [dif_neg h, if_neg (by omega)]
  exact ⟨fun r l => by rw [e, Nat.zero_add], g 7 1 (by omega) rfl _, g 6 2 (by omega) rfl _, g 5 3 (by omega) rfl _⟩

/-- A later point's reads, the buffer holding the eight frames before. -/
theorem blkB (t : Fin cfg0.N) (ht : t.val < 128) (h0 : ¬t.val % 32 = 0) (v : Memref sig .tc .vmem S264x512 .f32) (hv : v.IsWhole)
    (z : Vec Ideal S264x512 .f32) (hz : ∀ (q : Fin 264) (l : Fin 512), q.val < 8 → z (ix2 q l) = xs (aX m c) (bat t.val ht) (256 * (t.val % 32) - 8 + q.val) l) :
    Blk (aX m c) (bat t.val ht) (256 * (t.val % 32)) (iblk m c 0 t) (rdB v (hv.unread z) (pB (iblk m c 0 t)) 7 inb_S264x512_S256x512_7_0)
      (rdB v (hv.unread z) (pB (iblk m c 0 t)) 6 inb_S264x512_S256x512_6_0) (rdB v (hv.unread z) (pB (iblk m c 0 t)) 5 inb_S264x512_S256x512_5_0) := by
  have g : ∀ (k j : ℕ) (hk : k ≤ 8) (hj : k + j = 8) (inb : ∀ a, (![k, 0] : Fin 2 → ℕ) a + (![256, 512] : Fin 2 → ℕ) a ≤ S264x512.size a)
      (r : Fin 256) (l : Fin 512), rdB v (hv.unread z) (pB (iblk m c 0 t)) k inb (ix2 r l) = back (xs (aX m c) (bat t.val ht)) j (256 * (t.val % 32) + r.val) l := fun k j hk hj inb r l => by
    rw [ld_B _ _ _ _ k hk]
    unfold back
    rw [if_pos (by omega)]
    by_cases h : 8 ≤ k + r.val
    · rw [dif_pos h, blk0]
      exact congrArg (fun n => xs (aX m c) (bat t.val ht) n l) (show 256 * (t.val % 32) + (k + r.val - 8) = 256 * (t.val % 32) + r.val - j by omega)
    · rw [dif_neg h, hz _ _ (by show k + r.val < 8; omega)]
      exact congrArg (fun n => xs (aX m c) (bat t.val ht) n l) (show 256 * (t.val % 32) - 8 + (k + r.val) = 256 * (t.val % 32) + r.val - j by omega)
  exact ⟨fun r l => by rw [blk0], g 7 1 (by omega) rfl _, g 6 2 (by omega) rfl _, g 5 3 (by omega) rfl _⟩

/-- What the run has after a point: its block of the result, the last eight frames of the buffer, the state of every channel. -/
structure After (t : ℕ) (h : t < cfg0.N) (ht : t < 128) : Prop where
  out : ∀ (r : Fin 256) (l : Fin 512), (outsAt0 m c t h).1 (ix3 0 r l)
    = layer (aX m c) (aW m c) (aCb m c) (aWr m c) (aBr m c) (aWi m c) (aBi m c) (aLam m c) (bat t ht) ⟨256 * (t % 32) + r.val, by omega⟩ l
  buf : ∀ (q : Fin 264) (l : Fin 512), q.val < 8 → (outsAt0 m c t h).2.1 (ix2 q l) = xs (aX m c) (bat t ht) (256 * (t % 32) + 248 + q.val) l
  carry : ∀ l : Fin 512, (outsAt0 m c t h).2.2 (ix2 0 l) = hm m c (bat t ht) l (256 * (t % 32) + 255)

/-- The first state is zero. -/
theorem pay3_at (l : Fin 512) : (k0_pay3 (F := Ideal)) (ix2 0 l) = 0 := by
  unfold k0_pay3
  pointwise

/-- A sequence shifted by nothing. -/
theorem sh_zero (f : ℕ → EReal) : sh f 0 = f := funext fun n => congrArg f (Nat.zero_add n)

/-- After a first point. -/
theorem afterA (t : Fin cfg0.N) (ht : t.val < 128) (h0 : t.val % 32 = 0) : After m c t.val t.isLt ht := by
  have B := fun v => blkA m c t ht h0 v
  refine ⟨fun r l => ?_, fun q l hq => ?_, fun l => ?_⟩
  · have e := congrArg (fun p => p.1) (outsAt0_A m c t h0)
    dsimp only at e
    rw [out_A] at e
    rw [e]
    rw [blk2, blk3, blk4, blk5, blk6, (B _).out _ _ _ _ _ _ _ _ _ 0 l (pay3_at l), sh_zero, sh_zero, blk1]
    unfold layer
    refine congr (congrArg HMul.hMul ?_) ?_
    · exact congrArg (hm m c (bat t.val ht) l) (show r.val = 256 * (t.val % 32) + r.val by omega)
    · rfl
  · have e := congrArg (fun p => p.2.1) (outsAt0_A m c t h0)
    dsimp only at e
    rw [buf_A] at e
    rw [e]
    rw [end_at _ _ _ hq, blk0]
    exact congrArg (fun n => xs (aX m c) (bat t.val ht) n l) (show 256 * (t.val % 32) + (248 + q.val) = _ by omega)
  · have e := congrArg (fun p => p.2.2) (outsAt0_A m c t h0)
    dsimp only at e
    rw [carry_A] at e
    rw [e]
    rw [blk2, blk3, blk4, blk5, blk6, (B _).carry _ _ _ _ _ _ _ _ 0 l (pay3_at l), sh_zero, sh_zero, h0]
    rfl

/-- The recurrence continued from a state. -/
theorem hm_shift (b : Fin 4) (l : Fin 512) (n0 n : ℕ) (hn : 1 ≤ n0) :
    lin (sh (avs (aX m c) (aW m c) (aCb m c) (aWr m c) (aBr m c) (aLam m c) b l) n0)
      (sh (uvs (aX m c) (aW m c) (aCb m c) (aWr m c) (aBr m c) (aWi m c) (aBi m c) (aLam m c) b l) n0) (hm m c b l (n0 - 1)) n = hm m c b l (n0 + n) := by
  obtain ⟨k, rfl⟩ : ∃ k, n0 = k + 1 := ⟨n0 - 1, by omega⟩
  exact lin_shift ..

/-- After a later point, from what the point before left. -/
theorem afterB (t : Fin cfg0.N) (ht : t.val < 128) (h0 : ¬t.val % 32 = 0) (hp : t.val - 1 < cfg0.N)
    (P : After m c (t.val - 1) hp (by omega)) : After m c t.val t.isLt ht := by
  have eb : bat (t.val - 1) (by omega) = bat t.val ht := Fin.ext (show (t.val - 1) / 32 = t.val / 32 by omega)
  have hz : ∀ (q : Fin 264) (l : Fin 512), q.val < 8 → (outsAt0 m c (t.val - 1) hp).2.1 (ix2 q l) = xs (aX m c) (bat t.val ht) (256 * (t.val % 32) - 8 + q.val) l := fun q l hq => by
    rw [P.buf q l hq, eb]
    exact congrArg (fun n => xs (aX m c) (bat t.val ht) n l) (by omega)
  have hh : ∀ l : Fin 512, (outsAt0 m c (t.val - 1) hp).2.2 (ix2 0 l) = hm m c (bat t.val ht) l (256 * (t.val % 32) - 1) := fun l => by
    rw [P.carry l, eb]
    exact congrArg (hm m c (bat t.val ht) l) (by omega)
  have B := fun v hv => blkB m c t ht h0 v hv _ hz
  refine ⟨fun r l => ?_, fun q l hq => ?_, fun l => ?_⟩
  · have e := congrArg (fun p => p.1) (outsAt0_B m c t h0)
    dsimp only at e
    rw [out_B] at e
    rw [e]
    rw [blk2, blk3, blk4, blk5, blk6, (B _ _).out _ _ _ _ _ _ _ _ _ _ l (hh l), hm_shift m c _ _ _ _ (by omega), blk1]
    rfl
  · have e := congrArg (fun p => p.2.1) (outsAt0_B m c t h0)
    dsimp only at e
    rw [buf_B] at e
    rw [e]
    rw [end_at _ _ _ hq, blk0]
    exact congrArg (fun n => xs (aX m c) (bat t.val ht) n l) (show 256 * (t.val % 32) + (248 + q.val) = _ by omega)
  · have e := congrArg (fun p => p.2.2) (outsAt0_B m c t h0)
    dsimp only at e
    rw [carry_B] at e
    rw [e]
    rw [blk2, blk3, blk4, blk5, blk6, (B _ _).carry _ _ _ _ _ _ _ _ _ l (hh l), hm_shift m c _ _ _ _ (by omega)]

/-- After every point. -/
theorem after : ∀ (t : ℕ) (h : t < cfg0.N) (ht : t < 128), After m c t h ht
  | 0, h, ht => afterA m c ⟨0, h⟩ ht rfl
  | t + 1, h, ht => by
    by_cases h0 : (t + 1) % 32 = 0
    · exact afterA m c ⟨t + 1, h⟩ ht h0
    · exact afterB m c ⟨t + 1, h⟩ ht h0 _ (after t (by omega) (by omega))

/-- The kernel's result is the layer. -/
theorem value (b : Fin 4) (n : Fin 8192) (l : Fin 512) : (G7 m c : Vec Ideal S4x8192x512 .bf16) (ix3 b n l)
    = layer (aX m c) (aW m c) (aCb m c) (aWr m c) (aBr m c) (aWi m c) (aBi m c) (aLam m c) b n l := by
  have hp : pt7Of (ix3 b n l) = 32 * b.val + n.val / 256 := by
    show 32 * (b.val / 1 - 0) + 1 * (n.val / 256 - 0) + 1 * (l.val / 512 - 0) = _
    omega
  have hl : loc7Of (ix3 b n l) = ix3 0 (⟨n.val % 256, by omega⟩ : Fin 256) l := by
    funext a
    fin_cases a
    · exact Fin.ext (show b.val % 1 = 0 by omega)
    · rfl
    · exact Fin.ext (show l.val % 512 = l.val by omega)
  have hN : pt7Of (ix3 b n l) < cfg0.N := by rw [hp, show cfg0.N = 128 from N_0]; omega
  have hA := after m c (pt7Of (ix3 b n l)) hN (by rw [hp]; omega)
  unfold G7
  rw [dif_pos hN, ← outsAt0_sweep m c _ hN, hl, hA.out]
  have e1 : bat (pt7Of (ix3 b n l)) (by rw [hp]; omega) = b := Fin.ext (by show pt7Of (ix3 b n l) / 32 = b.val; omega)
  have e2 : (⟨256 * (pt7Of (ix3 b n l) % 32) + n.val % 256, by omega⟩ : Fin 8192) = n := Fin.ext (by show 256 * (pt7Of (ix3 b n l) % 32) + n.val % 256 = n.val; omega)
  rw [e1]
  exact congrArg (fun n => layer (aX m c) (aW m c) (aCb m c) (aWr m c) (aBr m c) (aWi m c) (aBi m c) (aLam m c) b n l) e2

end Points

end Cert.KernelIdeal.LruValue

end
-- ==== Proof.LruRef.lean ====
/-
  The reference of the RG-LRU program as a closed form. The operations before its loop are read into named arrays
  (`rPad`, `rConv`, `rGate`, `rSp`, `rA`, `rU`), the loop is the plain recurrence over the frames, and the returned
  array is the recurrence times the GELU of the other half of the projection.
-/
module

public import proofs.«01_k».proof.Proof.LruSpec
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.ShloMosaic.StableHlo

namespace Cert.ReferenceIdeal.LruRef

open Cert.ReferenceIdeal Cert.ReferenceIdeal.Gen Cert.ReferenceIdeal.Value

variable (x : FVec Ideal S4x8192x1024 .f32) (xp : FVec Ideal S4x8195x512 .f32) (w : FVec Ideal S4x512 .f32) (cb br lam : FVec Ideal S512 .f32) (wr : FVec Ideal S8x64x64 .f32)
  (v56 v58 xc v31 : FVec Ideal S4x8192x512 .f32) (v60 v59 : FVec Ideal S512 .f32)

/-! ## The arrays before the loop -/

/-- The recurrence half of the projection with three zero frames before it. -/
def rPad : FVec Ideal S4x8195x512 .f32 :=
  pad S4x8195x512 ![0, 3, 0] ![0, 0, 0] ![0, 0, 0] (extractStridedSlice S4x8192x512 ![0, 0, 0] x slices_S4x8192x1024_S4x8192x512_0_0_0)
    (sitofp .f32 (constantI S_ 32 0#32) : FVec Ideal S_ .f32) pads_S4x8192x512_S4x8195x512_000_300_000 h_S_

/-- The causal convolution with its bias. -/
def rConv : FVec Ideal S4x8192x512 .f32 :=
  addf (addf (addf (addf
    (mulf (broadcastInDim S4x8192x512 ![0, 1, 2] bcast_S1x1x512_S4x8192x512_0_1_2 (broadcastInDim S1x1x512 ![2] bcast_S512_S1x1x512_2
      (shapeCast S512 (extractStridedSlice S1x512 ![0, 0] w slices_S4x512_S1x512_0_0) shapeCasts_S1x512_S512)))
      (extractStridedSlice S4x8192x512 ![0, 0, 0] xp slices_S4x8195x512_S4x8192x512_0_0_0))
    (mulf (broadcastInDim S4x8192x512 ![0, 1, 2] bcast_S1x1x512_S4x8192x512_0_1_2 (broadcastInDim S1x1x512 ![2] bcast_S512_S1x1x512_2
      (shapeCast S512 (extractStridedSlice S1x512 ![1, 0] w slices_S4x512_S1x512_1_0) shapeCasts_S1x512_S512)))
      (extractStridedSlice S4x8192x512 ![0, 1, 0] xp slices_S4x8195x512_S4x8192x512_0_1_0)))
    (mulf (broadcastInDim S4x8192x512 ![0, 1, 2] bcast_S1x1x512_S4x8192x512_0_1_2 (broadcastInDim S1x1x512 ![2] bcast_S512_S1x1x512_2
      (shapeCast S512 (extractStridedSlice S1x512 ![2, 0] w slices_S4x512_S1x512_2_0) shapeCasts_S1x512_S512)))
      (extractStridedSlice S4x8192x512 ![0, 2, 0] xp slices_S4x8195x512_S4x8192x512_0_2_0)))
    (mulf (broadcastInDim S4x8192x512 ![0, 1, 2] bcast_S1x1x512_S4x8192x512_0_1_2 (broadcastInDim S1x1x512 ![2] bcast_S512_S1x1x512_2
      (shapeCast S512 (extractStridedSlice S1x512 ![3, 0] w slices_S4x512_S1x512_3_0) shapeCasts_S1x512_S512)))
      (extractStridedSlice S4x8192x512 ![0, 3, 0] xp slices_S4x8195x512_S4x8192x512_0_3_0)))
    (broadcastInDim S4x8192x512 ![0, 1, 2] bcast_S1x1x512_S4x8192x512_0_1_2 (broadcastInDim S1x1x512 ![2] bcast_S512_S1x1x512_2 cb))

/-- A gate: the logistic function of the block-diagonal product with its bias. -/
def rGate : FVec Ideal S4x8192x512 .f32 :=
  Host.divf (broadcastInDim S4x8192x512 ![] bcast_S_S4x8192x512 (constant S_ .f32 0x3F800000#32))
    (addf (broadcastInDim S4x8192x512 ![] bcast_S_S4x8192x512 (constant S_ .f32 0x3F800000#32))
      (Host.exp (Host.negf (addf
        (shapeCast S4x8192x512 (transpose S4x8192x8x64 [2, 3, 0, 1]
          (Host.dotGeneral dot_S8x64x64_S4x8192x8x64_S8x64x4x8192_1_3_2_01_0_2 none wr
            (shapeCast S4x8192x8x64 xc shapeCasts_S4x8192x512_S4x8192x8x64))
          transposes_S8x64x4x8192_S4x8192x8x64_2_3_0_1) shapeCasts_S4x8192x8x64_S4x8192x512)
        (broadcastInDim S4x8192x512 ![0, 1, 2] bcast_S1x1x512_S4x8192x512_0_1_2 (broadcastInDim S1x1x512 ![2] bcast_S512_S1x1x512_2 br))))))

/-- The softplus of a vector. -/
def rSp : FVec Ideal S512 .f32 :=
  select (cmpf .une (subf lam (broadcastInDim S512 ![] bcast_S_S512 (constant S_ .f32 0x00000000#32))) (subf lam (broadcastInDim S512 ![] bcast_S_S512 (constant S_ .f32 0x00000000#32))))
    (addf lam (broadcastInDim S512 ![] bcast_S_S512 (constant S_ .f32 0x00000000#32)))
    (addf (maximumf lam (broadcastInDim S512 ![] bcast_S_S512 (constant S_ .f32 0x00000000#32)))
      (Host.log1p (Host.exp (Host.negf (Host.absf (subf lam (broadcastInDim S512 ![] bcast_S_S512 (constant S_ .f32 0x00000000#32))))))))

/-- The logarithm of the decay. -/
def rLa : FVec Ideal S4x8192x512 .f32 := mulf v58 (broadcastInDim S4x8192x512 ![0, 1, 2] bcast_S1x1x512_S4x8192x512_0_1_2 (broadcastInDim S1x1x512 ![2] bcast_S512_S1x1x512_2 v60))

/-- The decay, frames first. -/
def rA : FVec Ideal S8192x4x512 .f32 := transpose S8192x4x512 [1, 0, 2] (Host.exp (rLa v58 v60)) transposes_S4x8192x512_S8192x4x512_1_0_2

/-- The scaled input, frames first. -/
def rU : FVec Ideal S8192x4x512 .f32 := transpose S8192x4x512 [1, 0, 2]
  (mulf (Host.sqrt (Host.negf (Host.expm1 (mulf (broadcastInDim S4x8192x512 ![] bcast_S_S4x8192x512 (constant S_ .f32 0x40000000#32)) (rLa v58 v60)))))
    (mulf v56 v31)) transposes_S4x8192x512_S8192x4x512_1_0_2

/-- Minus eight times a gate. -/
def rN8 : FVec Ideal S4x8192x512 .f32 := mulf (broadcastInDim S4x8192x512 ![] bcast_S_S4x8192x512 (constant S_ .f32 0xC1000000#32)) v58

variable (X : Valuation τ sig (Elt Ideal))

/-- The padded half after the first two windows. -/
theorem w_v1 : after hostOps0_1 (after hostOps0 X) (Proc.devRef .tc main_v1) = rPad (X (Proc.devRef .tc main_arg0)) := by
  after_results
  rfl

/-- The convolution after the third window. -/
theorem w_v31 : after hostOps0_2 X (Proc.devRef .tc main_v31)
    = rConv (X (Proc.devRef .tc main_v1)) (X (Proc.devRef .tc main_arg1)) (X (Proc.devRef .tc main_arg2)) := by
  after_results
  rfl

/-- The input gate after the third window. -/
theorem w_v56 : after hostOps0_2 X (Proc.devRef .tc main_v56)
    = rGate (X (Proc.devRef .tc main_arg6)) (X (Proc.devRef .tc main_arg5)) (rConv (X (Proc.devRef .tc main_v1)) (X (Proc.devRef .tc main_arg1)) (X (Proc.devRef .tc main_arg2))) := by
  after_results
  rfl

/-- Minus eight times the recurrence gate after the third window. -/
theorem w_v58 : after hostOps0_2 X (Proc.devRef .tc main_v58)
    = rN8 (rGate (X (Proc.devRef .tc main_arg4)) (X (Proc.devRef .tc main_arg3)) (rConv (X (Proc.devRef .tc main_v1)) (X (Proc.devRef .tc main_arg1)) (X (Proc.devRef .tc main_arg2)))) := by
  after_results
  rfl

/-- The negated parameter after the third window. -/
theorem w_v59 : after hostOps0_2 X (Proc.devRef .tc main_v59) = (Host.negf (X (Proc.devRef .tc main_arg7) : FVec Ideal S512 .f32) : FVec Ideal S512 .f32) := by
  after_results

/-- The softplus after the fourth window. -/
theorem w_v60 : after hostOps0_3 X (Proc.devRef .tc main_v60) = rSp (X (Proc.devRef .tc main_v59)) := by
  after_results
  rfl

/-- The decay after the fifth window. -/
theorem w_a : after hostOps0_4 X (Proc.devRef .tc main_v76_0) = rA (X (Proc.devRef .tc main_v58)) (X (Proc.devRef .tc main_v60)) := by
  after_results
  rfl

/-- The scaled input after the fifth window. -/
theorem w_u : after hostOps0_4 X (Proc.devRef .tc main_v76_1)
    = rU (X (Proc.devRef .tc main_v56)) (X (Proc.devRef .tc main_v58)) (X (Proc.devRef .tc main_v31)) (X (Proc.devRef .tc main_v60)) := by
  after_results
  rfl

/-- The state before the loop is zero. -/
theorem w_h : after hostOps0_4 X (Proc.devRef .tc main_v76_3)
    = (broadcastInDim S4x512 ![] bcast_S_S4x512 (constant S_ .f32 0x00000000#32 : FVec Ideal S_ .f32) : FVec Ideal S4x512 .f32) := by
  after_results
  rfl

/-! ## The entry of the loop -/

/-- The fourth window leaves this array. -/
theorem keep3_v58 : after hostOps0_3 X (Proc.devRef .tc main_v58) = X (Proc.devRef .tc main_v58) :=
  after_of_writes_sub hostOps0_3 X hostOps0_3_writes (by decide +kernel)

/-- The fourth window leaves this array. -/
theorem keep3_v56 : after hostOps0_3 X (Proc.devRef .tc main_v56) = X (Proc.devRef .tc main_v56) :=
  after_of_writes_sub hostOps0_3 X hostOps0_3_writes (by decide +kernel)

/-- The fourth window leaves this array. -/
theorem keep3_v31 : after hostOps0_3 X (Proc.devRef .tc main_v31) = X (Proc.devRef .tc main_v31) :=
  after_of_writes_sub hostOps0_3 X hostOps0_3_writes (by decide +kernel)

/-- The first two windows leave this argument. -/
theorem keep1_arg1 : after hostOps0_1 (after hostOps0 X) (Proc.devRef .tc main_arg1) = X (Proc.devRef .tc main_arg1) :=
  (after_of_writes_sub hostOps0_1 _ hostOps0_1_writes (by decide +kernel)).trans (after_of_writes_sub hostOps0 X hostOps0_writes (by decide +kernel))

/-- The first two windows leave this argument. -/
theorem keep1_arg2 : after hostOps0_1 (after hostOps0 X) (Proc.devRef .tc main_arg2) = X (Proc.devRef .tc main_arg2) :=
  (after_of_writes_sub hostOps0_1 _ hostOps0_1_writes (by decide +kernel)).trans (after_of_writes_sub hostOps0 X hostOps0_writes (by decide +kernel))

/-- The first two windows leave this argument. -/
theorem keep1_arg3 : after hostOps0_1 (after hostOps0 X) (Proc.devRef .tc main_arg3) = X (Proc.devRef .tc main_arg3) :=
  (after_of_writes_sub hostOps0_1 _ hostOps0_1_writes (by decide +kernel)).trans (after_of_writes_sub hostOps0 X hostOps0_writes (by decide +kernel))

/-- The first two windows leave this argument. -/
theorem keep1_arg4 : after hostOps0_1 (after hostOps0 X) (Proc.devRef .tc main_arg4) = X (Proc.devRef .tc main_arg4) :=
  (after_of_writes_sub hostOps0_1 _ hostOps0_1_writes (by decide +kernel)).trans (after_of_writes_sub hostOps0 X hostOps0_writes (by decide +kernel))

/-- The first two windows leave this argument. -/
theorem keep1_arg5 : after hostOps0_1 (after hostOps0 X) (Proc.devRef .tc main_arg5) = X (Proc.devRef .tc main_arg5) :=
  (after_of_writes_sub hostOps0_1 _ hostOps0_1_writes (by decide +kernel)).trans (after_of_writes_sub hostOps0 X hostOps0_writes (by decide +kernel))

/-- The first two windows leave this argument. -/
theorem keep1_arg6 : after hostOps0_1 (after hostOps0 X) (Proc.devRef .tc main_arg6) = X (Proc.devRef .tc main_arg6) :=
  (after_of_writes_sub hostOps0_1 _ hostOps0_1_writes (by decide +kernel)).trans (after_of_writes_sub hostOps0 X hostOps0_writes (by decide +kernel))

/-- The first two windows leave this argument. -/
theorem keep1_arg7 : after hostOps0_1 (after hostOps0 X) (Proc.devRef .tc main_arg7) = X (Proc.devRef .tc main_arg7) :=
  (after_of_writes_sub hostOps0_1 _ hostOps0_1_writes (by decide +kernel)).trans (after_of_writes_sub hostOps0 X hostOps0_writes (by decide +kernel))

variable (m : (ℓ : Loc nD τ sig) → Buf (Elt Ideal) ℓ) (c : Dev nD)

/-- The decay's array at the loop's entry. -/
theorem entry_a : entryContents preI m c (Proc.devRef .tc main_v76_0)
    = rA (rN8 (rGate (m ((c.tc : Thread nD τ).loc main_arg4)) (m ((c.tc : Thread nD τ).loc main_arg3))
        (rConv (rPad (m ((c.tc : Thread nD τ).loc main_arg0))) (m ((c.tc : Thread nD τ).loc main_arg1)) (m ((c.tc : Thread nD τ).loc main_arg2)))))
      (rSp (Host.negf (m ((c.tc : Thread nD τ).loc main_arg7) : FVec Ideal S512 .f32) : FVec Ideal S512 .f32)) := by
  simp only [entryContents, afterL_cons, afterL_nil]
  rw [w_a, w_v60, keep3_v58, w_v58, w_v59, w_v1, keep1_arg1, keep1_arg2, keep1_arg3, keep1_arg4, keep1_arg7]

/-- The scaled input's array at the loop's entry. -/
theorem entry_u : entryContents preI m c (Proc.devRef .tc main_v76_1)
    = rU (rGate (m ((c.tc : Thread nD τ).loc main_arg6)) (m ((c.tc : Thread nD τ).loc main_arg5))
        (rConv (rPad (m ((c.tc : Thread nD τ).loc main_arg0))) (m ((c.tc : Thread nD τ).loc main_arg1)) (m ((c.tc : Thread nD τ).loc main_arg2))))
      (rN8 (rGate (m ((c.tc : Thread nD τ).loc main_arg4)) (m ((c.tc : Thread nD τ).loc main_arg3))
        (rConv (rPad (m ((c.tc : Thread nD τ).loc main_arg0))) (m ((c.tc : Thread nD τ).loc main_arg1)) (m ((c.tc : Thread nD τ).loc main_arg2)))))
      (rConv (rPad (m ((c.tc : Thread nD τ).loc main_arg0))) (m ((c.tc : Thread nD τ).loc main_arg1)) (m ((c.tc : Thread nD τ).loc main_arg2)))
      (rSp (Host.negf (m ((c.tc : Thread nD τ).loc main_arg7) : FVec Ideal S512 .f32) : FVec Ideal S512 .f32)) := by
  simp only [entryContents, afterL_cons, afterL_nil]
  rw [w_u, w_v60, keep3_v58, keep3_v56, keep3_v31, w_v58, w_v56, w_v31, w_v59, w_v1, keep1_arg1, keep1_arg2, keep1_arg3, keep1_arg4, keep1_arg5,
    keep1_arg6, keep1_arg7]

/-- The state at the loop's entry. -/
theorem entry_h : entryContents preI m c (Proc.devRef .tc main_v76_3)
    = (broadcastInDim S4x512 ![] bcast_S_S4x512 (constant S_ .f32 0x00000000#32 : FVec Ideal S_ .f32) : FVec Ideal S4x512 .f32) := by
  simp only [entryContents, afterL_cons, afterL_nil]
  rw [w_h]

/-! ## The arrays at an index -/

open Cert.KernelIdeal.LruSpec Cert.KernelIdeal.LruScan

/-- The padded half at a place: zero in the first three, then the frames. -/
theorem rPad_at (b : Fin 4) (p : ℕ) (hp : p < 8195) (l : Fin 512) : rPad x (ix3 b ⟨p, hp⟩ l) = if 3 ≤ p then xs x b (p - 3) l else 0 := by
  unfold rPad xs
  pointwise
  by_cases h : 3 ≤ p
  · have h' : p - 3 < 8192 := by omega
    rw [dif_pos ⟨h, h'⟩, if_pos h, dif_pos h']
  · rw [dif_neg (fun q => h q.1), if_neg h]
    simp [FloatOps.sitofp]

/-- The convolution at an index. -/
theorem rConv_at (b : Fin 4) (n : Fin 8192) (l : Fin 512) : rConv (rPad x) w cb (ix3 b n l) = cvs x w cb b n.val l := by
  have h0 : rPad x (ix3 b ⟨n.val, by omega⟩ l) = back (xs x b) 3 n.val l := rPad_at x b n.val (by omega) l
  have h1 : rPad x (ix3 b ⟨1 + n.val, by omega⟩ l) = back (xs x b) 2 n.val l := by
    rw [rPad_at]; unfold back
    exact ite_congr (by simp; omega) (fun _ => by congr 1; omega) (fun _ => rfl)
  have h2 : rPad x (ix3 b ⟨2 + n.val, by omega⟩ l) = back (xs x b) 1 n.val l := by
    rw [rPad_at]; unfold back
    exact ite_congr (by simp; omega) (fun _ => by congr 1; omega) (fun _ => rfl)
  have h3 : rPad x (ix3 b ⟨3 + n.val, by omega⟩ l) = back (xs x b) 0 n.val l := by
    rw [rPad_at]; unfold back
    exact ite_congr (by simp) (fun _ => by congr 1; omega) (fun _ => rfl)
  unfold rConv
  pointwise
  rw [h0, h1, h2, h3]
  show _ = cb (ix1 l) + w (ix2 3 l) * _ + w (ix2 2 l) * _ + w (ix2 1 l) * _ + w (ix2 0 l) * _
  generalize w (ix2 3 l) * _ = q3
  generalize w (ix2 2 l) * _ = q2
  generalize w (ix2 1 l) * _ = q1
  generalize w (ix2 0 l) * _ = q0
  generalize cb (ix1 l) = q
  abel

/-- A gate at an index. -/
theorem rGate_at (b : Fin 4) (n : Fin 8192) (l : Fin 512) : rGate br wr (rConv (rPad x) w cb) (ix3 b n l)
    = sg (pre (fun q k o => wr (ix3 q k o)) (fun l => br (ix1 l)) (cvs x w cb b n.val) l) := by
  unfold rGate
  pointwise
  unfold sg pre
  have e : ∀ y : Fin 64, wr (ix3 ⟨l.val / 64, by omega⟩ y ⟨l.val % 64, by omega⟩) * rConv (rPad x) w cb (ix3 b n ⟨l.val / 64 * 64 + y.val, by omega⟩)
      = cvs x w cb b n.val ⟨l.val / 64 * 64 + y.val, by omega⟩ * wr (ix3 ⟨l.val / 64, by omega⟩ y ⟨l.val % 64, by omega⟩) :=
    fun y => by rw [rConv_at, mul_comm]
  rw [Finset.sum_congr rfl fun y _ => e y]

/-- The softplus of the negated parameter at an index. -/
theorem rSp_at (l : Fin 512) : rSp (Host.negf lam : FVec Ideal S512 .f32) (ix1 l) = sp (lam (ix1 l)) := by
  unfold rSp
  pointwise
  rw [if_neg (fun h => h rfl)]
  rfl

/-- The logarithm of the decay at an index. -/
theorem rLa_at (b : Fin 4) (n : Fin 8192) (l : Fin 512) : rLa (rN8 (rGate br wr (rConv (rPad x) w cb))) (rSp (Host.negf lam : FVec Ideal S512 .f32)) (ix3 b n l)
    = la (sg (pre (fun q k o => wr (ix3 q k o)) (fun l => br (ix1 l)) (cvs x w cb b n.val) l)) (lam (ix1 l)) := by
  unfold rLa rN8
  pointwise
  rw [rGate_at, rSp_at]
  rfl

/-- The decay at an index. -/
theorem rA_at (b : Fin 4) (n : Fin 8192) (l : Fin 512) : rA (rN8 (rGate br wr (rConv (rPad x) w cb))) (rSp (Host.negf lam : FVec Ideal S512 .f32)) (ix3 n b l)
    = avs x w cb wr br lam b l n.val := by
  unfold rA
  pointwise
  rw [rLa_at]
  rfl

/-- The scaled input at an index. -/
theorem rU_at (wi : FVec Ideal S8x64x64 .f32) (bi : FVec Ideal S512 .f32) (b : Fin 4) (n : Fin 8192) (l : Fin 512) :
    rU (rGate bi wi (rConv (rPad x) w cb)) (rN8 (rGate br wr (rConv (rPad x) w cb))) (rConv (rPad x) w cb) (rSp (Host.negf lam : FVec Ideal S512 .f32)) (ix3 n b l)
    = uvs x w cb wr br wi bi lam b l n.val := by
  unfold rU
  pointwise
  rw [rLa_at, rGate_at, rConv_at, expm1_two (la_np _ (sg_nn _))]
  rfl

/-! ## The loop -/

/-- The state before frame `k`. -/
def hst (a u : ℕ → EReal) : ℕ → EReal
  | 0 => 0
  | k + 1 => lin a u 0 k

/-- One step of the recurrence from the state before it. -/
theorem hst_step (a u : ℕ → EReal) : ∀ k, a k * hst a u k + u k = lin a u 0 k
  | 0 => rfl
  | k + 1 => rfl

variable (A U Y : FVec Ideal S8192x4x512 .f32) (H : FVec Ideal S4x512 .f32) (k : Fin 8192)

/-- The start of trip `k`'s slices. -/
def st3 (i : Fin 3) : Int :=
  ((![fun _ => BitVec.ofNat 32 k.val, constantI S_ 32 0#32, constantI S_ 32 0#32] : Fin 3 → IVec S_ 32) i (Shape.Idx.first h_S_)).toInt

/-- One trip's new state from the arrays it reads. -/
def rStep : FVec Ideal S4x512 .f32 :=
  addf (mulf (shapeCast S4x512 (Host.dynamicSlice S1x4x512 A (st3 k) sliceFits_S8192x4x512_S1x4x512) shapeCasts_S1x4x512_S4x512) H)
    (shapeCast S4x512 (Host.dynamicSlice S1x4x512 U (st3 k) sliceFits_S8192x4x512_S1x4x512) shapeCasts_S1x4x512_S4x512)

/-- One trip's stacked states from the arrays it reads. -/
def rStack : FVec Ideal S8192x4x512 .f32 :=
  Host.dynamicUpdateSlice Y (broadcastInDim S1x4x512 ![1, 2] bcast_S4x512_S1x4x512_1_2 H) (st3 k) updateFits_S8192x4x512_S1x4x512

/-- The slices start at frame `k`. -/
theorem st3_eq : st3 k = ![(k.val : Int), 0, 0] := by
  have hk : (BitVec.ofNat 32 k.val).toInt = (k.val : Int) := by
    have := k.isLt
    rw [BitVec.toInt_eq_toNat_of_lt (by simp; omega)]
    simp
    omega
  funext i
  fin_cases i
  · exact hk
  · rfl
  · rfl

/-- The first coordinate of the slices' start is in range. -/
theorem cs0 (h : S1x4x512.rank = S8192x4x512.rank) : Host.clampedStart S8192x4x512 S1x4x512 h ![(k.val : Int), 0, 0] 0 = k.val := by
  have := k.isLt
  simp [Host.clampedStart]
  omega

/-- The other coordinates of the slices' start are zero. -/
theorem cs1 (h : S1x4x512.rank = S8192x4x512.rank) : Host.clampedStart S8192x4x512 S1x4x512 h ![(k.val : Int), 0, 0] 1 = 0 := by
  simp [Host.clampedStart]

/-- The last coordinate of the slices' start is zero. -/
theorem cs2 (h : S1x4x512.rank = S8192x4x512.rank) : Host.clampedStart S8192x4x512 S1x4x512 h ![(k.val : Int), 0, 0] 2 = 0 := by
  simp [Host.clampedStart]

/-- One trip's new state at an index. -/
theorem rStep_at (b : Fin 4) (l : Fin 512) : rStep A U H k (ix2 b l) = A (ix3 k b l) * H (ix2 b l) + U (ix3 k b l) := by
  unfold rStep
  rw [st3_eq]
  pointwise
  simp only [cs0, cs1, cs2, zero_add, Fin.eta]

/-- One trip's stacked states at an index. -/
theorem rStack_at (n : Fin 8192) (b : Fin 4) (l : Fin 512) : rStack Y H k (ix3 n b l) = if n = k then H (ix2 b l) else Y (ix3 n b l) := by
  unfold rStack
  rw [st3_eq]
  pointwise
  simp only [cs0, cs1, cs2, zero_le, and_true, Nat.sub_zero, Fin.eta]
  by_cases h : n = k
  · subst h
    rw [dif_pos ⟨le_rfl, Nat.lt_succ_self _⟩, if_pos rfl]
  · rw [dif_neg (fun q => h (Fin.ext (by omega))), if_neg h]

/-- What the loop carries before its `n`-th trip: the two arrays it reads, the counter, the state and the frames written. -/
structure Inv (a u : Fin 4 → Fin 512 → ℕ → EReal) (V : Valuation τ sig (Elt Ideal)) (n : ℕ) : Prop where
  a_eq : (V (Proc.devRef .tc main_v76_0) : FVec Ideal S8192x4x512 .f32) = A
  u_eq : (V (Proc.devRef .tc main_v76_1) : FVec Ideal S8192x4x512 .f32) = U
  ctr : V (Proc.devRef .tc main_v76_2) = fun _ => BitVec.ofNat 32 n
  st : ∀ b l, (V (Proc.devRef .tc main_v76_3) : FVec Ideal S4x512 .f32) (ix2 b l) = hst (a b l) (u b l) n
  out : ∀ (j : Fin 8192) b l, j.val < n → (V (Proc.devRef .tc main_v76_4) : FVec Ideal S8192x4x512 .f32) (ix3 j b l) = lin (a b l) (u b l) 0 j.val

/-- One trip carries the invariant one frame on. -/
theorem inv_step (a u : Fin 4 → Fin 512 → ℕ → EReal) (ha : ∀ n b l, A (ix3 n b l) = a b l n.val) (hu : ∀ n b l, U (ix3 n b l) = u b l n.val)
    (V : Valuation τ sig (Elt Ideal)) (n : ℕ) (hn : n < 8192) (h : Inv A U a u V n) : Inv A U a u (STEP V) (n + 1) := by
  have hr : res_main_while0b_v97 V = rStep A U (V (Proc.devRef .tc main_v76_3)) ⟨n, hn⟩ := by
    unfold res_main_while0b_v97 rStep
    rw [h.ctr, h.a_eq, h.u_eq]
    rfl
  have hs : ∀ b l, rStep A U (V (Proc.devRef .tc main_v76_3)) ⟨n, hn⟩ (ix2 b l) = lin (a b l) (u b l) 0 n := fun b l => by
    rw [rStep_at, ha, hu, h.st]
    exact hst_step _ _ n
  refine ⟨?_, ?_, ?_, fun b l => ?_, fun j b l hj => ?_⟩
  · rw [STEP_main_v76_0]; exact h.a_eq
  · rw [STEP_main_v76_1]; exact h.u_eq
  · rw [STEP_main_v76_2]
    unfold step_main_v76_2
    rw [h.ctr]
    funext i
    show BitVec.ofNat 32 n + 1#32 = BitVec.ofNat 32 (n + 1)
    rw [BitVec.ofNat_add]
  · rw [STEP_main_v76_3]
    unfold step_main_v76_3
    rw [hr]
    exact hs b l
  · rw [STEP_main_v76_4]
    have e : step_main_v76_4 V = rStack (V (Proc.devRef .tc main_v76_4)) (rStep A U (V (Proc.devRef .tc main_v76_3)) ⟨n, hn⟩) ⟨n, hn⟩ := by
      unfold step_main_v76_4 rStack
      rw [hr, h.ctr]
      rfl
    rw [e, rStack_at]
    by_cases hjn : j = ⟨n, hn⟩
    · subst hjn
      rw [if_pos rfl]
      exact hs b l
    · rw [if_neg hjn]
      exact h.out j b l (lt_of_le_of_ne (Nat.lt_succ_iff.mp hj) fun q => hjn (Fin.ext q))

/-- After `n` trips the invariant holds at `n`. -/
theorem inv_iter (a u : Fin 4 → Fin 512 → ℕ → EReal) (ha : ∀ n b l, A (ix3 n b l) = a b l n.val) (hu : ∀ n b l, U (ix3 n b l) = u b l n.val)
    (V : Valuation τ sig (Elt Ideal)) (h : Inv A U a u V 0) : ∀ n, n ≤ 8192 → Inv A U a u (STEP^[n] V) n
  | 0, _ => h
  | n + 1, hn => by
    rw [Function.iterate_succ_apply']
    exact inv_step A U a u ha hu _ n (by omega) (inv_iter a u ha hu V h n (by omega))

/-! ## The returned array -/

/-- The half of the projection under the GELU. -/
def rY (x : FVec Ideal S4x8192x1024 .f32) : FVec Ideal S4x8192x512 .f32 :=
  extractStridedSlice S4x8192x512 ![0, 0, 512] x slices_S4x8192x1024_S4x8192x512_0_0_512

/-- The returned array from the loop's stacked states and the projection. -/
def rOut (Y : FVec Ideal S8192x4x512 .f32) (x : FVec Ideal S4x8192x1024 .f32) : FVec Ideal S4x8192x512 .bf16 :=
  truncf .bf16 (mulf (transpose S4x8192x512 [1, 0, 2] Y transposes_S8192x4x512_S4x8192x512_1_0_2)
    (mulf (rY x) (mulf (broadcastInDim S4x8192x512 ![] bcast_S_S4x8192x512 (constant S_ .f32 0x3F000000#32))
      (addf (broadcastInDim S4x8192x512 ![] bcast_S_S4x8192x512 (constant S_ .f32 0x3F800000#32))
        (Host.tanh (mulf (broadcastInDim S4x8192x512 ![] bcast_S_S4x8192x512 (constant S_ .f32 0x3F4C422A#32))
          (addf (rY x) (mulf (broadcastInDim S4x8192x512 ![] bcast_S_S4x8192x512 (constant S_ .f32 0x3D372713#32)) (mulf (mulf (rY x) (rY x)) (rY x))))))))))
    bitsLt_bf16_f32

/-- The operations after the loop make the returned array. -/
theorem out_eq : out_main_v93 X = rOut (X (Proc.devRef .tc main_v76_4)) (X (Proc.devRef .tc main_arg0)) := rfl

/-- The returned array at an index. -/
theorem rOut_at (b : Fin 4) (n : Fin 8192) (l : Fin 512) : rOut Y x (ix3 b n l) = Y (ix3 n b l) * ge (x (ix3 b n ⟨512 + l.val, by omega⟩)) := by
  unfold rOut rY ge
  pointwise
  rw [mul_assoc (x _) (x _) (x _)]

/-- The reference's result is the layer. -/
theorem ref_value (b : Fin 4) (n : Fin 8192) (l : Fin 512) :
    (out_main_v93 (STEP^[8192] (entryContents preI m c)) : FVec Ideal S4x8192x512 .bf16) (ix3 b n l)
    = layer (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) b n l := by
  have h0 := inv_iter _ _ _ _ (fun n b l => rA_at (m ((c.tc : Thread nD τ).loc main_arg0)) (m ((c.tc : Thread nD τ).loc main_arg1)) (m ((c.tc : Thread nD τ).loc main_arg2))
      (m ((c.tc : Thread nD τ).loc main_arg4)) (m ((c.tc : Thread nD τ).loc main_arg7)) (m ((c.tc : Thread nD τ).loc main_arg3)) b n l)
    (fun n b l => rU_at (m ((c.tc : Thread nD τ).loc main_arg0)) (m ((c.tc : Thread nD τ).loc main_arg1)) (m ((c.tc : Thread nD τ).loc main_arg2))
      (m ((c.tc : Thread nD τ).loc main_arg4)) (m ((c.tc : Thread nD τ).loc main_arg7)) (m ((c.tc : Thread nD τ).loc main_arg3))
      (m ((c.tc : Thread nD τ).loc main_arg5)) (m ((c.tc : Thread nD τ).loc main_arg6)) b n l)
    (entryContents preI m c)
    ⟨entry_a m c, entry_u m c, ctr_entry m c, fun b l => by rw [entry_h]; pointwise; rfl, fun j b l hj => absurd hj (Nat.not_lt_zero _)⟩ 8192 le_rfl
  have h1 := iter_main_arg0 m c 8192
  generalize STEP^[8192] (entryContents preI m c) = V at h0 h1 ⊢
  rw [out_eq, rOut_at, h0.out n b l n.isLt, h1]
  rfl

end Cert.ReferenceIdeal.LruRef
end
-- ==== Proof.LruClaim.lean ====
/-
  The RG-LRU claims put together: the reference's frame read off its run, and the equality of the two results.
-/
module

public import proofs.«01_k».proof.Defs
public import proofs.«01_k».proof.Proof.LruValue
public import proofs.«01_k».proof.Proof.LruRef

@[expose] public section

set_option maxRecDepth 16384

noncomputable section

open Idealize.ShloMosaic Idealize.ShloMosaic.TcCoe Idealize.SL.Sem

namespace Cert.LruClaim

/-- The reference ends with its arguments unchanged and no counter away from zero. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with equal results. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨fun c => Cert.KernelIdeal.Value.G7 m c, Cert.KernelIdeal.Value.run (F := Ideal) m ρ, ?_⟩
  refine (θ_run Cert.ReferenceIdeal.defs _ _).mono (fun r h c => ⟨(h c).1.trans ?_, (h c).2⟩) (Cert.ReferenceIdeal.Value.run (F := Ideal) m' ρ')
  obtain ⟨a0, a1, a2, a3, a4, a5, a6, a7⟩ := hagree c
  refine funext fun i => ?_
  have e : ∀ (b : Fin 4) (n : Fin 8192) (l : Fin 512), (Cert.ReferenceIdeal.Value.out_main_v93 (Cert.ReferenceIdeal.Value.STEP^[8192] (StableHlo.entryContents Cert.ReferenceIdeal.Value.preI m' c)) : FVec Ideal Cert.KernelIdeal.S4x8192x512 .bf16) (ix3 b n l)
      = (Cert.KernelIdeal.Value.G7 m c : FVec Ideal Cert.KernelIdeal.S4x8192x512 .bf16) (ix3 b n l) := fun b n l => by
    rw [Cert.ReferenceIdeal.LruRef.ref_value, a0, a1, a2, a3, a4, a5, a6, a7]
    exact (Cert.KernelIdeal.LruValue.value m c b n l).symm
  have hi : i = ix3 (i 0) (i 1) (i 2) := by
    funext a
    fin_cases a <;> rfl
  rw [hi]
  exact e (i 0) (i 1) (i 2)

end Cert.LruClaim

end
-- ==== Proof.FfnSpec.lean ====
/-
  The output projection and the feed-forward layer in closed form over the extended reals: the residual, the root mean
  square normalisation, the up-projection, the causal convolution of three taps, the gated product, the down-projection
  and the last normalisation, each as a function of the batch, the frame and the channel.
-/
module

public import Idealize.ShloMosaic.Lib.Pointwise

@[expose] public section

set_option maxRecDepth 16384

noncomputable section

open Idealize.ShloMosaic

namespace Cert.Kernel2Ideal.FfnSpec

/-- The arguments as plain functions of their indices. -/
structure Args where
  /-- the residual stream -/
  x : Fin 4 → Fin 8192 → Fin 1024 → EReal
  /-- the first mixer's output -/
  oa : Fin 4 → Fin 8192 → Fin 512 → EReal
  /-- the second mixer's output -/
  ob : Fin 4 → Fin 8192 → Fin 256 → EReal
  /-- the third mixer's output -/
  oc : Fin 4 → Fin 8192 → Fin 256 → EReal
  /-- the output projection -/
  wo : Fin 1024 → Fin 1024 → EReal
  /-- the second normalisation's scale -/
  g : Fin 1024 → EReal
  /-- the up-projection -/
  wu : Fin 1024 → Fin 5632 → EReal
  /-- the convolution's taps -/
  cw : Fin 3 → Fin 5632 → EReal
  /-- the convolution's bias -/
  cb : Fin 5632 → EReal
  /-- the down-projection -/
  wd : Fin 2816 → Fin 1024 → EReal
  /-- the last normalisation's scale -/
  fg : Fin 1024 → EReal

/-- Root mean square normalisation of a row. -/
def rms (v g : Fin 1024 → EReal) (l : Fin 1024) : EReal :=
  v l * Ideal.rsqrt (Ideal.div (∑ k, v k * v k) (Ideal.ofBits FTy.f32 1149239296#32) + Ideal.ofBits FTy.f32 897988541#32) * g l

/-- The logistic function times its argument. -/
def silu (p : EReal) : EReal := p * Ideal.div 1 (1 + Ideal.exp (-p))

variable (A : Args) (b : Fin 4) (n : Fin 8192)

/-- The mixers' outputs side by side. -/
def Args.mx (k : Fin 1024) : EReal :=
  if h : k.val < 512 then A.oa b n ⟨k.val, h⟩ else if h2 : k.val - 512 < 256 then A.ob b n ⟨k.val - 512, h2⟩ else A.oc b n ⟨k.val - 512 - 256, by omega⟩

/-- The residual plus the output projection. -/
def Args.x1 (l : Fin 1024) : EReal := A.x b n l + ∑ k, A.mx b n k * A.wo k l

/-- The up-projection of the normalised row. -/
def Args.u (j : Fin 5632) : EReal := ∑ k, rms (A.x1 b n) A.g k * A.wu k j

/-- The up-projection `d` frames earlier, zero before the first frame. -/
def Args.back (d : ℕ) (j : Fin 5632) : EReal := if h : d ≤ n.val then A.u b ⟨n.val - d, by omega⟩ j else 0

/-- The causal convolution of three taps with its bias. -/
def Args.conv (j : Fin 5632) : EReal := A.cb j + A.cw 2 j * A.u b n j + A.cw 1 j * A.back b n 1 j + A.cw 0 j * A.back b n 2 j

/-- The gated product. -/
def Args.act (e : Fin 2816) : EReal := silu (A.conv b n ⟨e.val, by omega⟩) * A.conv b n ⟨2816 + e.val, by omega⟩

/-- The residual plus the down-projection. -/
def Args.y (l : Fin 1024) : EReal := A.x1 b n l + ∑ e, A.act b n e * A.wd e l

/-- The layer's output. -/
def Args.out (l : Fin 1024) : EReal := rms (A.y b n) A.fg l

end Cert.Kernel2Ideal.FfnSpec

end
-- ==== Proof.FfnBody.lean ====
/-
  One grid point of the output projection and feed-forward kernel. The body's stores are read back into named terms over
  the blocks it loads: the residual, the normalised rows, the 22 up-projections, their convolutions, the running sum of
  the down-projections and the last normalisation.
-/
module

public import proofs.«01_k».proof.Proof.Gen.Kernel2Ideal.Frame
public import Idealize.ShloMosaic.Lib.Pipeline.ValueKit
public import Idealize.ShloMosaic.Lib.Pipeline.ReadBack
public import Idealize.ShloMosaic.Lib.Pointwise
public import Idealize.ShloMosaic.Lib.Pipeline.Value

@[expose] public section

set_option maxRecDepth 16384

noncomputable section

open Idealize.ShloMosaic Idealize.ShloMosaic.TcCoe

namespace Cert.Kernel2Ideal.FfnBody

open Cert.Kernel2Ideal Cert.Kernel2Ideal.Gen

/-- The first column of stream `k`: the gate's chunks at even `k`, the value's at odd. -/
def col (k : ℕ) : ℕ := (k % 2) * 2816 + (k / 2 % 11) * 256

/-- Every stream's 256 columns lie inside the 5632. -/
theorem col_le (k : ℕ) : col k + 256 ≤ 5632 := by unfold col; omega

/-- A row of two-dimensional bounds from its two entries. -/
theorem inb2 {a b p q A B : ℕ} (h0 : a + p ≤ A) (h1 : b + q ≤ B) : ∀ d, (![a, b] : Fin 2 → ℕ) d + (![p, q] : Fin 2 → ℕ) d ≤ (![A, B] : Fin 2 → ℕ) d := by
  intro d; fin_cases d
  · exact h0
  · exact h1

/-- The bounds of stream `k`'s row in the carried buffer. -/
theorem inbT (k : ℕ) : ∀ d, (![k % 22, 0, 0] : Fin 3 → ℕ) d + (![1, 8, 256] : Fin 3 → ℕ) d ≤ (![22, 8, 256] : Fin 3 → ℕ) d := by
  intro d; fin_cases d
  · show k % 22 + 1 ≤ 22; omega
  · exact le_refl _
  · exact le_refl _

section Terms

variable {F : FTy → Type} [FloatOps F]

/-- The block of the residual plus the output projection. -/
def xres (x0 : Vec F S1x512x1024 .f32) (x1 : Vec F S1x512x512 .bf16) (x2 x3 : Vec F S1x256x512 .bf16) (x4 : Vec F S1024x1024 .bf16) : FVec F S512x1024 .f32 :=
  k0_pay3 x1 (View.ld x4 (Rect.unit ![0, 0] ![512, 1024] inb_S1024x1024_S512x1024_0_0)) x2 (View.ld x4 (Rect.unit ![512, 0] ![256, 1024] inb_S1024x1024_S256x1024_512_0)) x3
    (View.ld x4 (Rect.unit ![768, 0] ![256, 1024] inb_S1024x1024_S256x1024_768_0)) x0

/-- The block's normalised rows. -/
def hrow (x0 : Vec F S1x512x1024 .f32) (x1 : Vec F S1x512x512 .bf16) (x2 x3 : Vec F S1x256x512 .bf16) (x4 : Vec F S1024x1024 .bf16) (x5 : Vec F S1x1024 .f32) : FVec F S512x1024 .bf16 :=
  k0_pay6 (xres x0 x1 x2 x3 x4) (k0_pay4 x5) (k0_pay5 x1 (View.ld x4 (Rect.unit ![0, 0] ![512, 1024] inb_S1024x1024_S512x1024_0_0)) x2 (View.ld x4 (Rect.unit ![512, 0] ![256, 1024] inb_S1024x1024_S256x1024_512_0)) x3
    (View.ld x4 (Rect.unit ![768, 0] ![256, 1024] inb_S1024x1024_S256x1024_768_0)) x0)

/-- The up-projection of stream `k`. -/
def up (h : FVec F S512x1024 .bf16) (x6 : Vec F S1024x5632 .bf16) (k : ℕ) : FVec F S512x256 .f32 :=
  k0_pay15 h (View.ld x6 (Rect.unit (s := S1024x5632) ![0, col k] ![1024, 256] (inb2 (le_refl 1024) (col_le k))))

/-- The row of stream `k` in the carried buffer. -/
abbrev rowT (k : ℕ) : Rect S22x8x256 := Rect.unit (s := S22x8x256) ![k % 22, 0, 0] ![1, 8, 256] (inbT k)

/-- The pieces stored to the carried buffer before stream `k`, over `base`. -/
def tl (u : ℕ → FVec F S512x256 .f32) (base : List (View.Piece (Elt F) S22x8x256 .f32)) : ℕ → List (View.Piece (Elt F) S22x8x256 .f32)
  | 0 => base
  | k + 1 => ⟨rowT k, k0_pay31 (u k)⟩ :: tl u base k

/-- The zeros a first point stores to the carried buffer. -/
def zero22 : List (View.Piece (Elt F) S22x8x256 .f32) := [⟨Rect.unit ![0, 0, 0] ![22, 8, 256] inb_S22x8x256_S22x8x256_0_0_0, k0_pay2⟩]

/-- The carried row of stream `k` of contents `X`. -/
def rd (X : Vec F S22x8x256 .f32) (k : ℕ) : Vec F S1x8x256 .f32 := View.ld X (rowT k)

/-- 512 rows of the row buffer from row `j` on, the up-projection `u` stored from row 8 on and the carried rows `t` before it. -/
def zrd (u : FVec F S512x256 .f32) (t : FVec F S8x256 .f32) (j : ℕ)
    (inb : ∀ a, (![j, 0] : Fin 2 → ℕ) a + (![512, 256] : Fin 2 → ℕ) a ≤ S520x256.size a) : Vec F S512x256 .f32 :=
  View.ld (View.canon [⟨Rect.unit (s := S520x256) ![8, 0] ![512, 256] inb_S520x256_S512x256_8_0, u⟩,
    ⟨Rect.unit (s := S520x256) ![0, 0] ![8, 256] inb_S520x256_S8x256_0_0, t⟩]) (Rect.unit (s := S520x256) ![j, 0] ![512, 256] inb)

/-- A place of the up-projection's rectangle. -/
theorem emb8 (q : Fin 520) (h : 8 ≤ q.val) (l : Fin 256) :
    (Rect.unit (s := S520x256) ![8, 0] ![512, 256] inb_S520x256_S512x256_8_0).emb (ix2 (⟨q.val - 8, by omega⟩ : Fin 512) l) = ix2 q l := by
  funext a
  fin_cases a
  · exact Fin.ext ((Rect.idx_unit_val _ _ _ _ 0).trans (by show 8 + (q.val - 8) = q.val; omega))
  · exact Fin.ext ((Rect.idx_unit_val _ _ _ _ 1).trans (by show 0 + l.val = l.val; omega))

/-- A place before the up-projection's rectangle. -/
theorem not8 (q : Fin 520) (h : ¬8 ≤ q.val) (l : Fin 256) : (ix2 q l : S520x256.Idx) ∉ (Rect.unit (s := S520x256) ![8, 0] ![512, 256] inb_S520x256_S512x256_8_0).set := by
  rw [Rect.mem_set_unit]
  exact fun e => h (e 0).1

/-- A place of the carried rows' rectangle. -/
theorem emb0 (q : Fin 520) (h : q.val < 8) (l : Fin 256) :
    (Rect.unit (s := S520x256) ![0, 0] ![8, 256] inb_S520x256_S8x256_0_0).emb (ix2 (⟨q.val, h⟩ : Fin 8) l) = ix2 q l := by
  funext a
  fin_cases a
  · exact Fin.ext ((Rect.idx_unit_val _ _ _ _ 0).trans (by show 0 + q.val = q.val; omega))
  · exact Fin.ext ((Rect.idx_unit_val _ _ _ _ 1).trans (by show 0 + l.val = l.val; omega))

/-- What the row buffer holds: the up-projection from row 8 on, the carried rows before it, whatever was stored earlier. -/
theorem canon_at (u : FVec F S512x256 .f32) (t : FVec F S8x256 .f32) (L : List (View.Piece (Elt F) S520x256 .f32)) (q : Fin 520) (l : Fin 256) :
    View.canon (⟨Rect.unit (s := S520x256) ![8, 0] ![512, 256] inb_S520x256_S512x256_8_0, u⟩ ::
      ⟨Rect.unit (s := S520x256) ![0, 0] ![8, 256] inb_S520x256_S8x256_0_0, t⟩ :: L) (ix2 q l)
    = if h : 8 ≤ q.val then u (ix2 ⟨q.val - 8, by omega⟩ l) else t (ix2 ⟨q.val, by omega⟩ l) := by
  by_cases h : 8 ≤ q.val
  · rw [dif_pos h, ← emb8 q h l, View.canon_cons_emb]
  · rw [dif_neg h]
    refine (View.canon_cons_of_not_mem (Val := Elt F) (⟨Rect.unit ![8, 0] ![512, 256] inb_S520x256_S512x256_8_0, u⟩ : View.Piece (Elt F) S520x256 .f32)
      _ (not8 q h l)).trans ?_
    rw [← emb0 q (by omega) l, View.canon_cons_emb]

/-- A read of the row buffer depends on the last two stores alone. -/
theorem zrd_of (v : View sig .tc .vmem S520x256 .f32) (u : FVec F S512x256 .f32) (t : FVec F S8x256 .f32) (L : List (View.Piece (Elt F) S520x256 .f32)) (j : ℕ)
    (inb : ∀ a, (![j, 0] : Fin 2 → ℕ) a + (![512, 256] : Fin 2 → ℕ) a ≤ S520x256.size a) :
    v.readCov (⟨Rect.unit (s := S520x256) ![8, 0] ![512, 256] inb_S520x256_S512x256_8_0, u⟩ ::
      ⟨Rect.unit (s := S520x256) ![0, 0] ![8, 256] inb_S520x256_S8x256_0_0, t⟩ :: L) (Rect.unit (s := S520x256) ![j, 0] ![512, 256] inb).toLoadRect
    = zrd u t j inb := by
  rw [View.readCov_eq_canon']
  unfold zrd
  have e : View.canon (⟨Rect.unit (s := S520x256) ![8, 0] ![512, 256] inb_S520x256_S512x256_8_0, u⟩ ::
      ⟨Rect.unit (s := S520x256) ![0, 0] ![8, 256] inb_S520x256_S8x256_0_0, t⟩ :: L)
      = View.canon [⟨Rect.unit (s := S520x256) ![8, 0] ![512, 256] inb_S520x256_S512x256_8_0, u⟩,
      ⟨Rect.unit (s := S520x256) ![0, 0] ![8, 256] inb_S520x256_S8x256_0_0, t⟩] := by
    funext i
    have hi : i = ix2 (i 0) (i 1) := by funext a; fin_cases a <;> rfl
    rw [hi]
    exact (canon_at u t L (i 0) (i 1)).trans (canon_at u t [] (i 0) (i 1)).symm
  rw [e]

/-- The convolution of stream `k`. -/
def cv (x7 : Vec F S3x5632 .f32) (x8 : Vec F S1x5632 .f32) (u : ℕ → FVec F S512x256 .f32) (T : ℕ → Vec F S1x8x256 .f32) (k : ℕ) : FVec F S512x256 .f32 :=
  k0_pay64 (u k) (View.ld x7 (Rect.unit (s := S3x5632) ![0, col k] ![3, 256] (inb2 (le_refl 3) (col_le k))))
    (View.ld x8 (Rect.unit (s := S1x5632) ![0, col k] ![1, 256] (inb2 (le_refl 1) (col_le k))))
    (zrd (k0_pay30 (u k)) (k0_pay29 (T k)) 7 inb_S520x256_S512x256_7_0) (zrd (k0_pay30 (u k)) (k0_pay29 (T k)) 6 inb_S520x256_S512x256_6_0)

/-- The first chunk's down-projection. -/
def first (g y : FVec F S512x256 .f32) (w : Vec F S256x1024 .bf16) : FVec F S512x1024 .f32 :=
  shapeCast S512x1024 (matmul dot_S512x256_S256x1024_S512x1024_1_0_0_1_n_n none (truncf .bf16 (mulf (k0_pay140 g) y) bitsLt_bf16_f32)
    (shapeCast S256x1024 w shapeCasts_S256x1024_S256x1024) (constant S512x1024 .f32 0x00000000#32)) shapeCasts_S512x1024_S512x1024

/-- Chunk `c`'s rows of the down-projection. -/
def wdn (x9 : Vec F S2816x1024 .bf16) (c : ℕ) : Vec F S256x1024 .bf16 :=
  View.ld x9 (Rect.unit (s := S2816x1024) ![c % 11 * 256, 0] ![256, 1024] (inb2 (by omega) (le_refl 1024)))

/-- The running sum of the down-projections up to chunk `c`, of the convolved streams `y`. -/
def acc (x9 : Vec F S2816x1024 .bf16) (y : ℕ → FVec F S512x256 .f32) : ℕ → FVec F S512x1024 .f32
  | 0 => first (y 0) (y 1) (wdn x9 0)
  | c + 1 => k0_pay141 (y (2 * c + 3)) (k0_pay140 (y (2 * c + 2))) (wdn x9 (c + 1)) (acc x9 y c)

/-- The block of the output. -/
def blockOut (x : FVec F S512x1024 .f32) (x10 : Vec F S1x1024 .f32) (a : FVec F S512x1024 .f32) : Vec F S1x512x1024 .f32 :=
  k0_pay1 (k0_pay142 x a) (k0_pay143 x10) (k0_pay144 x a)

end Terms

section Points

variable {F : FTy → Type} [FloatOps F]

set_option maxHeartbeats 4000000 in
/-- The output at a later point of a batch. -/
theorem out_B (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S520x256 .f32) (harg14 : arg14.IsWhole) (arg15 : Memref sig .tc .vmem S22x8x256 .f32) (harg15 : arg15.IsWhole) (arg16 : Memref sig .tc .vmem S512x1024 .f32) (harg16 : arg16.IsWhole) (hc0 : ¬cond0_0 i)
    (x0 : Vec F S1x512x1024 .f32) (x1 : Vec F S1x512x512 .bf16) (x2 : Vec F S1x256x512 .bf16) (x3 : Vec F S1x256x512 .bf16) (x4 : Vec F S1024x1024 .bf16) (x5 : Vec F S1x1024 .f32) (x6 : Vec F S1024x5632 .bf16) (x7 : Vec F S3x5632 .f32) (x8 : Vec F S1x5632 .f32) (x9 : Vec F S2816x1024 .bf16) (x10 : Vec F S1x1024 .f32) (xs1 : Vec F S22x8x256 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs1
    = blockOut (xres x0 x1 x2 x3 x4) x10 (acc x9 (cv x7 x8 (up (hrow x0 x1 x2 x3 x4 x5) x6) (rd xs1)) 10) := by
  frame_out
  simp (disch := decide) only [↓zrd_of]
  rfl

set_option maxHeartbeats 4000000 in
/-- The output at the first point of a batch. -/
theorem out_A (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S520x256 .f32) (harg14 : arg14.IsWhole) (arg15 : Memref sig .tc .vmem S22x8x256 .f32) (harg15 : arg15.IsWhole) (arg16 : Memref sig .tc .vmem S512x1024 .f32) (harg16 : arg16.IsWhole) (hc0 : cond0_0 i)
    (x0 : Vec F S1x512x1024 .f32) (x1 : Vec F S1x512x512 .bf16) (x2 : Vec F S1x256x512 .bf16) (x3 : Vec F S1x256x512 .bf16) (x4 : Vec F S1024x1024 .bf16) (x5 : Vec F S1x1024 .f32) (x6 : Vec F S1024x5632 .bf16) (x7 : Vec F S3x5632 .f32) (x8 : Vec F S1x5632 .f32) (x9 : Vec F S2816x1024 .bf16) (x10 : Vec F S1x1024 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10
    = blockOut (xres x0 x1 x2 x3 x4) x10 (acc x9 (cv x7 x8 (up (hrow x0 x1 x2 x3 x4 x5) x6) (rd k0_pay2)) 10) := by
  frame_out
  simp (disch := decide) only [↓View.readCov_skip, ↓View.readCov_fill, ↓zrd_of]
  rfl

set_option maxHeartbeats 4000000 in
/-- The carried rows after a later point. -/
theorem tails_B (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S520x256 .f32) (harg14 : arg14.IsWhole) (arg15 : Memref sig .tc .vmem S22x8x256 .f32) (harg15 : arg15.IsWhole) (arg16 : Memref sig .tc .vmem S512x1024 .f32) (harg16 : arg16.IsWhole) (hc0 : ¬cond0_0 i)
    (x0 : Vec F S1x512x1024 .f32) (x1 : Vec F S1x512x512 .bf16) (x2 : Vec F S1x256x512 .bf16) (x3 : Vec F S1x256x512 .bf16) (x4 : Vec F S1024x1024 .bf16) (x5 : Vec F S1x1024 .f32) (x6 : Vec F S1024x5632 .bf16) (x7 : Vec F S3x5632 .f32) (x8 : Vec F S1x5632 .f32) (x9 : Vec F S2816x1024 .bf16) (x10 : Vec F S1x1024 .f32) (xs1 : Vec F S22x8x256 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs1
    = View.canon (tl (up (hrow x0 x1 x2 x3 x4 x5) x6) [] 22) := by
  frame_out
  rfl

set_option maxHeartbeats 4000000 in
/-- The carried rows after the first point. -/
theorem tails_A (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S520x256 .f32) (harg14 : arg14.IsWhole) (arg15 : Memref sig .tc .vmem S22x8x256 .f32) (harg15 : arg15.IsWhole) (arg16 : Memref sig .tc .vmem S512x1024 .f32) (harg16 : arg16.IsWhole) (hc0 : cond0_0 i)
    (x0 : Vec F S1x512x1024 .f32) (x1 : Vec F S1x512x512 .bf16) (x2 : Vec F S1x256x512 .bf16) (x3 : Vec F S1x256x512 .bf16) (x4 : Vec F S1024x1024 .bf16) (x5 : Vec F S1x1024 .f32) (x6 : Vec F S1024x5632 .bf16) (x7 : Vec F S3x5632 .f32) (x8 : Vec F S1x5632 .f32) (x9 : Vec F S2816x1024 .bf16) (x10 : Vec F S1x1024 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10
    = View.canon (tl (up (hrow x0 x1 x2 x3 x4 x5) x6) zero22 22) := by
  frame_out
  rfl

end Points

end Cert.Kernel2Ideal.FfnBody
-- ==== Proof.FfnBlock.lean ====
/-
  One grid point of the output projection and feed-forward kernel against the closed form: when the blocks hold the
  arguments' rows from frame `n0` on and the carried rows hold the eight frames before, the block of the output holds the
  layer's rows and the carried rows become the block's last eight.
-/
module

public import proofs.«01_k».proof.Proof.FfnSpec
public import proofs.«01_k».proof.Proof.FfnBody

@[expose] public section

set_option maxRecDepth 16384

noncomputable section

open Idealize.ShloMosaic Idealize.ShloMosaic.TcCoe

namespace Cert.Kernel2Ideal.FfnBlock

open Cert.Kernel2Ideal Cert.Kernel2Ideal.Gen Cert.Kernel2Ideal.FfnSpec Cert.Kernel2Ideal.FfnBody

/-- Column `l` of stream `k`. -/
abbrev cj (k : ℕ) (l : Fin 256) : Fin 5632 := ⟨col k + l.val, by have := col_le k; omega⟩

section Reads

/-- Row `j + r` read through the window of rows from `j` on: the up-projection from row 8 on, the carried rows before it. -/
theorem zrd_at (u : FVec Ideal S512x256 .f32) (t : FVec Ideal S8x256 .f32) (j : ℕ) (hj : j ≤ 8)
    (inb : ∀ a, (![j, 0] : Fin 2 → ℕ) a + (![512, 256] : Fin 2 → ℕ) a ≤ S520x256.size a) (r : Fin 512) (l : Fin 256) :
    zrd u t j inb (ix2 r l) = if h : 8 ≤ j + r.val then u (ix2 ⟨j + r.val - 8, by omega⟩ l) else t (ix2 ⟨j + r.val, by omega⟩ l) := by
  unfold zrd
  refine (View.ld_unit_apply_of _ _ _ inb _ (ix2 (⟨j + r.val, by omega⟩ : Fin 520) l) fun a => ?_).trans (canon_at u t [] ⟨j + r.val, by omega⟩ l)
  fin_cases a
  · rfl
  · show l.val = 0 + l.val
    omega

/-- The rows stored from row 8 on. -/
theorem pay30_at (u : FVec Ideal S512x256 .f32) (r : Fin 512) (l : Fin 256) : k0_pay30 u (ix2 r l) = u (ix2 r l) := by
  unfold k0_pay30
  pointwise

/-- The carried rows. -/
theorem pay29_at (t : Vec Ideal S1x8x256 .f32) (q : Fin 8) (l : Fin 256) : k0_pay29 t (ix2 q l) = t (ix3 0 q l) := by
  unfold k0_pay29
  pointwise

/-- The rows handed on are the block's last eight. -/
theorem pay31_at (u : FVec Ideal S512x256 .f32) (q : Fin 8) (l : Fin 256) : k0_pay31 u (ix3 0 q l) = u (ix2 ⟨504 + q.val, by omega⟩ l) := by
  unfold k0_pay31
  pointwise

/-- The zeros of a first point. -/
theorem pay2_at (k : Fin 22) (q : Fin 8) (l : Fin 256) : (k0_pay2 (F := Ideal)) (ix3 k q l) = 0 := by
  unfold k0_pay2
  pointwise

/-- The carried row of stream `k`. -/
theorem rd_at (X : Vec Ideal S22x8x256 .f32) (k : ℕ) (q : Fin 8) (l : Fin 256) : rd X k (ix3 0 q l) = X (ix3 ⟨k % 22, by omega⟩ q l) := by
  unfold rd
  pointwise

/-- A place of stream `k`'s row. -/
theorem embT (k : Fin 22) (q : Fin 8) (l : Fin 256) : (rowT k.val).emb (ix3 (0 : Fin 1) q l) = ix3 k q l := by
  funext a
  fin_cases a
  · exact Fin.ext ((Rect.idx_unit_val _ _ _ _ 0).trans (by show k.val % 22 + 0 = k.val; omega))
  · exact Fin.ext ((Rect.idx_unit_val _ _ _ _ 1).trans (by show 0 + q.val = q.val; omega))
  · exact Fin.ext ((Rect.idx_unit_val _ _ _ _ 2).trans (by show 0 + l.val = l.val; omega))

/-- A place of another stream's row. -/
theorem notT (k : Fin 22) (K : ℕ) (hK : K < 22) (h : k.val ≠ K) (q : Fin 8) (l : Fin 256) : (ix3 k q l : S22x8x256.Idx) ∉ (rowT K).set := by
  rw [Rect.mem_set_unit]
  intro e
  have e0 := e 0
  have h1 : K % 22 ≤ k.val := e0.1
  have h2 : k.val < K % 22 + 1 := e0.2
  omega

/-- What the carried buffer holds once every stream has stored its row. -/
theorem tl_at (u : ℕ → FVec Ideal S512x256 .f32) (base : List (View.Piece (Elt Ideal) S22x8x256 .f32)) (k : Fin 22) (q : Fin 8) (l : Fin 256) :
    ∀ K : ℕ, k.val < K → K ≤ 22 → View.canon (tl u base K) (ix3 k q l) = u k.val (ix2 ⟨504 + q.val, by omega⟩ l)
  | 0, h, _ => absurd h (Nat.not_lt_zero _)
  | K + 1, h, hK => by
    unfold tl
    by_cases e : k.val = K
    · subst e
      rw [← embT k q l, View.canon_cons_emb]
      exact pay31_at _ _ _
    · refine (View.canon_cons_of_not_mem (Val := Elt Ideal) (⟨rowT K, k0_pay31 (u K)⟩ : View.Piece (Elt Ideal) S22x8x256 .f32) _ (notT k K (by omega) e q l)).trans ?_
      exact tl_at u base k q l K (by omega) (by omega)

end Reads

section Sums

/-- A sum over the mixers' channels is the sum over the three mixers. -/
theorem sum_mix (f : Fin 1024 → EReal) : ∑ k, f k = (∑ k : Fin 512, f ⟨k.val, by omega⟩) + (∑ k : Fin 256, f ⟨512 + k.val, by omega⟩) + ∑ k : Fin 256, f ⟨768 + k.val, by omega⟩ := by
  have e1 := Fin.sum_univ_add (a := 512) (b := 512) f
  have e2 := Fin.sum_univ_add (a := 256) (b := 256) fun k => f (Fin.natAdd 512 k)
  refine e1.trans ?_
  rw [e2, ← add_assoc]
  refine congr (congrArg HAdd.hAdd (congr (congrArg HAdd.hAdd ?_) ?_)) ?_
  · exact Finset.sum_congr rfl fun k _ => congrArg f (Fin.ext rfl)
  · exact Finset.sum_congr rfl fun k _ => congrArg f (Fin.ext rfl)
  · exact Finset.sum_congr rfl fun k _ => congrArg f (Fin.ext (by show 512 + (256 + k.val) = 768 + k.val; omega))

/-- The running sum of the down-projections. -/
theorem acc_at (x9 : Vec Ideal S2816x1024 .bf16) (y : ℕ → FVec Ideal S512x256 .f32) (r : Fin 512) (l : Fin 1024) : ∀ c : ℕ,
    acc x9 y c (ix2 r l) = ∑ s ∈ Finset.range (c + 1), ∑ k : Fin 256, silu (y (2 * s) (ix2 r k)) * y (2 * s + 1) (ix2 r k) * x9 (ix2 ⟨s % 11 * 256 + k.val, by omega⟩ l)
  | 0 => by
    rw [Finset.sum_range_one]
    unfold acc first wdn k0_pay140
    pointwise
    simp only [zero_sub]
    rfl
  | c + 1 => by
    rw [Finset.sum_range_succ, ← acc_at x9 y r l c]
    show k0_pay141 (y (2 * c + 3)) (k0_pay140 (y (2 * c + 2))) (wdn x9 (c + 1)) (acc x9 y c) (ix2 r l) = _
    unfold k0_pay141 wdn k0_pay140
    pointwise
    simp only [zero_sub]
    rfl

end Sums

/-- Frame `r` of the block. -/
abbrev fr (n0 : ℕ) (hn : n0 + 512 ≤ 8192) (r : Fin 512) : Fin 8192 := ⟨n0 + r.val, by omega⟩

/-- The carried rows hold the eight frames before the block, zero before the first frame. -/
def Tail (A : Args) (b : Fin 4) (n0 : ℕ) (hn : n0 + 512 ≤ 8192) (T : ℕ → Vec Ideal S1x8x256 .f32) : Prop :=
  ∀ (k : ℕ) (hk : k < 22) (q : Fin 8) (l : Fin 256), T k (ix3 0 q l) = if h : 8 ≤ n0 + q.val then A.u b ⟨n0 + q.val - 8, by omega⟩ (cj k l) else 0

variable (A : Args) (b : Fin 4) (n0 : ℕ) (hn : n0 + 512 ≤ 8192)
  (x0 : Vec Ideal S1x512x1024 .f32) (x1 : Vec Ideal S1x512x512 .bf16) (x2 x3 : Vec Ideal S1x256x512 .bf16) (x4 : Vec Ideal S1024x1024 .bf16)
  (x5 : Vec Ideal S1x1024 .f32) (x6 : Vec Ideal S1024x5632 .bf16) (x7 : Vec Ideal S3x5632 .f32) (x8 : Vec Ideal S1x5632 .f32)
  (x9 : Vec Ideal S2816x1024 .bf16) (x10 : Vec Ideal S1x1024 .f32)

/-- The blocks hold the arguments' rows from frame `n0` on, and the weights. -/
structure Blk : Prop where
  hx : ∀ (r : Fin 512) (l : Fin 1024), x0 (ix3 0 r l) = A.x b (fr n0 hn r) l
  ha : ∀ (r : Fin 512) (k : Fin 512), x1 (ix3 0 r k) = A.oa b (fr n0 hn r) k
  hb : ∀ (r : Fin 512) (k : Fin 256), x2 (ix3 0 k r) = A.ob b (fr n0 hn r) k
  hc : ∀ (r : Fin 512) (k : Fin 256), x3 (ix3 0 k r) = A.oc b (fr n0 hn r) k
  ho : ∀ (k l : Fin 1024), x4 (ix2 k l) = A.wo k l
  hg : ∀ l : Fin 1024, x5 (ix2 0 l) = A.g l
  hu : ∀ (k : Fin 1024) (j : Fin 5632), x6 (ix2 k j) = A.wu k j
  hw : ∀ (k : Fin 3) (j : Fin 5632), x7 (ix2 k j) = A.cw k j
  hcb : ∀ j : Fin 5632, x8 (ix2 0 j) = A.cb j
  hd : ∀ (e : Fin 2816) (l : Fin 1024), x9 (ix2 e l) = A.wd e l
  hf : ∀ l : Fin 1024, x10 (ix2 0 l) = A.fg l

variable {A b n0 hn x0 x1 x2 x3 x4 x5 x6 x7 x8 x9 x10} (H : Blk A b n0 hn x0 x1 x2 x3 x4 x5 x6 x7 x8 x9 x10)
include H

/-- The residual plus the output projection. -/
theorem Blk.xres (r : Fin 512) (l : Fin 1024) : xres x0 x1 x2 x3 x4 (ix2 r l) = A.x1 b (fr n0 hn r) l := by
  unfold FfnBody.xres k0_pay3
  pointwise
  simp only [H.hx, H.ha, H.hb, H.hc, H.ho]
  unfold Args.x1
  rw [sum_mix]
  refine congrArg (A.x b (fr n0 hn r) l + ·) (congr (congrArg HAdd.hAdd (congr (congrArg HAdd.hAdd ?_) ?_)) ?_)
  · refine Finset.sum_congr rfl fun k _ => congrArg (· * A.wo ⟨k.val, by omega⟩ l) ?_
    unfold Args.mx
    rw [dif_pos (show k.val < 512 from k.isLt)]
  · refine Finset.sum_congr rfl fun k _ => congrArg (· * A.wo ⟨512 + k.val, by omega⟩ l) ?_
    unfold Args.mx
    rw [dif_neg (show ¬512 + k.val < 512 by omega), dif_pos (show 512 + k.val - 512 < 256 by omega)]
    exact congrArg (A.ob b (fr n0 hn r)) (Fin.ext (by show k.val = 512 + k.val - 512; omega))
  · refine Finset.sum_congr rfl fun k _ => congrArg (· * A.wo ⟨768 + k.val, by omega⟩ l) ?_
    unfold Args.mx
    rw [dif_neg (show ¬768 + k.val < 512 by omega), dif_neg (show ¬768 + k.val - 512 < 256 by omega)]
    exact congrArg (A.oc b (fr n0 hn r)) (Fin.ext (by show k.val = 768 + k.val - 512 - 256; omega))

/-- The normalised rows. -/
theorem Blk.hrow (r : Fin 512) (l : Fin 1024) : hrow x0 x1 x2 x3 x4 x5 (ix2 r l) = rms (A.x1 b (fr n0 hn r)) A.g l := by
  have e : ∀ k : Fin 1024, k0_pay3 x1 (View.ld x4 (Rect.unit ![0, 0] ![512, 1024] inb_S1024x1024_S512x1024_0_0)) x2
      (View.ld x4 (Rect.unit ![512, 0] ![256, 1024] inb_S1024x1024_S256x1024_512_0)) x3
      (View.ld x4 (Rect.unit ![768, 0] ![256, 1024] inb_S1024x1024_S256x1024_768_0)) x0 (ix2 r k) = A.x1 b (fr n0 hn r) k := fun k => H.xres r k
  unfold FfnBody.hrow k0_pay6 k0_pay5 k0_pay4
  pointwise
  simp only [H.xres, e, H.hg]
  rfl

/-- The up-projection of stream `k`. -/
theorem Blk.up (k : ℕ) (r : Fin 512) (l : Fin 256) : up (FfnBody.hrow x0 x1 x2 x3 x4 x5) x6 k (ix2 r l) = A.u b (fr n0 hn r) (cj k l) := by
  unfold FfnBody.up k0_pay15
  pointwise
  simp only [H.hrow, H.hu]
  rfl

/-- The shifted reads. -/
theorem Blk.back {T : ℕ → Vec Ideal S1x8x256 .f32} (hT : Tail A b n0 hn T) (k : ℕ) (hk : k < 22) (j d : ℕ) (hj : j + d = 8)
    (inb : ∀ a, (![j, 0] : Fin 2 → ℕ) a + (![512, 256] : Fin 2 → ℕ) a ≤ S520x256.size a) (r : Fin 512) (l : Fin 256) :
    zrd (k0_pay30 (FfnBody.up (FfnBody.hrow x0 x1 x2 x3 x4 x5) x6 k)) (k0_pay29 (T k)) j inb (ix2 r l) = A.back b (fr n0 hn r) d (cj k l) := by
  rw [zrd_at _ _ j (by omega)]
  unfold Args.back
  by_cases h : 8 ≤ j + r.val
  · rw [dif_pos h, pay30_at, H.up, dif_pos (show d ≤ n0 + r.val by omega)]
    exact congrArg (fun q => A.u b q (cj k l)) (Fin.ext (by show n0 + (j + r.val - 8) = n0 + r.val - d; omega))
  · rw [dif_neg h, pay29_at, hT k hk]
    by_cases h2 : d ≤ n0 + r.val
    · rw [dif_pos (show 8 ≤ n0 + (j + r.val) by omega), dif_pos h2]
      exact congrArg (fun q => A.u b q (cj k l)) (Fin.ext (by show n0 + (j + r.val) - 8 = n0 + r.val - d; omega))
    · rw [dif_neg (show ¬8 ≤ n0 + (j + r.val) by omega), dif_neg h2]

/-- The convolution of stream `k`. -/
theorem Blk.cv {T : ℕ → Vec Ideal S1x8x256 .f32} (hT : Tail A b n0 hn T) (k : ℕ) (hk : k < 22) (r : Fin 512) (l : Fin 256) :
    cv x7 x8 (FfnBody.up (FfnBody.hrow x0 x1 x2 x3 x4 x5) x6) T k (ix2 r l) = A.conv b (fr n0 hn r) (cj k l) := by
  unfold FfnBody.cv k0_pay64
  pointwise
  rw [H.back hT k hk 7 1 rfl, H.back hT k hk 6 2 rfl, H.up]
  simp only [H.hw, H.hcb]
  rfl

/-- The down-projection of the block. -/
theorem Blk.acc {T : ℕ → Vec Ideal S1x8x256 .f32} (hT : Tail A b n0 hn T) (r : Fin 512) (l : Fin 1024) :
    acc x9 (FfnBody.cv x7 x8 (FfnBody.up (FfnBody.hrow x0 x1 x2 x3 x4 x5) x6) T) 10 (ix2 r l) = ∑ e, A.act b (fr n0 hn r) e * A.wd e l := by
  rw [acc_at, Finset.sum_range]
  refine Fin.sum_mul_add_congr fun s k hl => ?_
  have hs : s.val < 11 := s.isLt
  rw [H.cv hT _ (by omega), H.cv hT _ (by omega), H.hd]
  unfold Args.act
  have e0 : cj (2 * s.val) k = ⟨s.val * 256 + k.val, by omega⟩ := Fin.ext (by show (2 * s.val) % 2 * 2816 + (2 * s.val) / 2 % 11 * 256 + k.val = s.val * 256 + k.val; omega)
  have e1 : cj (2 * s.val + 1) k = ⟨2816 + (s.val * 256 + k.val), by omega⟩ := Fin.ext (by show (2 * s.val + 1) % 2 * 2816 + (2 * s.val + 1) / 2 % 11 * 256 + k.val = 2816 + (s.val * 256 + k.val); omega)
  have e2 : (⟨s.val % 11 * 256 + k.val, by omega⟩ : Fin 2816) = ⟨s.val * 256 + k.val, hl⟩ := Fin.ext (by show s.val % 11 * 256 + k.val = _; rw [Nat.mod_eq_of_lt hs])
  rw [e0, e1, e2]

/-- The block of the output. -/
theorem Blk.out {T : ℕ → Vec Ideal S1x8x256 .f32} (hT : Tail A b n0 hn T) (r : Fin 512) (l : Fin 1024) :
    blockOut (FfnBody.xres x0 x1 x2 x3 x4) x10 (FfnBody.acc x9 (FfnBody.cv x7 x8 (FfnBody.up (FfnBody.hrow x0 x1 x2 x3 x4 x5) x6) T) 10) (ix3 0 r l) = A.out b (fr n0 hn r) l := by
  unfold blockOut k0_pay1 k0_pay144 k0_pay142 k0_pay143
  pointwise
  simp only [H.xres, H.acc hT, H.hf]
  rfl

end Cert.Kernel2Ideal.FfnBlock

end
-- ==== Proof.FfnRef.lean ====
/-
  The reference of the output projection and feed-forward program at an index is the closed form of its arguments.
-/
module

public import proofs.«01_k».proof.Proof.FfnSpec
public import proofs.«01_k».proof.Proof.Gen.Reference2Ideal.Run
public import Idealize.ShloMosaic.Lib.Pointwise

@[expose] public section

set_option maxRecDepth 16384

noncomputable section

open Idealize.ShloMosaic Idealize.ShloMosaic.TcCoe Idealize.ShloMosaic.StableHlo

namespace Cert.Reference2Ideal.FfnRef

open Cert.Reference2Ideal Cert.Reference2Ideal.Gen Cert.Reference2Ideal.Value Cert.Kernel2Ideal.FfnSpec

variable (V : Valuation τ sig (Elt Ideal))

/-- The reference's arguments. -/
def args : Args where
  x b n l := (V (Proc.devRef .tc main_arg0) : FVec Ideal S4x8192x1024 .f32) (ix3 b n l)
  oa b n l := (V (Proc.devRef .tc main_arg1) : FVec Ideal S4x8192x512 .bf16) (ix3 b n l)
  ob b n l := (V (Proc.devRef .tc main_arg2) : FVec Ideal S4x8192x256 .bf16) (ix3 b n l)
  oc b n l := (V (Proc.devRef .tc main_arg3) : FVec Ideal S4x8192x256 .bf16) (ix3 b n l)
  wo k l := (V (Proc.devRef .tc main_arg4) : FVec Ideal S1024x1024 .f32) (ix2 k l)
  g l := (V (Proc.devRef .tc main_arg5) : FVec Ideal S1024 .f32) (ix1 l)
  wu k l := (V (Proc.devRef .tc main_arg6) : FVec Ideal S1024x5632 .f32) (ix2 k l)
  cw k l := (V (Proc.devRef .tc main_arg7) : FVec Ideal S3x5632 .f32) (ix2 k l)
  cb l := (V (Proc.devRef .tc main_arg8) : FVec Ideal S5632 .f32) (ix1 l)
  wd k l := (V (Proc.devRef .tc main_arg9) : FVec Ideal S2816x1024 .f32) (ix2 k l)
  fg l := (V (Proc.devRef .tc main_arg10) : FVec Ideal S1024 .f32) (ix1 l)

/-- The residual plus the output projection. -/
theorem v5_at (b : Fin 4) (n : Fin 8192) (l : Fin 1024) : (res_main_v5 V : FVec Ideal S4x8192x1024 .f32) (ix3 b n l) = (args V).x1 b n l := by
  unfold res_main_v5
  pointwise
  rfl

/-- The up-projection. -/
theorem v19_at (b : Fin 4) (n : Fin 8192) (j : Fin 5632) : (res_main_v19 V : FVec Ideal S4x8192x5632 .f32) (ix3 b n j) = (args V).u b n j := by
  unfold res_main_v19
  pointwise
  simp only [v5_at]
  rfl

/-- The integer zero as a float. -/
theorem sitofp_zero : (FloatOps.sitofp FTy.f32 0#32 : Ideal FTy.f32) = 0 := by
  show (((0#32 : BitVec 32).toInt : ℝ) : EReal) = 0
  simp

/-- The padded up-projection two frames before. -/
theorem back2 (A : Args) (b : Fin 4) (n : Fin 8192) (j : Fin 5632) :
    (if h : 2 ≤ n.val ∧ n.val - 2 < 8192 then A.u b ⟨n.val - 2, h.2⟩ j else (FloatOps.sitofp FTy.f32 0#32 : Ideal FTy.f32)) = A.back b n 2 j := by
  rw [sitofp_zero]
  unfold Args.back
  by_cases h : 2 ≤ n.val
  · rw [dif_pos ⟨h, by omega⟩, dif_pos h]
  · rw [dif_neg (fun e => h e.1), dif_neg h]

/-- The padded up-projection one frame before. -/
theorem back1 (A : Args) (b : Fin 4) (n : Fin 8192) (j : Fin 5632) :
    (if h : 2 ≤ 1 + n.val ∧ 1 + n.val - 2 < 8192 then A.u b ⟨1 + n.val - 2, h.2⟩ j else (FloatOps.sitofp FTy.f32 0#32 : Ideal FTy.f32)) = A.back b n 1 j := by
  rw [sitofp_zero]
  unfold Args.back
  by_cases h : 1 ≤ n.val
  · rw [dif_pos ⟨by omega, by omega⟩, dif_pos h]
    exact congrArg (fun q => A.u b q j) (Fin.ext (by show 1 + n.val - 2 = n.val - 1; omega))
  · rw [dif_neg (fun e => h (by omega)), dif_neg h]

/-- The reference's order of the taps. -/
theorem taps (p q r s : EReal) : p + q + r + s = s + r + q + p := by abel

/-- The convolved gate. -/
theorem v46_at (b : Fin 4) (n : Fin 8192) (e : Fin 2816) : (res_main_v46 V : FVec Ideal S4x8192x2816 .f32) (ix3 b n e) = (args V).conv b n ⟨e.val, by omega⟩ := by
  unfold res_main_v46 res_main_v23 res_main_v21
  pointwise
  simp only [v19_at]
  rw [back2 (args V) b n ⟨e.val, by omega⟩, back1 (args V) b n ⟨e.val, by omega⟩]
  exact taps _ _ _ _

/-- The residual plus the down-projection. -/
theorem v77_at (b : Fin 4) (n : Fin 8192) (l : Fin 1024) : (res_main_v77 V : FVec Ideal S4x8192x1024 .f32) (ix3 b n l) = (args V).y b n l := by
  unfold res_main_v77 res_main_v48 res_main_v50
  pointwise
  simp only [v46_at, v5_at, v19_at]
  refine congrArg ((args V).x1 b n l + ·) (Finset.sum_congr rfl fun e _ => ?_)
  rw [back2 (args V) b n ⟨2816 + e.val, by omega⟩, back1 (args V) b n ⟨2816 + e.val, by omega⟩]
  refine congrArg (· * (args V).wd e l) ?_
  refine congrArg (silu ((args V).conv b n ⟨e.val, by omega⟩) * ·) ?_
  exact taps _ _ _ _

/-- The returned array. -/
theorem out_at (b : Fin 4) (n : Fin 8192) (l : Fin 1024) :
    (val2 V (Proc.devRef .tc main_v90) : FVec Ideal S4x8192x1024 .f32) (ix3 b n l) = (args V).out b n l := by
  rw [val2_main_v90]
  pointwise
  simp only [v77_at]
  rfl

end Cert.Reference2Ideal.FfnRef

end
-- ==== Proof.FfnClaim.lean ====
/-
  The output projection and feed-forward claims put together: the reference's frame read off its run, and the equality of
  the two results.
-/
module

public import proofs.«01_k».proof.Defs
public import proofs.«01_k».proof.Proof.FfnValue
public import proofs.«01_k».proof.Proof.FfnRef

@[expose] public section

set_option maxRecDepth 16384

noncomputable section

open Idealize.ShloMosaic Idealize.ShloMosaic.TcCoe Idealize.SL.Sem

namespace Cert.FfnClaim

/-- The reference ends with its arguments unchanged and no counter away from zero. -/
theorem frame_ref : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel and the reference end with equal results. -/
theorem algebraic : Cert.algebraic_Kernel2Ideal_Reference2Ideal (hKernel2Ideal := Cert.Kernel2Ideal.Gen.facts) (hReference2Ideal := Cert.Reference2Ideal.Gen.facts) := by
  intro m ρ m' ρ' _ hagree
  refine ⟨fun c => Cert.Kernel2Ideal.Value.G11 m c, Cert.Kernel2Ideal.Value.run (F := Ideal) m ρ, ?_⟩
  refine (θ_run Cert.Reference2Ideal.defs _ _).mono (fun r h c => ⟨(h c).1.trans ?_, (h c).2⟩) (Cert.Reference2Ideal.Value.run (F := Ideal) m' ρ')
  obtain ⟨a0, a1, a2, a3, a4, a5, a6, a7, a8, a9, a10⟩ := hagree c
  have ea : Cert.Reference2Ideal.FfnRef.args (StableHlo.launchContents m' c) = Cert.Kernel2Ideal.FfnValue.args m c := by
    unfold Cert.Reference2Ideal.FfnRef.args Cert.Kernel2Ideal.FfnValue.args
    rw [← a0, ← a1, ← a2, ← a3, ← a4, ← a5, ← a6, ← a7, ← a8, ← a9, ← a10]
  refine (Cert.Reference2Ideal.Value.val2_main_v90 (StableHlo.launchContents m' c)).symm.trans (funext fun i => ?_)
  have e : ∀ (b : Fin 4) (n : Fin 8192) (l : Fin 1024), (Cert.Reference2Ideal.Value.val2 (StableHlo.launchContents m' c) (Proc.devRef .tc Cert.Reference2Ideal.main_v90) : FVec Ideal Cert.Kernel2Ideal.S4x8192x1024 .f32) (ix3 b n l)
      = (Cert.Kernel2Ideal.Value.G11 m c : FVec Ideal Cert.Kernel2Ideal.S4x8192x1024 .f32) (ix3 b n l) := fun b n l => by
    refine (Cert.Reference2Ideal.FfnRef.out_at (StableHlo.launchContents m' c) b n l).trans ?_
    rw [ea]
    exact (Cert.Kernel2Ideal.FfnValue.value m c b n l).symm
  have hi : i = ix3 (i 0) (i 1) (i 2) := by
    funext a
    fin_cases a <;> rfl
  rw [hi]
  exact e (i 0) (i 1) (i 2)

end Cert.FfnClaim

end
-- ==== Proof.InSpec.lean ====
/-
  The input projection's closed form: the normalised rows times the weights, in the eight layouts that the mixers read.
-/
module

public import proofs.«01_k».proof.Proof.FfnSpec

@[expose] public section

noncomputable section

open Idealize.ShloMosaic Idealize.ShloMosaic.TcCoe

namespace Cert.Kernel3Ideal.InSpec

open Cert.Kernel2Ideal.FfnSpec (rms)

/-- The arguments as plain functions of their indices. -/
structure Args where
  /-- the residual stream -/
  x : Fin 4 → Fin 8192 → Fin 1024 → EReal
  /-- the normalisation's scale -/
  g : Fin 1024 → EReal
  /-- the projection -/
  w : Fin 1024 → Fin 2560 → EReal
  /-- the keys' bias -/
  bt : Fin 8192 → Fin 512 → EReal

/-- The frame laid at place `n`: of each 256 frames, frame `32 c + a` at place `8 a + c`. -/
abbrev turn (n : Fin 8192) : Fin 8192 := ⟨256 * (n.val / 256) + (n.val % 8 * 32 + n.val % 256 / 8), by omega⟩

variable (A : Args) (b : Fin 4) (n : Fin 8192)

/-- The projection of a normalised row. -/
def Args.proj (j : Fin 2560) : EReal := ∑ k, rms (A.x b n) A.g k * A.w k j

/-- The recurrence's two branches. -/
def Args.xy (l : Fin 1024) : EReal := A.proj b n ⟨l.val, by omega⟩

/-- The differential keys, each head's 64 features followed by 64 zeros. -/
def Args.key (l : Fin 512) : EReal := if l.val % 128 < 64 then A.proj b n ⟨2048 + (64 * (l.val / 128) + l.val % 128) % 256, by omega⟩ else 0

/-- The differential keys with their bias. -/
def Args.dk (l : Fin 512) : EReal := A.key b n l + A.bt n l

/-- The stick-breaking keys, their frames turned. -/
def Args.sk (l : Fin 256) : EReal := A.proj b (turn n) ⟨1280 + l.val, by omega⟩

/-- The stick-breaking queries, scaled. -/
def Args.sq (l : Fin 256) : EReal := A.proj b n ⟨1024 + l.val, by omega⟩ * Ideal.ofBits FTy.f32 0xBE38AA3B#32

/-- The differential queries, scaled. -/
def Args.dq (l : Fin 256) : EReal := A.proj b n ⟨1792 + l.val, by omega⟩ * Ideal.ofBits FTy.f32 0x3E8293EE#32

/-- The differential values, each head's 64 features followed by a one and 15 zeros. -/
def Args.dv (l : Fin 320) : EReal :=
  if l.val % 80 < 64 then A.proj b n ⟨2304 + (64 * (l.val / 80) + l.val % 80) % 256, by omega⟩ else if l.val % 80 = 64 then 1 else 0

/-- The stick-breaking values, their frames turned. -/
def Args.sv (l : Fin 256) : EReal := A.proj b (turn n) ⟨1536 + l.val, by omega⟩

/-- The squared norm of half head `l`'s keys. -/
def Args.nrm (l : Fin 8) : EReal := ∑ e : Fin 32, A.proj b n ⟨2048 + (32 * l.val + e.val), by omega⟩ * A.proj b n ⟨2048 + (32 * l.val + e.val), by omega⟩

/-- The largest squared norm of each half head's keys over block `s` of 512 frames, zero past the half heads. -/
def Args.kn (s : Fin 16) (l : Fin 128) : EReal :=
  if h : l.val < 8 then Finset.univ.fold max ⊥ fun r : Fin 512 => A.nrm b ⟨512 * s.val + r.val, by omega⟩ ⟨l.val, h⟩ else 0

end Cert.Kernel3Ideal.InSpec

end
-- ==== Proof.InBlock.lean ====
/-
  One grid point of the input projection kernel against the closed form: when the blocks hold the arguments' rows of block
  `s` of 512 frames and the prepared weights, the eight blocks of the outputs hold the closed form's rows.
-/
module

public import proofs.«01_k».proof.Proof.InSpec
public import proofs.«01_k».proof.Proof.Gen.Kernel3Ideal.Frame
public import Idealize.ShloMosaic.Lib.Pipeline.ValueKit
public import Idealize.ShloMosaic.Lib.Pipeline.ReadBack
public import Idealize.ShloMosaic.Lib.Pipeline.Value
public import Idealize.ShloMosaic.Lib.Pointwise

@[expose] public section

set_option maxRecDepth 16384

noncomputable section

open Idealize.ShloMosaic Idealize.ShloMosaic.TcCoe

namespace Cert.Kernel3Ideal.InBlock

open Cert.Kernel3Ideal Cert.Kernel3Ideal.Gen Cert.Kernel3Ideal.InSpec
open Cert.Kernel2Ideal.FfnSpec (rms)

/-- Frame `r` of block `s`. -/
abbrev fr (s : Fin 16) (r : Fin 512) : Fin 8192 := ⟨512 * s.val + r.val, by omega⟩

/-- A sum against the indicator of one place. -/
theorem pick (f : Fin 256 → EReal) (p : ℕ) (hp : p < 256) : ∑ k : Fin 256, (if k.val = p then (1 : EReal) else 0) * f k = f ⟨p, hp⟩ := by
  rw [Finset.sum_eq_single (⟨p, hp⟩ : Fin 256)]
  · rw [if_pos rfl, one_mul]
  · intro k _ hk
    rw [if_neg (fun e => hk (Fin.ext e)), zero_mul]
  · intro h
    exact absurd (Finset.mem_univ _) h

/-- A maximum over 512 zeros. -/
theorem fold_zero : (Finset.univ.fold max ⊥ fun _ : Fin 512 => (0 : EReal)) = 0 := by
  rw [Finset.fold_const _ (by simp), if_neg Finset.univ_nonempty.ne_empty]
  exact max_eq_right bot_le

section Halves

/-- A frame of a block of keys lies in its first or its second half. -/
theorem rows_at (P Q : Vec Ideal S1x256x256 .bf16) (r : Fin 512) (l : Fin 256) :
    View.canon ([⟨r0_13, P⟩, ⟨r0_11, Q⟩] : List (View.Piece (Elt Ideal) S1x512x256 .bf16)) (ix3 0 r l) = if 256 ≤ r.val then P (ix3 0 ⟨r.val % 256, by omega⟩ l) else Q (ix3 0 ⟨r.val % 256, by omega⟩ l) := by
  by_cases h : 256 ≤ r.val
  · rw [if_pos h]
    have e : (ix3 0 r l : S1x512x256.Idx) = r0_13.emb (ix3 (0 : Fin 1) (⟨r.val % 256, by omega⟩ : Fin 256) l) := by
      funext a
      fin_cases a
      · exact Fin.ext ((Rect.idx_unit_val _ _ _ _ 0).trans (by rfl)).symm
      · exact Fin.ext ((Rect.idx_unit_val _ _ _ _ 1).trans (by show 256 + r.val % 256 = r.val; omega)).symm
      · exact Fin.ext ((Rect.idx_unit_val _ _ _ _ 2).trans (by show 0 + l.val = l.val; omega)).symm
    rw [e, View.canon_cons_emb]
  · rw [if_neg h]
    have n : (ix3 0 r l : S1x512x256.Idx) ∉ r0_13.set := by
      rw [Rect.mem_set_unit]
      intro e
      exact h (e 1).1
    refine (View.canon_cons_of_not_mem (Val := Elt Ideal) (⟨r0_13, P⟩ : View.Piece (Elt Ideal) S1x512x256 .bf16) _ n).trans ?_
    have e : (ix3 0 r l : S1x512x256.Idx) = r0_11.emb (ix3 (0 : Fin 1) (⟨r.val % 256, by omega⟩ : Fin 256) l) := by
      funext a
      fin_cases a
      · exact Fin.ext ((Rect.idx_unit_val _ _ _ _ 0).trans (by rfl)).symm
      · exact Fin.ext ((Rect.idx_unit_val _ _ _ _ 1).trans (by show 0 + r.val % 256 = r.val; omega)).symm
      · exact Fin.ext ((Rect.idx_unit_val _ _ _ _ 2).trans (by show 0 + l.val = l.val; omega)).symm
    rw [e, View.canon_cons_emb]

/-- A frame of a block of values lies in its first or its second half. -/
theorem cols_at (P Q : Vec Ideal S1x256x256 .bf16) (r : Fin 512) (l : Fin 256) :
    View.canon ([⟨r0_14, P⟩, ⟨r0_12, Q⟩] : List (View.Piece (Elt Ideal) S1x256x512 .bf16)) (ix3 0 l r) = if 256 ≤ r.val then P (ix3 0 l ⟨r.val % 256, by omega⟩) else Q (ix3 0 l ⟨r.val % 256, by omega⟩) := by
  by_cases h : 256 ≤ r.val
  · rw [if_pos h]
    have e : (ix3 0 l r : S1x256x512.Idx) = r0_14.emb (ix3 (0 : Fin 1) l (⟨r.val % 256, by omega⟩ : Fin 256)) := by
      funext a
      fin_cases a
      · exact Fin.ext ((Rect.idx_unit_val _ _ _ _ 0).trans (by rfl)).symm
      · exact Fin.ext ((Rect.idx_unit_val _ _ _ _ 1).trans (by show 0 + l.val = l.val; omega)).symm
      · exact Fin.ext ((Rect.idx_unit_val _ _ _ _ 2).trans (by show 256 + r.val % 256 = r.val; omega)).symm
    rw [e, View.canon_cons_emb]
  · rw [if_neg h]
    have n : (ix3 0 l r : S1x256x512.Idx) ∉ r0_14.set := by
      rw [Rect.mem_set_unit]
      intro e
      exact h (e 2).1
    refine (View.canon_cons_of_not_mem (Val := Elt Ideal) (⟨r0_14, P⟩ : View.Piece (Elt Ideal) S1x256x512 .bf16) _ n).trans ?_
    have e : (ix3 0 l r : S1x256x512.Idx) = r0_12.emb (ix3 (0 : Fin 1) l (⟨r.val % 256, by omega⟩ : Fin 256)) := by
      funext a
      fin_cases a
      · exact Fin.ext ((Rect.idx_unit_val _ _ _ _ 0).trans (by rfl)).symm
      · exact Fin.ext ((Rect.idx_unit_val _ _ _ _ 1).trans (by show 0 + l.val = l.val; omega)).symm
      · exact Fin.ext ((Rect.idx_unit_val _ _ _ _ 2).trans (by show 0 + r.val % 256 = r.val; omega)).symm
    rw [e, View.canon_cons_emb]

end Halves

variable (A : Args) (b : Fin 4) (s : Fin 16)
  (x0 : Vec Ideal S1x512x1024 .f32) (x1 : Vec Ideal S1x1024 .f32) (x2 : Vec Ideal S1024x1536 .bf16) (x3 : Vec Ideal S1024x256 .bf16) (x4 : Vec Ideal S832x1024 .bf16)
  (x5 : Vec Ideal S256x1024 .bf16) (x6 : Vec Ideal S512x512 .bf16) (x7 : Vec Ideal S320x1 .f32) (x8 : Vec Ideal S256x256 .bf16) (x9 : Vec Ideal S512x128 .bf16)

/-- The normalised rows are computed once. -/
theorem pay18_eq : k0_pay18 x0 x1 x2 x3 x4 x5 x6 x7 x8 x9 = k0_pay2 x0 x1 := by
  unfold k0_pay18
  frame_out

/-- The turn's matrix is read once. -/
theorem pay19_eq : k0_pay19 x0 x1 x2 x3 x4 x5 x6 x7 x8 x9 = k0_pay3 x8 := by
  unfold k0_pay19
  frame_out

/-- The blocks hold block `s` of the arguments' rows and the prepared weights. -/
structure Blk : Prop where
  hx : ∀ (r : Fin 512) (l : Fin 1024), x0 (ix3 0 r l) = A.x b (fr s r) l
  hg : ∀ l : Fin 1024, x1 (ix2 0 l) = A.g l
  hxy : ∀ k l : Fin 1024, x2 (ix2 k ⟨l.val, by omega⟩) = A.w k ⟨l.val, by omega⟩
  hdk : ∀ (k : Fin 1024) (l : Fin 512), x2 (ix2 k ⟨1024 + l.val, by omega⟩) = if l.val % 128 < 64 then A.w k ⟨2048 + (64 * (l.val / 128) + l.val % 128) % 256, by omega⟩ else 0
  hsk : ∀ (k : Fin 1024) (l : Fin 256), x3 (ix2 k l) = A.w k ⟨1280 + l.val, by omega⟩
  hsq : ∀ (k : Fin 1024) (l : Fin 256), x4 (ix2 ⟨l.val, by omega⟩ k) = A.w k ⟨1024 + l.val, by omega⟩
  hdq : ∀ (k : Fin 1024) (l : Fin 256), x4 (ix2 ⟨256 + l.val, by omega⟩ k) = A.w k ⟨1792 + l.val, by omega⟩
  hdv : ∀ (k : Fin 1024) (l : Fin 320), x4 (ix2 ⟨512 + l.val, by omega⟩ k) = if l.val % 80 < 64 then A.w k ⟨2304 + (64 * (l.val / 80) + l.val % 80) % 256, by omega⟩ else 0
  hsv : ∀ (k : Fin 1024) (l : Fin 256), x5 (ix2 l k) = A.w k ⟨1536 + l.val, by omega⟩
  hbt : ∀ (r l : Fin 512), x6 (ix2 r l) = A.bt (fr s r) l
  hone : ∀ l : Fin 320, x7 (ix2 l 0) = if l.val % 80 = 64 then 1 else 0
  hperm : ∀ r k : Fin 256, x8 (ix2 r k) = if k.val = r.val % 8 * 32 + r.val / 8 then 1 else 0
  hsel : ∀ (c : Fin 512) (l : Fin 128), x9 (ix2 c l) = if c.val % 128 < 64 ∧ l.val = 2 * (c.val / 128) + c.val % 128 / 32 then 1 else 0

variable {A b s x0 x1 x2 x3 x4 x5 x6 x7 x8 x9} (H : Blk A b s x0 x1 x2 x3 x4 x5 x6 x7 x8 x9)
include H

/-- The normalised rows. -/
theorem Blk.h (r : Fin 512) (l : Fin 1024) : k0_pay2 x0 x1 (ix2 r l) = rms (A.x b (fr s r)) A.g l := by
  unfold k0_pay2
  pointwise
  simp only [H.hx, H.hg]
  rfl

/-- The keys before rounding and bias. -/
theorem Blk.key (r l : Fin 512) : k0_pay5 x0 x1 (View.ld x2 r0_4) (ix2 r l) = A.key b (fr s r) l := by
  unfold k0_pay5
  pointwise
  simp only [H.h, H.hdk]
  unfold Args.key
  split_ifs
  · rfl
  · simp

/-- The recurrence's branches. -/
theorem Blk.o10 (r : Fin 512) (l : Fin 1024) : out0_10 x0 x1 x2 x3 x4 x5 x6 x7 x8 x9 (ix3 0 r l) = A.xy b (fr s r) l := by
  frame_out
  unfold k0_pay4
  pointwise
  simp only [H.h, H.hxy]
  rfl

/-- The differential keys. -/
theorem Blk.o11 (r l : Fin 512) : out0_11 x0 x1 x2 x3 x4 x5 x6 x7 x8 x9 (ix3 0 r l) = A.dk b (fr s r) l := by
  frame_out
  unfold k0_pay7 k0_pay6
  pointwise
  rw [H.key, H.hbt]
  rfl

/-- The stick-breaking keys before the turn. -/
theorem Blk.sk (r : Fin 512) (l : Fin 256) : k0_pay9 (k0_pay2 x0 x1) x3 (ix2 r l) = A.proj b (fr s r) ⟨1280 + l.val, by omega⟩ := by
  unfold k0_pay9
  pointwise
  simp only [H.h, H.hsk]
  rfl

/-- The stick-breaking values before the turn. -/
theorem Blk.sv (r : Fin 512) (l : Fin 256) : k0_pay10 (k0_pay2 x0 x1) x5 (ix2 l r) = A.proj b (fr s r) ⟨1536 + l.val, by omega⟩ := by
  unfold k0_pay10
  pointwise
  simp only [H.h, H.hsv, mul_comm (A.w _ _)]
  rfl

/-- The turn of a half's frames. -/
theorem Blk.perm (r k : Fin 256) : k0_pay3 x8 (ix2 r k) = if k.val = r.val % 8 * 32 + r.val / 8 then 1 else 0 := by
  unfold k0_pay3
  pointwise
  exact H.hperm r k

/-- The stick-breaking keys. -/
theorem Blk.o12 (r : Fin 512) (l : Fin 256) : out0_12 x0 x1 x2 x3 x4 x5 x6 x7 x8 x9 (ix3 0 r l) = A.sk b (fr s r) l := by
  frame_out
  rw [rows_at, pay18_eq, pay19_eq]
  unfold Args.sk
  by_cases h : 256 ≤ r.val
  · rw [if_pos h]
    unfold k0_pay13
    pointwise
    simp only [H.perm, H.sk]
    refine (pick (fun k => A.proj b (fr s ⟨256 + k.val, by omega⟩) ⟨1280 + l.val, by omega⟩) (r.val % 256 % 8 * 32 + r.val % 256 / 8) (by omega)).trans (congrArg (fun n => A.proj b n ⟨1280 + l.val, by omega⟩) (Fin.ext ?_))
    show 512 * s.val + (256 + (r.val % 256 % 8 * 32 + r.val % 256 / 8)) = 256 * ((512 * s.val + r.val) / 256) + ((512 * s.val + r.val) % 8 * 32 + (512 * s.val + r.val) % 256 / 8)
    omega
  · rw [if_neg h]
    unfold k0_pay11
    pointwise
    simp only [H.perm, H.sk]
    refine (pick (fun k => A.proj b (fr s ⟨k.val, by omega⟩) ⟨1280 + l.val, by omega⟩) (r.val % 256 % 8 * 32 + r.val % 256 / 8) (by omega)).trans (congrArg (fun n => A.proj b n ⟨1280 + l.val, by omega⟩) (Fin.ext ?_))
    show 512 * s.val + ((r.val % 256 % 8 * 32 + r.val % 256 / 8)) = 256 * ((512 * s.val + r.val) / 256) + ((512 * s.val + r.val) % 8 * 32 + (512 * s.val + r.val) % 256 / 8)
    omega

/-- The stick-breaking queries. -/
theorem Blk.o13 (r : Fin 512) (l : Fin 256) : out0_13 x0 x1 x2 x3 x4 x5 x6 x7 x8 x9 (ix3 0 l r) = A.sq b (fr s r) l := by
  frame_out
  rw [pay18_eq]
  unfold k0_pay15
  pointwise
  simp only [H.h, H.hsq, mul_comm (A.w _ _)]
  rfl

/-- The differential queries. -/
theorem Blk.o14 (r : Fin 512) (l : Fin 256) : out0_14 x0 x1 x2 x3 x4 x5 x6 x7 x8 x9 (ix3 0 l r) = A.dq b (fr s r) l := by
  frame_out
  rw [pay18_eq]
  unfold k0_pay16
  pointwise
  simp only [H.h, H.hdq, mul_comm (A.w _ _)]
  rfl

/-- The differential values. -/
theorem Blk.o15 (r : Fin 512) (l : Fin 320) : out0_15 x0 x1 x2 x3 x4 x5 x6 x7 x8 x9 (ix3 0 l r) = A.dv b (fr s r) l := by
  frame_out
  rw [pay18_eq]
  unfold k0_pay1 k0_pay17
  pointwise
  simp only [H.h, H.hdv, H.hone]
  unfold Args.dv
  by_cases h : l.val % 80 < 64
  · simp only [if_pos h, if_neg (show ¬ l.val % 80 = 64 by omega), add_zero, mul_comm (A.w _ _)]
    rfl
  · simp only [if_neg h, zero_mul, Finset.sum_const_zero, zero_add]

/-- The stick-breaking values. -/
theorem Blk.o16 (r : Fin 512) (l : Fin 256) : out0_16 x0 x1 x2 x3 x4 x5 x6 x7 x8 x9 (ix3 0 l r) = A.sv b (fr s r) l := by
  frame_out
  rw [cols_at, pay18_eq, pay19_eq]
  unfold Args.sv
  by_cases h : 256 ≤ r.val
  · rw [if_pos h]
    unfold k0_pay14
    pointwise
    simp only [H.perm, H.sv]
    refine (Finset.sum_congr rfl fun k _ => mul_comm _ _).trans ?_
    refine (pick (fun k => A.proj b (fr s ⟨256 + k.val, by omega⟩) ⟨1536 + l.val, by omega⟩) (r.val % 256 % 8 * 32 + r.val % 256 / 8) (by omega)).trans (congrArg (fun n => A.proj b n ⟨1536 + l.val, by omega⟩) (Fin.ext ?_))
    show 512 * s.val + (256 + (r.val % 256 % 8 * 32 + r.val % 256 / 8)) = 256 * ((512 * s.val + r.val) / 256) + ((512 * s.val + r.val) % 8 * 32 + (512 * s.val + r.val) % 256 / 8)
    omega
  · rw [if_neg h]
    unfold k0_pay12
    pointwise
    simp only [H.perm, H.sv]
    refine (Finset.sum_congr rfl fun k _ => mul_comm _ _).trans ?_
    refine (pick (fun k => A.proj b (fr s ⟨k.val, by omega⟩) ⟨1536 + l.val, by omega⟩) (r.val % 256 % 8 * 32 + r.val % 256 / 8) (by omega)).trans (congrArg (fun n => A.proj b n ⟨1536 + l.val, by omega⟩) (Fin.ext ?_))
    show 512 * s.val + ((r.val % 256 % 8 * 32 + r.val % 256 / 8)) = 256 * ((512 * s.val + r.val) / 256) + ((512 * s.val + r.val) % 8 * 32 + (512 * s.val + r.val) % 256 / 8)
    omega

/-- The selection's columns add up each half head's squares. -/
theorem Blk.sel (r : Fin 512) (l : Fin 128) : ∑ c : Fin 512, A.key b (fr s r) c * A.key b (fr s r) c * x9 (ix2 c l) = if h : l.val < 8 then A.nrm b (fr s r) ⟨l.val, h⟩ else 0 := by
  simp only [H.hsel]
  by_cases h : l.val < 8
  · rw [dif_pos h]
    unfold Args.nrm
    refine (Finset.sum_of_injOn (fun e : Fin 32 => (⟨128 * (l.val / 2) + 32 * (l.val % 2) + e.val, by omega⟩ : Fin 512)) ?_ ?_ ?_ ?_).symm
    · intro e _ f _ hef
      have := congrArg Fin.val hef
      exact Fin.ext (by simpa using this)
    · intro e _
      exact Finset.mem_coe.mpr (Finset.mem_univ _)
    · intro c _ hc
      rw [if_neg, mul_zero]
      rintro ⟨h1, h2⟩
      refine hc ⟨⟨c.val % 32, by omega⟩, Finset.mem_coe.mpr (Finset.mem_univ _), Fin.ext ?_⟩
      show 128 * (l.val / 2) + 32 * (l.val % 2) + c.val % 32 = c.val
      omega
    · intro e _
      have h1 : (128 * (l.val / 2) + 32 * (l.val % 2) + e.val) % 128 < 64 := by omega
      have h2 : l.val = 2 * ((128 * (l.val / 2) + 32 * (l.val % 2) + e.val) / 128) + (128 * (l.val / 2) + 32 * (l.val % 2) + e.val) % 128 / 32 := by omega
      rw [if_pos ⟨h1, h2⟩, mul_one]
      unfold Args.key
      rw [if_pos h1]
      have e1 : (⟨2048 + (64 * ((128 * (l.val / 2) + 32 * (l.val % 2) + e.val) / 128) + (128 * (l.val / 2) + 32 * (l.val % 2) + e.val) % 128) % 256, by omega⟩ : Fin 2560) = ⟨2048 + (32 * l.val + e.val), by omega⟩ :=
        Fin.ext (by show 2048 + (64 * ((128 * (l.val / 2) + 32 * (l.val % 2) + e.val) / 128) + (128 * (l.val / 2) + 32 * (l.val % 2) + e.val) % 128) % 256 = 2048 + (32 * l.val + e.val); omega)
      rw [e1]
  · rw [dif_neg h]
    refine Finset.sum_eq_zero fun c _ => ?_
    rw [if_neg, mul_zero]
    rintro ⟨h1, h2⟩
    omega

/-- The largest squared norms. -/
theorem Blk.o17 (q : Fin 8) (l : Fin 128) : out0_17 x0 x1 x2 x3 x4 x5 x6 x7 x8 x9 (ix4 0 0 q l) = A.kn b s l := by
  frame_out
  unfold k0_pay8
  pointwise
  simp only [H.key, H.sel]
  have e : Ideal.ofBits FTy.f32 4286578688#32 = (⊥ : EReal) := rfl
  rw [e]
  unfold Args.kn
  by_cases h : l.val < 8
  · simp only [dif_pos h]
  · simp only [dif_neg h]
    exact fold_zero

end Cert.Kernel3Ideal.InBlock

end
-- ==== Proof.InTurn.lean ====
/-
  The turn's matrix as the constant's table holds it: row `r` has its one in column `r % 8 * 32 + r / 8`, the other elements are zero.
-/
module

public import proofs.«01_k».proof.Kernel3Ideal
public import Mathlib.Tactic.FinCases

@[expose] public section

set_option maxRecDepth 65536

namespace Cert.Kernel3Ideal.InTurn

open Cert.Kernel3Ideal

/-- Row `r` of the table. -/
def Row (r : ℕ) : Prop := ∀ k : Fin 256, lit1t (256 * r + k.val) = if k.val = r % 8 * 32 + r / 8 then 0x3F800000#32 else 0#32

/-- A row is checked entry by entry. -/
noncomputable instance : DecidablePred Row := fun r => inferInstanceAs (Decidable (∀ k : Fin 256, _))

set_option maxHeartbeats 0 in
/-- Every row of the table, 16 at a time. -/
theorem parts : ∀ (a : Fin 16) (r : Fin 16), Row (16 * a.val + r.val) := by
  intro a
  fin_cases a <;> decide +kernel

/-- Every row of the table. -/
theorem rows (r : Fin 256) : Row r.val := by
  have e : 16 * (r.val / 16) + r.val % 16 = r.val := by omega
  rw [← e]
  exact parts ⟨r.val / 16, by omega⟩ ⟨r.val % 16, by omega⟩

end Cert.Kernel3Ideal.InTurn

end
-- ==== Proof.InSel.lean ====
/-
  The selection as the constant's table holds it: row `c` has its one in the column of the half head that feature `c` belongs to, rows of padding have none.
  Also the column that marks the ones of the values' heads.
-/
module

public import proofs.«01_k».proof.Kernel3Ideal
public import Mathlib.Tactic.FinCases

@[expose] public section

set_option maxRecDepth 65536

namespace Cert.Kernel3Ideal.InSel

open Cert.Kernel3Ideal

/-- Row `c` of the table. -/
def Row (c : ℕ) : Prop := ∀ l : Fin 128, lit2t (128 * c + l.val) = if c % 128 < 64 ∧ l.val = 2 * (c / 128) + c % 128 / 32 then 0x3F800000#32 else 0#32

/-- A row is checked entry by entry. -/
noncomputable instance : DecidablePred Row := fun c => inferInstanceAs (Decidable (∀ l : Fin 128, _))

/-- The column of ones. -/
theorem ones : ∀ l : Fin 320, lit0 l = if l.val % 80 = 64 then 0x3F800000#32 else 0#32 := by decide +kernel

set_option maxHeartbeats 0 in
/-- Every row of the table, 32 at a time. -/
theorem parts : ∀ (a : Fin 16) (c : Fin 32), Row (32 * a.val + c.val) := by
  intro a
  fin_cases a <;> decide +kernel

/-- Every row of the table. -/
theorem rows (c : Fin 512) : Row c.val := by
  have e : 32 * (c.val / 32) + c.val % 32 = c.val := by omega
  rw [← e]
  exact parts ⟨c.val / 32, by omega⟩ ⟨c.val % 32, by omega⟩

end Cert.Kernel3Ideal.InSel

end
-- ==== Proof.InHost.lean ====
/-
  The weights as the host lays them out for the input projection kernel, and the constant matrices, at an index.
-/
module

public import proofs.«01_k».proof.Proof.InSpec
public import proofs.«01_k».proof.Proof.InTurn
public import proofs.«01_k».proof.Proof.InSel
public import proofs.«01_k».proof.Proof.Gen.Kernel3Ideal.Frame
public import Idealize.ShloMosaic.Lib.Pipeline.Value
public import Idealize.ShloMosaic.Lib.Pointwise

@[expose] public section

set_option maxRecDepth 16384

noncomputable section

open Idealize.ShloMosaic Idealize.ShloMosaic.TcCoe Idealize.ShloMosaic.StableHlo

namespace Cert.Kernel3Ideal.InHost

open Cert.Kernel3Ideal Cert.Kernel3Ideal.Gen Cert.Kernel3Ideal.InSpec

section Layout

variable (W : FVec Ideal S1024x2560 .f32)

/-- The integer zero as a float. -/
theorem sitofp_zero : (FloatOps.sitofp FTy.f32 0#32 : Ideal FTy.f32) = 0 := by
  show (((0#32 : BitVec 32).toInt : ℝ) : EReal) = 0
  simp

/-- The keys' weights by heads. -/
def keyHeads : FVec Ideal S1024x4x64 .f32 := shapeCast S1024x4x64 (extractStridedSlice S1024x256 ![0, 2048] W slices_S1024x2560_S1024x256_0_2048) shapeCasts_S1024x256_S1024x4x64

/-- The values' weights by heads. -/
def valHeads : FVec Ideal S4x64x1024 .f32 :=
  shapeCast S4x64x1024 (transpose S256x1024 [1, 0] (extractStridedSlice S1024x256 ![0, 2304] W slices_S1024x2560_S1024x256_0_2304) transposes_S1024x256_S256x1024_1_0 : FVec Ideal S256x1024 .f32) shapeCasts_S256x1024_S4x64x1024

/-- Heads of 64 columns padded to 128. -/
def keyPad (Q : FVec Ideal S1024x4x64 .f32) : FVec Ideal S1024x4x128 .f32 :=
  pad S1024x4x128 ![0, 0, 0] ![0, 0, 64] ![0, 0, 0] Q (sitofp .f32 (constantI S_ 32 0#32)) pads_S1024x4x64_S1024x4x128_000_000_0640 h_S_

/-- Heads of 64 rows padded to 80. -/
def valPad (Q : FVec Ideal S4x64x1024 .f32) : FVec Ideal S4x80x1024 .f32 :=
  pad S4x80x1024 ![0, 0, 0] ![0, 16, 0] ![0, 0, 0] Q (sitofp .f32 (constantI S_ 32 0#32)) pads_S4x64x1024_S4x80x1024_000_0160_000 h_S_

/-- The columns computed tokens first. -/
def tok (P : FVec Ideal S1024x1024 .f32) (Q : FVec Ideal S1024x4x128 .f32) : FVec Ideal S1024x1536 .bf16 :=
  truncf .bf16 (concatenate S1024x1536 1 [⟨S1024x1024, P⟩, ⟨S1024x512, (shapeCast S1024x512 Q shapeCasts_S1024x4x128_S1024x512 : FVec Ideal S1024x512 .f32)⟩] concatenates_S1024x1024_S1024x512_S1024x1536_d1 : FVec Ideal S1024x1536 .f32) bitsLt_bf16_f32

/-- The rows computed features first. -/
def feat (P Q : FVec Ideal S1024x256 .f32) (R : FVec Ideal S4x80x1024 .f32) : FVec Ideal S832x1024 .bf16 :=
  truncf .bf16 (concatenate S832x1024 0 [⟨S256x1024, (transpose S256x1024 [1, 0] P transposes_S1024x256_S256x1024_1_0 : FVec Ideal S256x1024 .f32)⟩,
    ⟨S256x1024, (transpose S256x1024 [1, 0] Q transposes_S1024x256_S256x1024_1_0 : FVec Ideal S256x1024 .f32)⟩,
    ⟨S320x1024, (shapeCast S320x1024 R shapeCasts_S4x80x1024_S320x1024 : FVec Ideal S320x1024 .f32)⟩] concatenates_S256x1024_S256x1024_S320x1024_S832x1024_d0 : FVec Ideal S832x1024 .f32) bitsLt_bf16_f32

/-- A key column of a head. -/
theorem keyHeads_at (k : Fin 1024) (h : Fin 4) (l : Fin 64) : keyHeads W (ix3 k h l) = W (ix2 k ⟨2048 + (64 * h.val + l.val), by omega⟩) := by
  unfold keyHeads
  pointwise
  exact congrArg (fun j : Fin 2560 => W (ix2 k j)) (Fin.ext (by show 2048 + (h.val * 64 + l.val) = 2048 + (64 * h.val + l.val); omega))

/-- A value row of a head. -/
theorem valHeads_at (k : Fin 1024) (h : Fin 4) (l : Fin 64) : valHeads W (ix3 h l k) = W (ix2 k ⟨2304 + (64 * h.val + l.val), by omega⟩) := by
  unfold valHeads
  pointwise
  exact congrArg (fun j : Fin 2560 => W (ix2 k j)) (Fin.ext (by show 2304 + (h.val * 64 + l.val) = 2304 + (64 * h.val + l.val); omega))

/-- A padded head's column. -/
theorem keyPad_at (Q : FVec Ideal S1024x4x64 .f32) (k : Fin 1024) (h : Fin 4) (l : Fin 128) : keyPad Q (ix3 k h l) = if h' : l.val < 64 then Q (ix3 k h ⟨l.val, h'⟩) else 0 := by
  unfold keyPad
  pointwise
  rw [sitofp_zero]

/-- A padded head's row. -/
theorem valPad_at (Q : FVec Ideal S4x64x1024 .f32) (k : Fin 1024) (h : Fin 4) (l : Fin 80) : valPad Q (ix3 h l k) = if h' : l.val < 64 then Q (ix3 h ⟨l.val, h'⟩ k) else 0 := by
  unfold valPad
  pointwise
  rw [sitofp_zero]

/-- The first 1024 columns. -/
theorem tok_lo (P : FVec Ideal S1024x1024 .f32) (Q : FVec Ideal S1024x4x128 .f32) (k l : Fin 1024) : tok P Q (ix2 k ⟨l.val, by omega⟩) = P (ix2 k l) := by
  unfold tok
  pointwise

/-- The last 512 columns. -/
theorem tok_hi (P : FVec Ideal S1024x1024 .f32) (Q : FVec Ideal S1024x4x128 .f32) (k : Fin 1024) (l : Fin 512) : tok P Q (ix2 k ⟨1024 + l.val, by omega⟩) = Q (ix3 k ⟨l.val / 128, by omega⟩ ⟨l.val % 128, by omega⟩) := by
  unfold tok
  pointwise

/-- The first 256 rows. -/
theorem feat_sq (P Q : FVec Ideal S1024x256 .f32) (R : FVec Ideal S4x80x1024 .f32) (k : Fin 1024) (l : Fin 256) : feat P Q R (ix2 ⟨l.val, by omega⟩ k) = P (ix2 k l) := by
  unfold feat
  pointwise

/-- The next 256 rows. -/
theorem feat_dq (P Q : FVec Ideal S1024x256 .f32) (R : FVec Ideal S4x80x1024 .f32) (k : Fin 1024) (l : Fin 256) : feat P Q R (ix2 ⟨256 + l.val, by omega⟩ k) = Q (ix2 k l) := by
  unfold feat
  pointwise

/-- The last 320 rows. -/
theorem feat_dv (P Q : FVec Ideal S1024x256 .f32) (R : FVec Ideal S4x80x1024 .f32) (k : Fin 1024) (l : Fin 320) : feat P Q R (ix2 ⟨512 + l.val, by omega⟩ k) = R (ix3 ⟨l.val / 80, by omega⟩ ⟨l.val % 80, by omega⟩ k) := by
  unfold feat
  pointwise
  rw [dif_neg (by omega), dif_neg (by omega)]
  have e : 512 + l.val - 256 - 256 = l.val := by omega
  have e1 : (⟨(512 + l.val - 256 - 256) / 80, by omega⟩ : Fin 4) = ⟨l.val / 80, by omega⟩ := Fin.ext (by show (512 + l.val - 256 - 256) / 80 = l.val / 80; rw [e])
  have e2 : (⟨(512 + l.val - 256 - 256) % 80, by omega⟩ : Fin 80) = ⟨l.val % 80, by omega⟩ := Fin.ext (by show (512 + l.val - 256 - 256) % 80 = l.val % 80; rw [e])
  rw [e1, e2]

end Layout

variable (m : (ℓ : Loc nD τ sig) → Buf (Elt Ideal) ℓ) (c : Dev nD)

/-- The projection's arrays, as the memory holds them on entry. -/
def args : Args where
  x b n l := (m ((c : Thread nD τ).loc main_arg0) : FVec Ideal S4x8192x1024 .f32) (ix3 b n l)
  g l := (m ((c : Thread nD τ).loc main_arg1) : FVec Ideal S1024 .f32) (ix1 l)
  w k l := (m ((c : Thread nD τ).loc main_arg2) : FVec Ideal S1024x2560 .f32) (ix2 k l)
  bt n l := (m ((c : Thread nD τ).loc main_arg3) : FVec Ideal S8192x512 .bf16) (ix2 n l)

/-- The weights' array. -/
abbrev wts : FVec Ideal S1024x2560 .f32 := m ((c : Thread nD τ).loc main_arg2)

/-- The gain's row. -/
theorem V_v0 (l : Fin 1024) : (V m c main_v0 : FVec Ideal S1x1024 .f32) (ix2 0 l) = (args m c).g l := by
  have e : V m c main_v0 = broadcastInDim S1x1024 ![1] bcast_S1024_S1x1024_1 (m ((c : Thread nD τ).loc main_arg1) : FVec Ideal S1024 .f32) := by
    unfold V
    simp only [hostOps0, hostOps0_1, hostOps0_2, hostOps0_3, hostOps0_4, List.flatten_cons, List.flatten_nil, List.append_nil, List.cons_append, List.nil_append]
    after_results
  rw [e]
  unfold args
  pointwise

/-- The columns computed tokens first. -/
theorem V_v15 : V m c main_v15 = tok (extractStridedSlice S1024x1024 ![0, 0] (wts m c) slices_S1024x2560_S1024x1024_0_0) (keyPad (keyHeads (wts m c))) := by
  unfold V
  simp only [hostOps0, hostOps0_1, hostOps0_2, hostOps0_3, hostOps0_4, List.flatten_cons, List.flatten_nil, List.append_nil, List.cons_append, List.nil_append]
  after_results
  rfl

/-- The rows computed features first. -/
theorem V_v20 : V m c main_v20 = feat (extractStridedSlice S1024x256 ![0, 1024] (wts m c) slices_S1024x2560_S1024x256_0_1024) (extractStridedSlice S1024x256 ![0, 1792] (wts m c) slices_S1024x2560_S1024x256_0_1792) (valPad (valHeads (wts m c))) := by
  unfold V
  simp only [hostOps0, hostOps0_1, hostOps0_2, hostOps0_3, hostOps0_4, List.flatten_cons, List.flatten_nil, List.append_nil, List.cons_append, List.nil_append]
  after_results
  rfl

/-- The stick-breaking keys' columns. -/
theorem V_v21 (k : Fin 1024) (l : Fin 256) : (V m c main_v21 : FVec Ideal S1024x256 .bf16) (ix2 k l) = (args m c).w k ⟨1280 + l.val, by omega⟩ := by
  have e : V m c main_v21 = (truncf .bf16 (extractStridedSlice S1024x256 ![0, 1280] (wts m c) slices_S1024x2560_S1024x256_0_1280) bitsLt_bf16_f32 : FVec Ideal S1024x256 .bf16) := by
    unfold V
    simp only [hostOps0, hostOps0_1, hostOps0_2, hostOps0_3, hostOps0_4, List.flatten_cons, List.flatten_nil, List.append_nil, List.cons_append, List.nil_append]
    after_results
  rw [e]
  unfold args
  pointwise

/-- The stick-breaking values' rows. -/
theorem V_v23 (k : Fin 1024) (l : Fin 256) : (V m c main_v23 : FVec Ideal S256x1024 .bf16) (ix2 l k) = (args m c).w k ⟨1536 + l.val, by omega⟩ := by
  have e : V m c main_v23 = (truncf .bf16 (transpose S256x1024 [1, 0] (extractStridedSlice S1024x256 ![0, 1536] (wts m c) slices_S1024x2560_S1024x256_0_1536) transposes_S1024x256_S256x1024_1_0 : FVec Ideal S256x1024 .f32) bitsLt_bf16_f32 : FVec Ideal S256x1024 .bf16) := by
    unfold V
    simp only [hostOps0, hostOps0_1, hostOps0_2, hostOps0_3, hostOps0_4, List.flatten_cons, List.flatten_nil, List.append_nil, List.cons_append, List.nil_append]
    after_results
  rw [e]
  unfold args
  pointwise

/-- The branches' columns. -/
theorem V_xy (k l : Fin 1024) : (V m c main_v15 : FVec Ideal S1024x1536 .bf16) (ix2 k ⟨l.val, by omega⟩) = (args m c).w k ⟨l.val, by omega⟩ := by
  rw [V_v15, tok_lo]
  unfold args
  pointwise

/-- The differential keys' columns. -/
theorem V_dk (k : Fin 1024) (l : Fin 512) : (V m c main_v15 : FVec Ideal S1024x1536 .bf16) (ix2 k ⟨1024 + l.val, by omega⟩)
    = if l.val % 128 < 64 then (args m c).w k ⟨2048 + (64 * (l.val / 128) + l.val % 128) % 256, by omega⟩ else 0 := by
  rw [V_v15, tok_hi, keyPad_at]
  by_cases h : l.val % 128 < 64
  · rw [dif_pos h, if_pos h, keyHeads_at]
    exact congrArg (fun j : Fin 2560 => wts m c (ix2 k j)) (Fin.ext (by show 2048 + (64 * (l.val / 128) + l.val % 128) = 2048 + (64 * (l.val / 128) + l.val % 128) % 256; omega))
  · rw [dif_neg h, if_neg h]

/-- The stick-breaking queries' rows. -/
theorem V_sq (k : Fin 1024) (l : Fin 256) : (V m c main_v20 : FVec Ideal S832x1024 .bf16) (ix2 ⟨l.val, by omega⟩ k) = (args m c).w k ⟨1024 + l.val, by omega⟩ := by
  rw [V_v20, feat_sq]
  unfold args
  pointwise

/-- The differential queries' rows. -/
theorem V_dq (k : Fin 1024) (l : Fin 256) : (V m c main_v20 : FVec Ideal S832x1024 .bf16) (ix2 ⟨256 + l.val, by omega⟩ k) = (args m c).w k ⟨1792 + l.val, by omega⟩ := by
  rw [V_v20, feat_dq]
  unfold args
  pointwise

/-- The differential values' rows. -/
theorem V_dv (k : Fin 1024) (l : Fin 320) : (V m c main_v20 : FVec Ideal S832x1024 .bf16) (ix2 ⟨512 + l.val, by omega⟩ k)
    = if l.val % 80 < 64 then (args m c).w k ⟨2304 + (64 * (l.val / 80) + l.val % 80) % 256, by omega⟩ else 0 := by
  rw [V_v20, feat_dv, valPad_at]
  by_cases h : l.val % 80 < 64
  · rw [dif_pos h, if_pos h, valHeads_at]
    exact congrArg (fun j : Fin 2560 => wts m c (ix2 k j)) (Fin.ext (by show 2304 + (64 * (l.val / 80) + l.val % 80) = 2304 + (64 * (l.val / 80) + l.val % 80) % 256; omega))
  · rw [dif_neg h, if_neg h]

/-- The two values the tables hold. -/
theorem one_or_zero (p : Prop) [Decidable p] : (Ideal.ofBits .f32 (if p then 0x3F800000#32 else 0#32) : EReal) = if p then 1 else 0 := by
  by_cases h : p
  · rw [if_pos h, if_pos h]
    pointwise
  · rw [if_neg h, if_neg h]
    pointwise

/-- The column of ones. -/
theorem V_one (l : Fin 320) : (V m c main_cst : FVec Ideal S320x1 .f32) (ix2 l 0) = if l.val % 80 = 64 then (1 : EReal) else 0 := by
  have e : V m c main_cst = ((fun i => FloatOps.ofBits .f32 (lit0 (S320x1.rowMajor i))) : FVec Ideal S320x1 .f32) := by
    unfold V
    simp only [hostOps0, hostOps0_1, hostOps0_2, hostOps0_3, hostOps0_4, List.flatten_cons, List.flatten_nil, List.append_nil, List.cons_append, List.nil_append]
    after_results
    rfl
  have h : (S320x1.rowMajor (ix2 l (0 : Fin 1)) : Fin 320) = l := Fin.ext ((Shape.rowMajor_val_two (d := ![320, 1]) (ix2 l (0 : Fin 1))).trans (by show l.val * 1 + 0 = l.val; omega))
  rw [e]
  show Ideal.ofBits .f32 (lit0 (S320x1.rowMajor (ix2 l (0 : Fin 1)))) = _
  rw [h, InSel.ones, one_or_zero]

/-- The turn's matrix. -/
theorem V_turn (r k : Fin 256) : (V m c main_v24 : FVec Ideal S256x256 .bf16) (ix2 r k) = if k.val = r.val % 8 * 32 + r.val / 8 then (1 : EReal) else 0 := by
  have e : V m c main_v24 = (truncf .bf16 ((fun i => FloatOps.ofBits .f32 (lit1 (S256x256.rowMajor i))) : FVec Ideal S256x256 .f32) bitsLt_bf16_f32 : FVec Ideal S256x256 .bf16) := by
    unfold V
    simp only [hostOps0, hostOps0_1, hostOps0_2, hostOps0_3, hostOps0_4, List.flatten_cons, List.flatten_nil, List.append_nil, List.cons_append, List.nil_append]
    after_results
    rfl
  have h : (S256x256.rowMajor (ix2 r k)).val = 256 * r.val + k.val := (Shape.rowMajor_val_two (d := ![256, 256]) (ix2 r k)).trans (by show r.val * 256 + k.val = 256 * r.val + k.val; omega)
  rw [e]
  show Ideal.ofBits .f32 (lit1t (S256x256.rowMajor (ix2 r k)).val) = _
  rw [h, InTurn.rows r k, one_or_zero]

/-- The selection. -/
theorem V_sel (d : Fin 512) (l : Fin 128) : (V m c main_v25 : FVec Ideal S512x128 .bf16) (ix2 d l) = if d.val % 128 < 64 ∧ l.val = 2 * (d.val / 128) + d.val % 128 / 32 then (1 : EReal) else 0 := by
  have e : V m c main_v25 = (truncf .bf16 ((fun i => FloatOps.ofBits .f32 (lit2 (S512x128.rowMajor i))) : FVec Ideal S512x128 .f32) bitsLt_bf16_f32 : FVec Ideal S512x128 .bf16) := by
    unfold V
    simp only [hostOps0, hostOps0_1, hostOps0_2, hostOps0_3, hostOps0_4, List.flatten_cons, List.flatten_nil, List.append_nil, List.cons_append, List.nil_append]
    after_results
    rfl
  have h : (S512x128.rowMajor (ix2 d l)).val = 128 * d.val + l.val := (Shape.rowMajor_val_two (d := ![512, 128]) (ix2 d l)).trans (by show d.val * 128 + l.val = 128 * d.val + l.val; omega)
  rw [e]
  show Ideal.ofBits .f32 (lit2t (S512x128.rowMajor (ix2 d l)).val) = _
  rw [h, InSel.rows d l, one_or_zero]

end Cert.Kernel3Ideal.InHost

end
-- ==== Proof.InValue.lean ====
/-
  The input projection kernel's results: what each window holds at a point of the grid, and the eight arrays after the run.
-/
module

public import proofs.«01_k».proof.Proof.InBlock
public import proofs.«01_k».proof.Proof.InHost
public import proofs.«01_k».proof.Proof.Gen.Kernel3Ideal.Value

@[expose] public section

set_option maxRecDepth 16384

noncomputable section

open Idealize.ShloMosaic Idealize.ShloMosaic.TcCoe Idealize.ShloMosaic.StableHlo

namespace Cert.Kernel3Ideal.InValue

open Cert.Kernel3Ideal Cert.Kernel3Ideal.Gen Cert.Kernel3Ideal.Value Cert.Kernel3Ideal.InSpec Cert.Kernel3Ideal.InHost Cert.Kernel3Ideal.InBlock

variable (m : (ℓ : Loc nD τ sig) → Buf (Elt Ideal) ℓ) (c : Dev nD)

/-- The batch of a point of the grid. -/
abbrev bat (t : ℕ) (h : t < 64) : Fin 4 := ⟨t / 16, by omega⟩

/-- The block of frames of a point of the grid. -/
abbrev row (t : ℕ) : Fin 16 := ⟨t % 16, by omega⟩

/-- A row of a point's block of frames. -/
theorem place (t : ℕ) (r : Fin 512) : (fr (row t) r).val = t % 16 * 512 + r.val := by
  show 512 * (t % 16) + r.val = t % 16 * 512 + r.val
  omega

/-- An index of a block of one batch. -/
theorem unit3 {p q : ℕ} (y : (⟨3, ![1, p, q]⟩ : Shape).Idx) : y = ix3 (0 : Fin 1) (y 1) (y 2) := by
  funext a
  fin_cases a
  · exact Fin.ext (Nat.lt_one_iff.mp (y 0).isLt)
  · rfl
  · rfl

/-- An index of a block of one batch and one block of frames. -/
theorem unit4 {p q : ℕ} (y : (⟨4, ![1, 1, p, q]⟩ : Shape).Idx) : y = ix4 (0 : Fin 1) (0 : Fin 1) (y 2) (y 3) := by
  funext a
  fin_cases a
  · exact Fin.ext (Nat.lt_one_iff.mp (y 0).isLt)
  · exact Fin.ext (Nat.lt_one_iff.mp (y 1).isLt)
  · rfl
  · rfl

/-- Where the blocks that move with the grid lie. -/
theorem idxs : ∀ t : Fin cfg0.N, win0_0.index t = ![t.val / 16, t.val % 16, 0] ∧ win0_6.index t = ![t.val % 16, 0] :=
  (by decide +kernel : ∀ t : Fin grid0.N, _)

/-- The other inputs' blocks are their whole arrays. -/
theorem idxW : ∀ t : Fin cfg0.N, win0_1.index t = ![0, 0] ∧ win0_2.index t = ![0, 0] ∧ win0_3.index t = ![0, 0] ∧ win0_4.index t = ![0, 0]
    ∧ win0_5.index t = ![0, 0] ∧ win0_7.index t = ![0, 0] ∧ win0_8.index t = ![0, 0] ∧ win0_9.index t = ![0, 0] :=
  (by decide +kernel : ∀ t : Fin grid0.N, _)

/-- Where the results' blocks lie. -/
theorem idxO : ∀ t : Fin cfg0.N, win0_10.index t = ![t.val / 16, t.val % 16, 0] ∧ win0_11.index t = ![t.val / 16, t.val % 16, 0] ∧ win0_12.index t = ![t.val / 16, t.val % 16, 0]
    ∧ win0_13.index t = ![t.val / 16, 0, t.val % 16] ∧ win0_14.index t = ![t.val / 16, 0, t.val % 16] ∧ win0_15.index t = ![t.val / 16, 0, t.val % 16]
    ∧ win0_16.index t = ![t.val / 16, 0, t.val % 16] ∧ win0_17.index t = ![t.val / 16, t.val % 16, 0, 0] :=
  (by decide +kernel : ∀ t : Fin grid0.N, _)

/-- The gain is read whole. -/
theorem blk1 (t : Fin cfg0.N) : (iblk m c 1 t : Vec Ideal S1x1024 .f32) = V m c main_v0 := by
  funext j
  rw [iblk]
  show V m c main_v0 _ = V m c main_v0 j
  refine congrArg (V m c main_v0) ?_
  funext a
  refine Fin.ext ?_
  fin_cases a <;> blk_simp [(idxW t).1]

/-- The token columns' weights are read whole. -/
theorem blk2 (t : Fin cfg0.N) : (iblk m c 2 t : Vec Ideal S1024x1536 .bf16) = V m c main_v15 := by
  funext j
  rw [iblk]
  show V m c main_v15 _ = V m c main_v15 j
  refine congrArg (V m c main_v15) ?_
  funext a
  refine Fin.ext ?_
  fin_cases a <;> blk_simp [(idxW t).2.1]

/-- The stick-breaking keys' weights are read whole. -/
theorem blk3 (t : Fin cfg0.N) : (iblk m c 3 t : Vec Ideal S1024x256 .bf16) = V m c main_v21 := by
  funext j
  rw [iblk]
  show V m c main_v21 _ = V m c main_v21 j
  refine congrArg (V m c main_v21) ?_
  funext a
  refine Fin.ext ?_
  fin_cases a <;> blk_simp [(idxW t).2.2.1]

/-- The feature rows' weights are read whole. -/
theorem blk4 (t : Fin cfg0.N) : (iblk m c 4 t : Vec Ideal S832x1024 .bf16) = V m c main_v20 := by
  funext j
  rw [iblk]
  show V m c main_v20 _ = V m c main_v20 j
  refine congrArg (V m c main_v20) ?_
  funext a
  refine Fin.ext ?_
  fin_cases a <;> blk_simp [(idxW t).2.2.2.1]

/-- The stick-breaking values' weights are read whole. -/
theorem blk5 (t : Fin cfg0.N) : (iblk m c 5 t : Vec Ideal S256x1024 .bf16) = V m c main_v23 := by
  funext j
  rw [iblk]
  show V m c main_v23 _ = V m c main_v23 j
  refine congrArg (V m c main_v23) ?_
  funext a
  refine Fin.ext ?_
  fin_cases a <;> blk_simp [(idxW t).2.2.2.2.1]

/-- The column of ones is read whole. -/
theorem blk7 (t : Fin cfg0.N) : (iblk m c 7 t : Vec Ideal S320x1 .f32) = V m c main_cst := by
  funext j
  rw [iblk]
  show V m c main_cst _ = V m c main_cst j
  refine congrArg (V m c main_cst) ?_
  funext a
  refine Fin.ext ?_
  fin_cases a <;> blk_simp [(idxW t).2.2.2.2.2.1]

/-- The turn is read whole. -/
theorem blk8 (t : Fin cfg0.N) : (iblk m c 8 t : Vec Ideal S256x256 .bf16) = V m c main_v24 := by
  funext j
  rw [iblk]
  show V m c main_v24 _ = V m c main_v24 j
  refine congrArg (V m c main_v24) ?_
  funext a
  refine Fin.ext ?_
  fin_cases a <;> blk_simp [(idxW t).2.2.2.2.2.2.1]

/-- The selection is read whole. -/
theorem blk9 (t : Fin cfg0.N) : (iblk m c 9 t : Vec Ideal S512x128 .bf16) = V m c main_v25 := by
  funext j
  rw [iblk]
  show V m c main_v25 _ = V m c main_v25 j
  refine congrArg (V m c main_v25) ?_
  funext a
  refine Fin.ext ?_
  fin_cases a <;> blk_simp [(idxW t).2.2.2.2.2.2.2]

/-- What a point's windows hold. -/
theorem blk (t : Fin cfg0.N) (ht : t.val < 64) : Blk (args m c) (bat t.val ht) (row t.val)
    (iblk m c 0 t) (iblk m c 1 t) (iblk m c 2 t) (iblk m c 3 t) (iblk m c 4 t) (iblk m c 5 t) (iblk m c 6 t) (iblk m c 7 t) (iblk m c 8 t) (iblk m c 9 t) where
  hx r l := by
    unfold args
    blk_ext [iblk, V_main_arg0, (idxs t).1]
  hg l := by rw [blk1, V_v0]
  hxy k l := by rw [blk2, V_xy]
  hdk k l := by rw [blk2, V_dk]
  hsk k l := by rw [blk3, V_v21]
  hsq k l := by rw [blk4, V_sq]
  hdq k l := by rw [blk4, V_dq]
  hdv k l := by rw [blk4, V_dv]
  hsv k l := by rw [blk5, V_v23]
  hbt r l := by
    unfold args
    blk_ext [iblk, V_main_arg3, (idxs t).2]
  hone l := by rw [blk7, V_one]
  hperm r k := by rw [blk8, V_turn]
  hsel d l := by rw [blk9, V_sel]

/-- The recurrence's branches after the run. -/
theorem final10 : ((dats m 0 c).arrAt 10 cfg0.N : FVec Ideal S4x8192x1024 .f32) = fun i => (args m c).xy (i 0) (i 1) (i 2) := by
  refine (dats m 0 c).arrAt_eq_of_covers 10 _ (by decide +kernel) fun t hf y => ?_
  blk_simp
  rw [after0_10]
  have ht : t.val < 64 := t.isLt
  refine (congrArg _ (unit3 y)).trans (((blk m c t ht).o10 (y 1) (y 2)).trans ?_)
  refine congr (congr (congrArg (args m c).xy (Fin.ext ?_)) (Fin.ext ?_)) (Fin.ext ?_) <;> blk_simp [(idxO t).1]
  exact place _ _

/-- The differential keys after the run. -/
theorem final11 : ((dats m 0 c).arrAt 11 cfg0.N : FVec Ideal S4x8192x512 .bf16) = fun i => (args m c).dk (i 0) (i 1) (i 2) := by
  refine (dats m 0 c).arrAt_eq_of_covers 11 _ (by decide +kernel) fun t hf y => ?_
  blk_simp
  rw [after0_11]
  have ht : t.val < 64 := t.isLt
  refine (congrArg _ (unit3 y)).trans (((blk m c t ht).o11 (y 1) (y 2)).trans ?_)
  refine congr (congr (congrArg (args m c).dk (Fin.ext ?_)) (Fin.ext ?_)) (Fin.ext ?_) <;> blk_simp [(idxO t).2.1]
  exact place _ _

/-- The stick-breaking keys after the run. -/
theorem final12 : ((dats m 0 c).arrAt 12 cfg0.N : FVec Ideal S4x8192x256 .bf16) = fun i => (args m c).sk (i 0) (i 1) (i 2) := by
  refine (dats m 0 c).arrAt_eq_of_covers 12 _ (by decide +kernel) fun t hf y => ?_
  blk_simp
  rw [after0_12]
  have ht : t.val < 64 := t.isLt
  refine (congrArg _ (unit3 y)).trans (((blk m c t ht).o12 (y 1) (y 2)).trans ?_)
  refine congr (congr (congrArg (args m c).sk (Fin.ext ?_)) (Fin.ext ?_)) (Fin.ext ?_) <;> blk_simp [(idxO t).2.2.1]
  exact place _ _

/-- The stick-breaking queries after the run. -/
theorem final13 : ((dats m 0 c).arrAt 13 cfg0.N : FVec Ideal S4x256x8192 .bf16) = fun i => (args m c).sq (i 0) (i 2) (i 1) := by
  refine (dats m 0 c).arrAt_eq_of_covers 13 _ (by decide +kernel) fun t hf y => ?_
  blk_simp
  rw [after0_13]
  have ht : t.val < 64 := t.isLt
  refine (congrArg _ (unit3 y)).trans (((blk m c t ht).o13 (y 2) (y 1)).trans ?_)
  refine congr (congr (congrArg (args m c).sq (Fin.ext ?_)) (Fin.ext ?_)) (Fin.ext ?_) <;> blk_simp [(idxO t).2.2.2.1]
  exact place _ _

/-- The differential queries after the run. -/
theorem final14 : ((dats m 0 c).arrAt 14 cfg0.N : FVec Ideal S4x256x8192 .bf16) = fun i => (args m c).dq (i 0) (i 2) (i 1) := by
  refine (dats m 0 c).arrAt_eq_of_covers 14 _ (by decide +kernel) fun t hf y => ?_
  blk_simp
  rw [after0_14]
  have ht : t.val < 64 := t.isLt
  refine (congrArg _ (unit3 y)).trans (((blk m c t ht).o14 (y 2) (y 1)).trans ?_)
  refine congr (congr (congrArg (args m c).dq (Fin.ext ?_)) (Fin.ext ?_)) (Fin.ext ?_) <;> blk_simp [(idxO t).2.2.2.2.1]
  exact place _ _

/-- The differential values after the run. -/
theorem final15 : ((dats m 0 c).arrAt 15 cfg0.N : FVec Ideal S4x320x8192 .bf16) = fun i => (args m c).dv (i 0) (i 2) (i 1) := by
  refine (dats m 0 c).arrAt_eq_of_covers 15 _ (by decide +kernel) fun t hf y => ?_
  blk_simp
  rw [after0_15]
  have ht : t.val < 64 := t.isLt
  refine (congrArg _ (unit3 y)).trans (((blk m c t ht).o15 (y 2) (y 1)).trans ?_)
  refine congr (congr (congrArg (args m c).dv (Fin.ext ?_)) (Fin.ext ?_)) (Fin.ext ?_) <;> blk_simp [(idxO t).2.2.2.2.2.1]
  exact place _ _

/-- The stick-breaking values after the run. -/
theorem final16 : ((dats m 0 c).arrAt 16 cfg0.N : FVec Ideal S4x256x8192 .bf16) = fun i => (args m c).sv (i 0) (i 2) (i 1) := by
  refine (dats m 0 c).arrAt_eq_of_covers 16 _ (by decide +kernel) fun t hf y => ?_
  blk_simp
  rw [after0_16]
  have ht : t.val < 64 := t.isLt
  refine (congrArg _ (unit3 y)).trans (((blk m c t ht).o16 (y 2) (y 1)).trans ?_)
  refine congr (congr (congrArg (args m c).sv (Fin.ext ?_)) (Fin.ext ?_)) (Fin.ext ?_) <;> blk_simp [(idxO t).2.2.2.2.2.2.1]
  exact place _ _

/-- The largest squared norms after the run. -/
theorem final17 : ((dats m 0 c).arrAt 17 cfg0.N : FVec Ideal S4x16x8x128 .f32) = fun i => (args m c).kn (i 0) (i 1) (i 3) := by
  refine (dats m 0 c).arrAt_eq_of_covers 17 _ (by decide +kernel) fun t hf y => ?_
  blk_simp
  rw [after0_17]
  have ht : t.val < 64 := t.isLt
  refine (congrArg _ (unit4 y)).trans (((blk m c t ht).o17 (y 2) (y 3)).trans ?_)
  refine congr (congr (congrArg (args m c).kn (Fin.ext ?_)) (Fin.ext ?_)) (Fin.ext ?_) <;> blk_simp [(idxO t).2.2.2.2.2.2.2]

end Cert.Kernel3Ideal.InValue

end
-- ==== Proof.InRef.lean ====
/-
  The reference of the input projection at an index is the closed form of its arguments.
-/
module

public import proofs.«01_k».proof.Proof.InSpec
public import proofs.«01_k».proof.Proof.Gen.Reference3Ideal.Run
public import Idealize.ShloMosaic.Lib.Pointwise

@[expose] public section

set_option maxRecDepth 16384

noncomputable section

open Idealize.ShloMosaic Idealize.ShloMosaic.TcCoe Idealize.ShloMosaic.StableHlo

namespace Cert.Reference3Ideal.InRef

open Cert.Reference3Ideal Cert.Reference3Ideal.Gen Cert.Reference3Ideal.Value Cert.Kernel3Ideal.InSpec

variable (X : FVec Ideal S4x8192x1024 .f32) (G : FVec Ideal S1024 .f32) (W : FVec Ideal S1024x2560 .f32) (B : FVec Ideal S8192x512 .bf16)

/-- The reference's arguments. -/
def args : Args where
  x b n l := X (ix3 b n l)
  g l := G (ix1 l)
  w k l := W (ix2 k l)
  bt n l := B (ix2 n l)

/-- The projection as the reference computes it. -/
def proj : FVec Ideal S4x8192x2560 .f32 :=
  Host.dotGeneral dot_S4x8192x1024_S1024x2560_S4x8192x2560_2_0_01_1_n_n none (mulf (mulf X (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf X X) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 G))) W

/-- The projection at an index. -/
theorem proj_at (b : Fin 4) (n : Fin 8192) (j : Fin 2560) : proj X G W (ix3 b n j) = (args X G W B).proj b n j := by
  unfold proj
  pointwise
  rfl

variable (P : FVec Ideal S4x8192x2560 .f32)

/-- The recurrence's branches cut out of a projection. -/
def xy : FVec Ideal S4x8192x1024 .f32 := extractStridedSlice S4x8192x1024 ![0, 0, 0] P slices_S4x8192x2560_S4x8192x1024_0_0_0

/-- The differential keys cut out of a projection. -/
def keys : FVec Ideal S4x8192x256 .f32 := extractStridedSlice S4x8192x256 ![0, 0, 2048] P slices_S4x8192x2560_S4x8192x256_0_0_2048

/-- Four heads of 64 features. -/
def heads (Q : FVec Ideal S4x8192x256 .f32) : FVec Ideal S4x8192x4x64 .f32 := shapeCast S4x8192x4x64 Q shapeCasts_S4x8192x256_S4x8192x4x64

/-- Heads of 64 features padded with zeros to 128. -/
def padded (Q : FVec Ideal S4x8192x4x64 .f32) : FVec Ideal S4x8192x4x128 .f32 :=
  pad S4x8192x4x128 ![0, 0, 0, 0] ![0, 0, 0, 64] ![0, 0, 0, 0] Q (sitofp .f32 (constantI S_ 32 0#32)) pads_S4x8192x4x64_S4x8192x4x128_000_000_000_0640 h_S_

/-- Padded heads side by side with the bias. -/
def biased (Q : FVec Ideal S4x8192x4x128 .f32) : FVec Ideal S4x8192x512 .bf16 :=
  truncf .bf16 (addf (shapeCast S4x8192x512 Q shapeCasts_S4x8192x4x128_S4x8192x512) (broadcastInDim S4x8192x512 ![0, 1, 2] bcast_S1x8192x512_S4x8192x512_0_1_2 (broadcastInDim S1x8192x512 ![1, 2] bcast_S8192x512_S1x8192x512_1_2 (extf .f32 B bitsLt_bf16_f32)))) bitsLt_bf16_f32

/-- The differential keys with their bias. -/
def dk : FVec Ideal S4x8192x512 .bf16 := biased B (padded (heads (keys P)))

/-- 256 features with the frames of each 256 turned. -/
def turned (Q : FVec Ideal S4x8192x256 .f32) : FVec Ideal S4x8192x256 .f32 :=
  shapeCast S4x8192x256 (transpose S4x32x32x8x256 [0, 1, 3, 2, 4] (shapeCast S4x32x8x32x256 Q shapeCasts_S4x8192x256_S4x32x8x32x256) transposes_S4x32x8x32x256_S4x32x32x8x256_0_1_3_2_4) shapeCasts_S4x32x32x8x256_S4x8192x256

/-- The stick-breaking keys. -/
def sk : FVec Ideal S4x8192x256 .bf16 := truncf .bf16 (turned (extractStridedSlice S4x8192x256 ![0, 0, 1280] P slices_S4x8192x2560_S4x8192x256_0_0_1280)) bitsLt_bf16_f32

/-- The stick-breaking queries. -/
def sq : FVec Ideal S4x256x8192 .bf16 :=
  truncf .bf16 (transpose S4x256x8192 [0, 2, 1] (mulf (extractStridedSlice S4x8192x256 ![0, 0, 1024] P slices_S4x8192x2560_S4x8192x256_0_0_1024) (broadcastInDim S4x8192x256 ![] bcast_S_S4x8192x256 (constant S_ .f32 0xBE38AA3B#32))) transposes_S4x8192x256_S4x256x8192_0_2_1) bitsLt_bf16_f32

/-- The differential queries. -/
def dq : FVec Ideal S4x256x8192 .bf16 :=
  truncf .bf16 (transpose S4x256x8192 [0, 2, 1] (mulf (extractStridedSlice S4x8192x256 ![0, 0, 1792] P slices_S4x8192x2560_S4x8192x256_0_0_1792) (broadcastInDim S4x8192x256 ![] bcast_S_S4x8192x256 (constant S_ .f32 0x3E8293EE#32))) transposes_S4x8192x256_S4x256x8192_0_2_1) bitsLt_bf16_f32

/-- Heads of 64 features followed by a one and zeros. -/
def wide (Q : FVec Ideal S4x8192x4x64 .f32) : FVec Ideal S4x8192x4x80 .f32 :=
  concatenate S4x8192x4x80 3 [⟨S4x8192x4x64, Q⟩, ⟨S4x8192x4x1, ((broadcastInDim S4x8192x4x1 ![] bcast_S_S4x8192x4x1 (constant S_ .f32 0x3F800000#32)) : FVec Ideal S4x8192x4x1 .f32)⟩, ⟨S4x8192x4x15, ((broadcastInDim S4x8192x4x15 ![] bcast_S_S4x8192x4x15 (constant S_ .f32 0x00000000#32)) : FVec Ideal S4x8192x4x15 .f32)⟩] concatenates_S4x8192x4x64_S4x8192x4x1_S4x8192x4x15_S4x8192x4x80_d3

/-- Heads of 80 side by side, features first. -/
def flat (Q : FVec Ideal S4x8192x4x80 .f32) : FVec Ideal S4x320x8192 .bf16 :=
  truncf .bf16 (transpose S4x320x8192 [0, 2, 1] (shapeCast S4x8192x320 (Q) shapeCasts_S4x8192x4x80_S4x8192x320) transposes_S4x8192x320_S4x320x8192_0_2_1) bitsLt_bf16_f32

/-- The differential values. -/
def dv : FVec Ideal S4x320x8192 .bf16 := flat (wide (heads (extractStridedSlice S4x8192x256 ![0, 0, 2304] P slices_S4x8192x2560_S4x8192x256_0_0_2304)))

/-- The stick-breaking values. -/
def sv : FVec Ideal S4x256x8192 .bf16 :=
  truncf .bf16 (transpose S4x256x8192 [0, 2, 1] (turned (extractStridedSlice S4x8192x256 ![0, 0, 1536] P slices_S4x8192x2560_S4x8192x256_0_0_1536)) transposes_S4x8192x256_S4x256x8192_0_2_1) bitsLt_bf16_f32

/-- The keys by half heads. -/
def half : FVec Ideal S4x16x512x8x32 .f32 := shapeCast S4x16x512x8x32 (heads (keys P)) shapeCasts_S4x8192x4x64_S4x16x512x8x32

/-- The half heads' squared norms. -/
def norms : FVec Ideal S4x16x512x8 .f32 := Host.reduceAdd (mulf (half P) (half P)) (constant S_ .f32 0x00000000#32) reducesTo_S4x16x512x8x32_S4x16x512x8_d4 h_S_

/-- The largest squared norms. -/
def kn : FVec Ideal S4x16x8x128 .f32 :=
  broadcastInDim S4x16x8x128 ![0, 1, 2, 3] bcast_S4x16x1x128_S4x16x8x128_0_1_2_3 (broadcastInDim S4x16x1x128 ![0, 1, 3] bcast_S4x16x128_S4x16x1x128_0_1_3 (pad S4x16x128 ![0, 0, 0] ![0, 0, 120] ![0, 0, 0] (Host.reduce FloatOps.maximumf (norms P) (constant S_ .f32 0xFF800000#32) reducesTo_S4x16x512x8_S4x16x8_d2 h_S_) (sitofp .f32 (constantI S_ 32 0#32)) pads_S4x16x8_S4x16x128_000_000_01200 h_S_))

/-- The integer zero as a float. -/
theorem sitofp_zero : (FloatOps.sitofp FTy.f32 0#32 : Ideal FTy.f32) = 0 := by
  show (((0#32 : BitVec 32).toInt : ℝ) : EReal) = 0
  simp

/-- A feature of a head at an index. -/
theorem heads_at (Q : FVec Ideal S4x8192x256 .f32) (b : Fin 4) (n : Fin 8192) (h : Fin 4) (l : Fin 64) : heads Q (ix4 b n h l) = Q (ix3 b n ⟨64 * h.val + l.val, by omega⟩) := by
  unfold heads
  pointwise
  exact congrArg (fun k : Fin 256 => Q (ix3 b n k)) (Fin.ext (by show h.val * 64 + l.val = 64 * h.val + l.val; omega))

/-- A padded head at an index. -/
theorem padded_at (Q : FVec Ideal S4x8192x4x64 .f32) (b : Fin 4) (n : Fin 8192) (h : Fin 4) (l : Fin 128) : padded Q (ix4 b n h l) = if h' : l.val < 64 then Q (ix4 b n h ⟨l.val, h'⟩) else 0 := by
  unfold padded
  pointwise
  rw [sitofp_zero]

/-- A head with its one and zeros at an index. -/
theorem wide_at (Q : FVec Ideal S4x8192x4x64 .f32) (b : Fin 4) (n : Fin 8192) (h : Fin 4) (l : Fin 80) : wide Q (ix4 b n h l) = if h' : l.val < 64 then Q (ix4 b n h ⟨l.val, h'⟩) else if l.val = 64 then 1 else 0 := by
  unfold wide
  pointwise
  refine dite_congr rfl (fun _ => rfl) fun h' => ?_
  refine dite_congr (propext ⟨fun _ => by omega, fun _ => by omega⟩) (fun _ => rfl) fun _ => rfl

/-- Padded heads with the bias at an index. -/
theorem biased_at (Q : FVec Ideal S4x8192x4x128 .f32) (b : Fin 4) (n : Fin 8192) (l : Fin 512) : biased B Q (ix3 b n l) = Q (ix4 b n ⟨l.val / 128, by omega⟩ ⟨l.val % 128, by omega⟩) + B (ix2 n l) := by
  unfold biased
  pointwise

/-- Heads of 80 side by side at an index. -/
theorem flat_at (Q : FVec Ideal S4x8192x4x80 .f32) (b : Fin 4) (n : Fin 8192) (l : Fin 320) : flat Q (ix3 b l n) = Q (ix4 b n ⟨l.val / 80, by omega⟩ ⟨l.val % 80, by omega⟩) := by
  unfold flat
  pointwise

/-- Turned features at an index. -/
theorem turned_at (Q : FVec Ideal S4x8192x256 .f32) (b : Fin 4) (n : Fin 8192) (l : Fin 256) : turned Q (ix3 b n l) = Q (ix3 b (turn n) l) := by
  unfold turned
  pointwise
  exact congrArg (fun k : Fin 8192 => Q (ix3 b k l)) (Fin.ext (by show n.val / 256 * 256 + n.val % 8 * 32 + n.val / 8 % 32 = 256 * (n.val / 256) + (n.val % 8 * 32 + n.val % 256 / 8); omega))

variable {P} {A : Args} (H : ∀ (b : Fin 4) (n : Fin 8192) (j : Fin 2560), P (ix3 b n j) = A.proj b n j)
include H

/-- The recurrence's branches at an index. -/
theorem xy_at (b : Fin 4) (n : Fin 8192) (l : Fin 1024) : xy P (ix3 b n l) = A.xy b n l := by
  unfold xy
  pointwise
  rw [H]
  rfl

/-- The differential keys at an index. -/
theorem dk_at (hB : ∀ n l, A.bt n l = B (ix2 n l)) (b : Fin 4) (n : Fin 8192) (l : Fin 512) : dk B P (ix3 b n l) = A.dk b n l := by
  unfold dk
  rw [biased_at, padded_at, ← hB]
  unfold Args.dk Args.key
  congr 1
  by_cases h : l.val % 128 < 64
  · rw [dif_pos h, if_pos h, heads_at]
    unfold keys
    pointwise
    rw [H]
    exact congrArg (A.proj b n) (Fin.ext (by show 2048 + (64 * (l.val / 128) + l.val % 128) = 2048 + (64 * (l.val / 128) + l.val % 128) % 256; omega))
  · rw [dif_neg h, if_neg h]

/-- The stick-breaking keys at an index. -/
theorem sk_at (b : Fin 4) (n : Fin 8192) (l : Fin 256) : sk P (ix3 b n l) = A.sk b n l := by
  unfold sk
  pointwise
  rw [turned_at]
  pointwise
  rw [H]
  rfl

/-- The stick-breaking queries at an index. -/
theorem sq_at (b : Fin 4) (n : Fin 8192) (l : Fin 256) : sq P (ix3 b l n) = A.sq b n l := by
  unfold sq
  pointwise
  rw [H]
  rfl

/-- The differential queries at an index. -/
theorem dq_at (b : Fin 4) (n : Fin 8192) (l : Fin 256) : dq P (ix3 b l n) = A.dq b n l := by
  unfold dq
  pointwise
  rw [H]
  rfl

/-- The differential values at an index. -/
theorem dv_at (b : Fin 4) (n : Fin 8192) (l : Fin 320) : dv P (ix3 b l n) = A.dv b n l := by
  unfold dv
  rw [flat_at, wide_at]
  unfold Args.dv
  by_cases h : l.val % 80 < 64
  · rw [dif_pos h, if_pos h, heads_at]
    pointwise
    rw [H]
    exact congrArg (A.proj b n) (Fin.ext (by show 2304 + (64 * (l.val / 80) + l.val % 80) = 2304 + (64 * (l.val / 80) + l.val % 80) % 256; omega))
  · rw [dif_neg h, if_neg h]

/-- The stick-breaking values at an index. -/
theorem sv_at (b : Fin 4) (n : Fin 8192) (l : Fin 256) : sv P (ix3 b l n) = A.sv b n l := by
  unfold sv
  pointwise
  rw [turned_at]
  pointwise
  rw [H]
  rfl

/-- The squared norms at an index. -/
theorem norms_at (b : Fin 4) (s : Fin 16) (r : Fin 512) (l : Fin 8) : norms P (ix4 b s r l) = A.nrm b ⟨512 * s.val + r.val, by omega⟩ l := by
  unfold norms half heads keys
  pointwise
  simp only [H]
  unfold Args.nrm
  refine Finset.sum_congr rfl fun e _ => ?_
  have hr : (⟨s.val * 512 + r.val, by omega⟩ : Fin 8192) = ⟨512 * s.val + r.val, by omega⟩ := Fin.ext (by show s.val * 512 + r.val = 512 * s.val + r.val; omega)
  have hl : (⟨2048 + (l.val * 32 + e.val), by omega⟩ : Fin 2560) = ⟨2048 + (32 * l.val + e.val), by omega⟩ := Fin.ext (by show 2048 + (l.val * 32 + e.val) = 2048 + (32 * l.val + e.val); omega)
  rw [hr, hl]

/-- The largest squared norms at an index. -/
theorem kn_at (b : Fin 4) (s : Fin 16) (q : Fin 8) (l : Fin 128) : kn P (ix4 b s q l) = A.kn b s l := by
  unfold kn
  pointwise
  unfold Args.kn
  rw [sitofp_zero]
  refine dite_congr rfl (fun h => ?_) fun _ => rfl
  simp only [norms_at H]
  congr 1

end Cert.Reference3Ideal.InRef

end
-- ==== Proof.InClaim.lean ====
/-
  The input projection claims put together: the reference's frame read off its run, and the equality of the eight results.
-/
module

public import proofs.«01_k».proof.Defs
public import proofs.«01_k».proof.Proof.InValue
public import proofs.«01_k».proof.Proof.InRef

@[expose] public section

set_option maxRecDepth 16384

noncomputable section

open Idealize.ShloMosaic Idealize.ShloMosaic.TcCoe Idealize.SL.Sem

namespace Cert.InClaim

open Cert.Kernel3Ideal.InSpec Cert.Reference3Ideal

/-- The reference ends with its arguments unchanged and no counter away from zero. -/
theorem frame_ref : Cert.quiescent_Reference3Ideal (hReference3Ideal := Cert.Reference3Ideal.Gen.facts) := fun m ρ _ =>
  (θ_run Cert.Reference3Ideal.defs _ _).mono (fun r h => ⟨fun c => (h c).2.2.2.2.2.2.2.2, sem_eq_zero_of_no_sems (by decide) r.2⟩)
    (Cert.Reference3Ideal.Value.run (F := Ideal) m ρ)

/-- Two arrays of three axes that agree at every index are equal. -/
theorem ext3 {α : Type} {p q r : ℕ} (f g : (⟨3, ![p, q, r]⟩ : Shape).Idx → α) (h : ∀ a b c, f (ix3 a b c) = g (ix3 a b c)) : f = g := by
  funext i
  have e : i = ix3 (i 0) (i 1) (i 2) := by
    funext a
    fin_cases a <;> rfl
  rw [e]
  exact h _ _ _

/-- Two arrays of four axes that agree at every index are equal. -/
theorem ext4 {α : Type} {p q r s : ℕ} (f g : (⟨4, ![p, q, r, s]⟩ : Shape).Idx → α) (h : ∀ a b c d, f (ix4 a b c d) = g (ix4 a b c d)) : f = g := by
  funext i
  have e : i = ix4 (i 0) (i 1) (i 2) (i 3) := by
    funext a
    fin_cases a <;> rfl
  rw [e]
  exact h _ _ _ _

set_option maxHeartbeats 0 in
/-- The kernel and the reference end with equal results. -/
theorem algebraic : Cert.algebraic_Kernel3Ideal_Reference3Ideal (hKernel3Ideal := Cert.Kernel3Ideal.Gen.facts) (hReference3Ideal := Cert.Reference3Ideal.Gen.facts) := by
  intro m ρ m' ρ' _ hagree
  refine ⟨fun c => (Cert.Kernel3Ideal.Gen.dats m 0 c).arrAt 10 Cert.Kernel3Ideal.cfg0.N, fun c => (Cert.Kernel3Ideal.Gen.dats m 0 c).arrAt 11 Cert.Kernel3Ideal.cfg0.N,
    fun c => (Cert.Kernel3Ideal.Gen.dats m 0 c).arrAt 12 Cert.Kernel3Ideal.cfg0.N, fun c => (Cert.Kernel3Ideal.Gen.dats m 0 c).arrAt 13 Cert.Kernel3Ideal.cfg0.N,
    fun c => (Cert.Kernel3Ideal.Gen.dats m 0 c).arrAt 14 Cert.Kernel3Ideal.cfg0.N, fun c => (Cert.Kernel3Ideal.Gen.dats m 0 c).arrAt 15 Cert.Kernel3Ideal.cfg0.N,
    fun c => (Cert.Kernel3Ideal.Gen.dats m 0 c).arrAt 16 Cert.Kernel3Ideal.cfg0.N, fun c => (Cert.Kernel3Ideal.Gen.dats m 0 c).arrAt 17 Cert.Kernel3Ideal.cfg0.N,
    Cert.Kernel3Ideal.Value.run_blocks (F := Ideal) m ρ, ?_⟩
  refine (θ_run Cert.Reference3Ideal.defs _ _).mono (fun r h c => ?_) (Cert.Reference3Ideal.Value.run (F := Ideal) m' ρ')
  obtain ⟨h0, h1, h2, h3, h4, h5, h6, h7, hk⟩ := h c
  obtain ⟨a0, a1, a2, a3⟩ := hagree c
  let X : FVec Ideal S4x8192x1024 .f32 := m' ((c.tc : Thread nD τ).loc main_arg0)
  let G : FVec Ideal S1024 .f32 := m' ((c.tc : Thread nD τ).loc main_arg1)
  let W : FVec Ideal S1024x2560 .f32 := m' ((c.tc : Thread nD τ).loc main_arg2)
  let B : FVec Ideal S8192x512 .bf16 := m' ((c.tc : Thread nD τ).loc main_arg3)
  have H : ∀ b n j, InRef.proj X G W (ix3 b n j) = (Cert.Kernel3Ideal.InHost.args m c).proj b n j := fun b n j => by
    refine (InRef.proj_at X G W B b n j).trans ?_
    have ea : InRef.args X G W B = Cert.Kernel3Ideal.InHost.args m c := by
      unfold InRef.args Cert.Kernel3Ideal.InHost.args
      rw [← a0, ← a1, ← a2, ← a3]
    rw [ea]
  have hB : ∀ n l, (Cert.Kernel3Ideal.InHost.args m c).bt n l = B (ix2 n l) := fun n l => by
    unfold Cert.Kernel3Ideal.InHost.args
    rw [← a3]
  refine ⟨h0.trans ?_, h1.trans ?_, h2.trans ?_, h3.trans ?_, h4.trans ?_, h5.trans ?_, h6.trans ?_, h7.trans ?_, hk⟩
  · refine Eq.trans (ext3 (InRef.xy (InRef.proj X G W)) _ fun b n l => InRef.xy_at H b n l) (Cert.Kernel3Ideal.InValue.final10 m c).symm
  · refine Eq.trans (ext3 (InRef.dk B (InRef.proj X G W)) _ fun b n l => InRef.dk_at B H hB b n l) (Cert.Kernel3Ideal.InValue.final11 m c).symm
  · refine Eq.trans (ext3 (InRef.sk (InRef.proj X G W)) _ fun b n l => InRef.sk_at H b n l) (Cert.Kernel3Ideal.InValue.final12 m c).symm
  · refine Eq.trans (ext3 (InRef.sq (InRef.proj X G W)) _ fun b l n => InRef.sq_at H b n l) (Cert.Kernel3Ideal.InValue.final13 m c).symm
  · refine Eq.trans (ext3 (InRef.dq (InRef.proj X G W)) _ fun b l n => InRef.dq_at H b n l) (Cert.Kernel3Ideal.InValue.final14 m c).symm
  · refine Eq.trans (ext3 (InRef.dv (InRef.proj X G W)) _ fun b l n => InRef.dv_at H b n l) (Cert.Kernel3Ideal.InValue.final15 m c).symm
  · refine Eq.trans (ext3 (InRef.sv (InRef.proj X G W)) _ fun b l n => InRef.sv_at H b n l) (Cert.Kernel3Ideal.InValue.final16 m c).symm
  · refine Eq.trans (ext4 (InRef.kn (InRef.proj X G W)) _ fun b s q l => InRef.kn_at H b s q l) (Cert.Kernel3Ideal.InValue.final17 m c).symm

end Cert.InClaim

end
-- ==== Proof.MidBody.lean ====
/-
  One grid point of the same call without the last normalisation. The body's stores are read back into the named terms of
  the last layer's call, which the two calls share up to the block of the output.
-/
module

public import proofs.«01_k».proof.Proof.FfnBlock
public import proofs.«01_k».proof.Proof.Gen.Kernel4Ideal.Frame
public import Idealize.ShloMosaic.Lib.Pipeline.ValueKit
public import Idealize.ShloMosaic.Lib.Pipeline.ReadBack
public import Idealize.ShloMosaic.Lib.Pointwise
public import Idealize.ShloMosaic.Lib.Pipeline.Value

@[expose] public section

set_option maxRecDepth 16384

noncomputable section

open Idealize.ShloMosaic Idealize.ShloMosaic.TcCoe

namespace Cert.Kernel4Ideal.MidBody

open Cert.Kernel4Ideal Cert.Kernel4Ideal.Gen
open Cert.Kernel2Ideal.FfnBody (xres hrow up rd tl zero22 cv acc zrd canon_at)

section Reads

variable {F : FTy → Type} [FloatOps F]

/-- A read of the row buffer depends on the last two stores alone. -/
theorem zrd_of (v : View sig .tc .vmem S520x256 .f32) (u : FVec F S512x256 .f32) (t : FVec F S8x256 .f32) (L : List (View.Piece (Elt F) S520x256 .f32)) (j : ℕ)
    (inb : ∀ a, (![j, 0] : Fin 2 → ℕ) a + (![512, 256] : Fin 2 → ℕ) a ≤ S520x256.size a) :
    v.readCov (⟨Rect.unit (s := S520x256) ![8, 0] ![512, 256] inb_S520x256_S512x256_8_0, u⟩ ::
      ⟨Rect.unit (s := S520x256) ![0, 0] ![8, 256] inb_S520x256_S8x256_0_0, t⟩ :: L) (Rect.unit (s := S520x256) ![j, 0] ![512, 256] inb).toLoadRect
    = zrd u t j inb := by
  rw [View.readCov_eq_canon']
  unfold zrd
  have e : View.canon (⟨Rect.unit (s := S520x256) ![8, 0] ![512, 256] inb_S520x256_S512x256_8_0, u⟩ ::
      ⟨Rect.unit (s := S520x256) ![0, 0] ![8, 256] inb_S520x256_S8x256_0_0, t⟩ :: L)
      = View.canon [⟨Rect.unit (s := S520x256) ![8, 0] ![512, 256] inb_S520x256_S512x256_8_0, u⟩,
      ⟨Rect.unit (s := S520x256) ![0, 0] ![8, 256] inb_S520x256_S8x256_0_0, t⟩] := by
    funext i
    have hi : i = ix2 (i 0) (i 1) := by funext a; fin_cases a <;> rfl
    rw [hi]
    exact (canon_at u t L (i 0) (i 1)).trans (canon_at u t [] (i 0) (i 1)).symm
  rw [e]

end Reads

section Points

variable {F : FTy → Type} [FloatOps F]

set_option maxHeartbeats 4000000 in
/-- The output at a later point of a batch. -/
theorem out_B (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S520x256 .f32) (harg14 : arg14.IsWhole) (arg15 : Memref sig .tc .vmem S22x8x256 .f32) (harg15 : arg15.IsWhole) (arg16 : Memref sig .tc .vmem S512x1024 .f32) (harg16 : arg16.IsWhole) (hc0 : ¬cond0_0 i)
    (x0 : Vec F S1x512x1024 .f32) (x1 : Vec F S1x512x512 .bf16) (x2 : Vec F S1x256x512 .bf16) (x3 : Vec F S1x256x512 .bf16) (x4 : Vec F S1024x1024 .bf16) (x5 : Vec F S1x1024 .f32) (x6 : Vec F S1024x5632 .bf16) (x7 : Vec F S3x5632 .f32) (x8 : Vec F S1x5632 .f32) (x9 : Vec F S2816x1024 .bf16) (x10 : Vec F S1x1024 .f32) (xs1 : Vec F S22x8x256 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs1
    = k0_pay2 (xres x0 x1 x2 x3 x4) (acc x9 (cv x7 x8 (up (hrow x0 x1 x2 x3 x4 x5) x6) (rd xs1)) 10) := by
  frame_out
  simp (disch := decide) only [↓zrd_of]
  rfl

set_option maxHeartbeats 4000000 in
/-- The output at the first point of a batch. -/
theorem out_A (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S520x256 .f32) (harg14 : arg14.IsWhole) (arg15 : Memref sig .tc .vmem S22x8x256 .f32) (harg15 : arg15.IsWhole) (arg16 : Memref sig .tc .vmem S512x1024 .f32) (harg16 : arg16.IsWhole) (hc0 : cond0_0 i)
    (x0 : Vec F S1x512x1024 .f32) (x1 : Vec F S1x512x512 .bf16) (x2 : Vec F S1x256x512 .bf16) (x3 : Vec F S1x256x512 .bf16) (x4 : Vec F S1024x1024 .bf16) (x5 : Vec F S1x1024 .f32) (x6 : Vec F S1024x5632 .bf16) (x7 : Vec F S3x5632 .f32) (x8 : Vec F S1x5632 .f32) (x9 : Vec F S2816x1024 .bf16) (x10 : Vec F S1x1024 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10
    = k0_pay2 (xres x0 x1 x2 x3 x4) (acc x9 (cv x7 x8 (up (hrow x0 x1 x2 x3 x4 x5) x6) (rd k0_pay3)) 10) := by
  frame_out
  simp (disch := decide) only [↓View.readCov_skip, ↓View.readCov_fill, ↓zrd_of]
  rfl

set_option maxHeartbeats 4000000 in
/-- The carried rows after a later point. -/
theorem tails_B (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S520x256 .f32) (harg14 : arg14.IsWhole) (arg15 : Memref sig .tc .vmem S22x8x256 .f32) (harg15 : arg15.IsWhole) (arg16 : Memref sig .tc .vmem S512x1024 .f32) (harg16 : arg16.IsWhole) (hc0 : ¬cond0_0 i)
    (x0 : Vec F S1x512x1024 .f32) (x1 : Vec F S1x512x512 .bf16) (x2 : Vec F S1x256x512 .bf16) (x3 : Vec F S1x256x512 .bf16) (x4 : Vec F S1024x1024 .bf16) (x5 : Vec F S1x1024 .f32) (x6 : Vec F S1024x5632 .bf16) (x7 : Vec F S3x5632 .f32) (x8 : Vec F S1x5632 .f32) (x9 : Vec F S2816x1024 .bf16) (x10 : Vec F S1x1024 .f32) (xs1 : Vec F S22x8x256 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs1
    = View.canon (tl (up (hrow x0 x1 x2 x3 x4 x5) x6) [] 22) := by
  frame_out
  rfl

set_option maxHeartbeats 4000000 in
/-- The carried rows after the first point. -/
theorem tails_A (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S520x256 .f32) (harg14 : arg14.IsWhole) (arg15 : Memref sig .tc .vmem S22x8x256 .f32) (harg15 : arg15.IsWhole) (arg16 : Memref sig .tc .vmem S512x1024 .f32) (harg16 : arg16.IsWhole) (hc0 : cond0_0 i)
    (x0 : Vec F S1x512x1024 .f32) (x1 : Vec F S1x512x512 .bf16) (x2 : Vec F S1x256x512 .bf16) (x3 : Vec F S1x256x512 .bf16) (x4 : Vec F S1024x1024 .bf16) (x5 : Vec F S1x1024 .f32) (x6 : Vec F S1024x5632 .bf16) (x7 : Vec F S3x5632 .f32) (x8 : Vec F S1x5632 .f32) (x9 : Vec F S2816x1024 .bf16) (x10 : Vec F S1x1024 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10
    = View.canon (tl (up (hrow x0 x1 x2 x3 x4 x5) x6) zero22 22) := by
  frame_out
  rfl

end Points

end Cert.Kernel4Ideal.MidBody
-- ==== Proof.MidValue.lean ====
/-
  The result of the call without the last normalisation: what each window holds at a point of the grid, an induction over
  the points carrying every stream's last eight rows, and the whole array.
-/
module

public import proofs.«01_k».proof.Proof.FfnValue
public import proofs.«01_k».proof.Proof.MidBody
public import proofs.«01_k».proof.Proof.Gen.Kernel4Ideal.Value

@[expose] public section

set_option maxRecDepth 16384

noncomputable section

open Idealize.ShloMosaic Idealize.ShloMosaic.TcCoe Idealize.ShloMosaic.StableHlo

namespace Cert.Kernel4Ideal.MidValue

open Cert.Kernel4Ideal Cert.Kernel4Ideal.Gen Cert.Kernel4Ideal.Value Cert.Kernel4Ideal.MidBody Cert.Kernel2Ideal.FfnSpec Cert.Kernel2Ideal.FfnBlock
open Cert.Kernel2Ideal.FfnBody (xres hrow up rd tl cv acc col)
open Cert.Kernel2Ideal.FfnValue (bat fr_le)

variable (m : (ℓ : Loc nD τ sig) → Buf (Elt Ideal) ℓ) (c : Dev nD)

/-- The layer's arrays, as the memory holds them on entry. -/
def args : Args where
  x b n l := (m ((c : Thread nD τ).loc main_arg0) : FVec Ideal S4x8192x1024 .f32) (ix3 b n l)
  oa b n l := (m ((c : Thread nD τ).loc main_arg1) : FVec Ideal S4x8192x512 .bf16) (ix3 b n l)
  ob b n l := (m ((c : Thread nD τ).loc main_arg2) : FVec Ideal S4x8192x256 .bf16) (ix3 b n l)
  oc b n l := (m ((c : Thread nD τ).loc main_arg3) : FVec Ideal S4x8192x256 .bf16) (ix3 b n l)
  wo k l := (m ((c : Thread nD τ).loc main_arg4) : FVec Ideal S1024x1024 .f32) (ix2 k l)
  g l := (m ((c : Thread nD τ).loc main_arg5) : FVec Ideal S1024 .f32) (ix1 l)
  wu k l := (m ((c : Thread nD τ).loc main_arg6) : FVec Ideal S1024x5632 .f32) (ix2 k l)
  cw k l := (m ((c : Thread nD τ).loc main_arg7) : FVec Ideal S3x5632 .f32) (ix2 k l)
  cb l := (m ((c : Thread nD τ).loc main_arg8) : FVec Ideal S5632 .f32) (ix1 l)
  wd k l := (m ((c : Thread nD τ).loc main_arg9) : FVec Ideal S2816x1024 .f32) (ix2 k l)
  fg l := (m ((c : Thread nD τ).loc main_arg10) : FVec Ideal S1024 .f32) (ix1 l)

/-- The second mixer, its axes swapped. -/
theorem V_v0 (b : Fin 4) (n : Fin 8192) (k : Fin 256) : (V m c main_v0 : FVec Ideal S4x256x8192 .bf16) (ix3 b k n) = (args m c).ob b n k := by
  have e : V m c main_v0 = transpose S4x256x8192 [0, 2, 1] (m ((c : Thread nD τ).loc main_arg2) : FVec Ideal S4x8192x256 .bf16) transposes_S4x8192x256_S4x256x8192_0_2_1 := by
    show after hostOps0 _ _ = _
    after_results
  rw [e]
  unfold args
  pointwise

/-- The third mixer, its axes swapped. -/
theorem V_v1 (b : Fin 4) (n : Fin 8192) (k : Fin 256) : (V m c main_v1 : FVec Ideal S4x256x8192 .bf16) (ix3 b k n) = (args m c).oc b n k := by
  have e : V m c main_v1 = transpose S4x256x8192 [0, 2, 1] (m ((c : Thread nD τ).loc main_arg3) : FVec Ideal S4x8192x256 .bf16) transposes_S4x8192x256_S4x256x8192_0_2_1 := by
    show after hostOps0 _ _ = _
    after_results
  rw [e]
  unfold args
  pointwise

/-- The output projection's weights. -/
theorem V_v2 (k l : Fin 1024) : (V m c main_v2 : FVec Ideal S1024x1024 .bf16) (ix2 k l) = (args m c).wo k l := by
  have e : V m c main_v2 = (truncf .bf16 (m ((c : Thread nD τ).loc main_arg4) : FVec Ideal S1024x1024 .f32) bitsLt_bf16_f32 : FVec Ideal S1024x1024 .bf16) := by
    show after hostOps0 _ _ = _
    after_results
  rw [e]
  unfold args
  pointwise

/-- The first normalisation's gain. -/
theorem V_v3 (l : Fin 1024) : (V m c main_v3 : FVec Ideal S1x1024 .f32) (ix2 0 l) = (args m c).g l := by
  have e : V m c main_v3 = broadcastInDim S1x1024 ![1] bcast_S1024_S1x1024_1 (m ((c : Thread nD τ).loc main_arg5) : FVec Ideal S1024 .f32) := by
    show after hostOps0 _ _ = _
    after_results
  rw [e]
  unfold args
  pointwise

/-- The up-projection's weights. -/
theorem V_v4 (k : Fin 1024) (l : Fin 5632) : (V m c main_v4 : FVec Ideal S1024x5632 .bf16) (ix2 k l) = (args m c).wu k l := by
  have e : V m c main_v4 = (truncf .bf16 (m ((c : Thread nD τ).loc main_arg6) : FVec Ideal S1024x5632 .f32) bitsLt_bf16_f32 : FVec Ideal S1024x5632 .bf16) := by
    show after hostOps0 _ _ = _
    after_results
  rw [e]
  unfold args
  pointwise

/-- The convolution's bias. -/
theorem V_v5 (l : Fin 5632) : (V m c main_v5 : FVec Ideal S1x5632 .f32) (ix2 0 l) = (args m c).cb l := by
  have e : V m c main_v5 = broadcastInDim S1x5632 ![1] bcast_S5632_S1x5632_1 (m ((c : Thread nD τ).loc main_arg8) : FVec Ideal S5632 .f32) := by
    show after hostOps0 _ _ = _
    after_results
  rw [e]
  unfold args
  pointwise

/-- The down-projection's weights. -/
theorem V_v6 (k : Fin 2816) (l : Fin 1024) : (V m c main_v6 : FVec Ideal S2816x1024 .bf16) (ix2 k l) = (args m c).wd k l := by
  have e : V m c main_v6 = (truncf .bf16 (m ((c : Thread nD τ).loc main_arg9) : FVec Ideal S2816x1024 .f32) bitsLt_bf16_f32 : FVec Ideal S2816x1024 .bf16) := by
    show after hostOps0 _ _ = _
    after_results
  rw [e]
  unfold args
  pointwise

/-- The last normalisation's gain. -/
theorem V_v7 (l : Fin 1024) : (V m c main_v7 : FVec Ideal S1x1024 .f32) (ix2 0 l) = (args m c).fg l := by
  have e : V m c main_v7 = broadcastInDim S1x1024 ![1] bcast_S1024_S1x1024_1 (m ((c : Thread nD τ).loc main_arg10) : FVec Ideal S1024 .f32) := by
    show after hostOps0 _ _ = _
    after_results
  rw [e]
  unfold args
  pointwise

/-- Where the mixers' and the residual's blocks lie. -/
theorem idxs : ∀ t : Fin cfg0.N, win0_0.index t = ![t.val / 16, t.val % 16, 0] ∧ win0_1.index t = ![t.val / 16, t.val % 16, 0]
    ∧ win0_2.index t = ![t.val / 16, 0, t.val % 16] ∧ win0_3.index t = ![t.val / 16, 0, t.val % 16] :=
  (by decide +kernel : ∀ t : Fin grid0.N, _)

/-- The other windows' blocks are their whole arrays. -/
theorem idxW : ∀ t : Fin cfg0.N, win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] :=
  (by decide +kernel : ∀ t : Fin grid0.N, _)

/-- The output projection's weights are read whole. -/
theorem blk4 (t : Fin cfg0.N) : (iblk m c 4 t : Vec Ideal S1024x1024 .bf16) = V m c main_v2 := by
  funext j
  rw [iblk]
  show V m c main_v2 _ = V m c main_v2 j
  refine congrArg (V m c main_v2) ?_
  funext a
  refine Fin.ext ?_
  fin_cases a <;> blk_simp [(idxW t).1]

/-- The first gain is read whole. -/
theorem blk5 (t : Fin cfg0.N) : (iblk m c 5 t : Vec Ideal S1x1024 .f32) = V m c main_v3 := by
  funext j
  rw [iblk]
  show V m c main_v3 _ = V m c main_v3 j
  refine congrArg (V m c main_v3) ?_
  funext a
  refine Fin.ext ?_
  fin_cases a <;> blk_simp [(idxW t).2.1]

/-- The up-projection's weights are read whole. -/
theorem blk6 (t : Fin cfg0.N) : (iblk m c 6 t : Vec Ideal S1024x5632 .bf16) = V m c main_v4 := by
  funext j
  rw [iblk]
  show V m c main_v4 _ = V m c main_v4 j
  refine congrArg (V m c main_v4) ?_
  funext a
  refine Fin.ext ?_
  fin_cases a <;> blk_simp [(idxW t).2.2.1]

/-- The taps are read whole. -/
theorem blk7 (t : Fin cfg0.N) : (iblk m c 7 t : Vec Ideal S3x5632 .f32) = V m c main_arg7 := by
  funext j
  rw [iblk]
  show V m c main_arg7 _ = V m c main_arg7 j
  refine congrArg (V m c main_arg7) ?_
  funext a
  refine Fin.ext ?_
  fin_cases a <;> blk_simp [(idxW t).2.2.2.1]

/-- The convolution's bias is read whole. -/
theorem blk8 (t : Fin cfg0.N) : (iblk m c 8 t : Vec Ideal S1x5632 .f32) = V m c main_v5 := by
  funext j
  rw [iblk]
  show V m c main_v5 _ = V m c main_v5 j
  refine congrArg (V m c main_v5) ?_
  funext a
  refine Fin.ext ?_
  fin_cases a <;> blk_simp [(idxW t).2.2.2.2.1]

/-- The down-projection's weights are read whole. -/
theorem blk9 (t : Fin cfg0.N) : (iblk m c 9 t : Vec Ideal S2816x1024 .bf16) = V m c main_v6 := by
  funext j
  rw [iblk]
  show V m c main_v6 _ = V m c main_v6 j
  refine congrArg (V m c main_v6) ?_
  funext a
  refine Fin.ext ?_
  fin_cases a <;> blk_simp [(idxW t).2.2.2.2.2.1]

/-- The last gain is read whole. -/
theorem blk10 (t : Fin cfg0.N) : (iblk m c 10 t : Vec Ideal S1x1024 .f32) = V m c main_v7 := by
  funext j
  rw [iblk]
  show V m c main_v7 _ = V m c main_v7 j
  refine congrArg (V m c main_v7) ?_
  funext a
  refine Fin.ext ?_
  fin_cases a <;> blk_simp [(idxW t).2.2.2.2.2.2]

/-- What a point's windows hold. -/
theorem blk (t : Fin cfg0.N) (ht : t.val < 64) : Blk (args m c) (bat t.val ht) (512 * (t.val % 16)) (fr_le t.val)
    (iblk m c 0 t) (iblk m c 1 t) (iblk m c 2 t) (iblk m c 3 t) (iblk m c 4 t) (iblk m c 5 t) (iblk m c 6 t) (iblk m c 7 t) (iblk m c 8 t) (iblk m c 9 t) (iblk m c 10 t) where
  hx r l := by
    unfold args
    blk_ext [iblk, V_main_arg0, (idxs t).1]
  ha r k := by
    unfold args
    blk_ext [iblk, V_main_arg1, (idxs t).2.1]
  hb r k := by
    rw [← V_v0]
    blk_ext [iblk, (idxs t).2.2.1]
  hc r k := by
    rw [← V_v1]
    blk_ext [iblk, (idxs t).2.2.2]
  ho k l := by rw [blk4, V_v2]
  hg l := by rw [blk5, V_v3]
  hu k j := by rw [blk6, V_v4]
  hw k j := by
    rw [blk7, V_main_arg7]
    rfl
  hcb j := by rw [blk8, V_v5]
  hd e l := by rw [blk9, V_v6]
  hf l := by rw [blk10, V_v7]

/-- The zeros of a first point. -/
theorem zeros_at (k : Fin 22) (q : Fin 8) (l : Fin 256) : (k0_pay3 (F := Ideal)) (ix3 k q l) = 0 := by
  unfold k0_pay3
  pointwise

/-- The block of the output. -/
theorem block_out {A : Args} {b : Fin 4} {n0 : ℕ} {hn : n0 + 512 ≤ 8192} {x0 : Vec Ideal S1x512x1024 .f32} {x1 : Vec Ideal S1x512x512 .bf16} {x2 x3 : Vec Ideal S1x256x512 .bf16}
    {x4 : Vec Ideal S1024x1024 .bf16} {x5 : Vec Ideal S1x1024 .f32} {x6 : Vec Ideal S1024x5632 .bf16} {x7 : Vec Ideal S3x5632 .f32} {x8 : Vec Ideal S1x5632 .f32}
    {x9 : Vec Ideal S2816x1024 .bf16} {x10 : Vec Ideal S1x1024 .f32} (H : Blk A b n0 hn x0 x1 x2 x3 x4 x5 x6 x7 x8 x9 x10)
    {T : ℕ → Vec Ideal S1x8x256 .f32} (hT : Tail A b n0 hn T) (r : Fin 512) (l : Fin 1024) :
    k0_pay2 (xres x0 x1 x2 x3 x4) (acc x9 (cv x7 x8 (up (hrow x0 x1 x2 x3 x4 x5) x6) T) 10) (ix3 0 r l) = A.y b (fr n0 hn r) l := by
  unfold k0_pay2
  pointwise
  rw [H.xres, H.acc hT]
  rfl

/-- What the run has after a point: its block of the result and every stream's last eight rows. -/
structure After (t : ℕ) (h : t < cfg0.N) (ht : t < 64) : Prop where
  out : ∀ (r : Fin 512) (l : Fin 1024), (outsAt0 m c t h).1 (ix3 0 r l) = (args m c).y (bat t ht) (fr (512 * (t % 16)) (fr_le t) r) l
  tails : ∀ (k : Fin 22) (q : Fin 8) (l : Fin 256), (outsAt0 m c t h).2 (ix3 k q l)
    = (args m c).u (bat t ht) (fr (512 * (t % 16)) (fr_le t) ⟨504 + q.val, by omega⟩) (cj k.val l)

/-- After a first point. -/
theorem afterA (t : Fin cfg0.N) (ht : t.val < 64) (h0 : t.val % 16 = 0) : After m c t.val t.isLt ht := by
  have B := blk m c t ht
  have hT : Tail (args m c) (bat t.val ht) (512 * (t.val % 16)) (fr_le t.val) (rd (k0_pay3 (F := Ideal))) := fun k hk q l => by
    rw [rd_at, zeros_at, dif_neg (by omega)]
  refine ⟨fun r l => ?_, fun k q l => ?_⟩
  · have e := congrArg (fun p => p.1) (outsAt0_A m c t h0)
    dsimp only at e
    rw [out_A] at e
    rw [e]
    exact block_out B hT r l
  · have e := congrArg (fun p => p.2) (outsAt0_A m c t h0)
    dsimp only at e
    rw [tails_A] at e
    rw [e, tl_at _ _ k q l 22 k.isLt (le_refl _)]
    exact B.up k.val _ l

/-- After a later point, from what the point before left. -/
theorem afterB (t : Fin cfg0.N) (ht : t.val < 64) (h0 : ¬t.val % 16 = 0) (hp : t.val - 1 < cfg0.N)
    (P : After m c (t.val - 1) hp (by omega)) : After m c t.val t.isLt ht := by
  have B := blk m c t ht
  have eb : bat (t.val - 1) (by omega) = bat t.val ht := Fin.ext (show (t.val - 1) / 16 = t.val / 16 by omega)
  have hT : Tail (args m c) (bat t.val ht) (512 * (t.val % 16)) (fr_le t.val) (rd (outsAt0 m c (t.val - 1) hp).2) := fun k hk q l => by
    rw [rd_at, P.tails, eb, dif_pos (by omega)]
    refine congr (congrArg ((args m c).u (bat t.val ht)) (Fin.ext ?_)) (Fin.ext ?_)
    · show 512 * ((t.val - 1) % 16) + (504 + q.val) = 512 * (t.val % 16) + q.val - 8
      omega
    · show col (k % 22) + l.val = col k + l.val
      rw [Nat.mod_eq_of_lt hk]
  refine ⟨fun r l => ?_, fun k q l => ?_⟩
  · have e := congrArg (fun p => p.1) (outsAt0_B m c t h0)
    dsimp only at e
    rw [out_B] at e
    rw [e]
    exact block_out B hT r l
  · have e := congrArg (fun p => p.2) (outsAt0_B m c t h0)
    dsimp only at e
    rw [tails_B] at e
    rw [e, tl_at _ _ k q l 22 k.isLt (le_refl _)]
    exact B.up k.val _ l

/-- After every point. -/
theorem after : ∀ (t : ℕ) (h : t < cfg0.N) (ht : t < 64), After m c t h ht
  | 0, h, ht => afterA m c ⟨0, h⟩ ht rfl
  | t + 1, h, ht => by
    by_cases h0 : (t + 1) % 16 = 0
    · exact afterA m c ⟨t + 1, h⟩ ht h0
    · exact afterB m c ⟨t + 1, h⟩ ht h0 _ (after t (by omega) (by omega))

/-- The kernel's result is the layer's. -/
theorem value (b : Fin 4) (n : Fin 8192) (l : Fin 1024) : (G11 m c : Vec Ideal S4x8192x1024 .f32) (ix3 b n l) = (args m c).y b n l := by
  have hp : pt11Of (ix3 b n l) = 16 * b.val + n.val / 512 := by
    show 16 * (b.val / 1 - 0) + 1 * (n.val / 512 - 0) + 1 * (l.val / 1024 - 0) = _
    omega
  have hl : loc11Of (ix3 b n l) = ix3 0 (⟨n.val % 512, by omega⟩ : Fin 512) l := by
    funext a
    fin_cases a
    · exact Fin.ext (show b.val % 1 = 0 by omega)
    · rfl
    · exact Fin.ext (show l.val % 1024 = l.val by omega)
  have hN : pt11Of (ix3 b n l) < cfg0.N := by rw [hp, show cfg0.N = 64 from N_0]; omega
  have hA := after m c (pt11Of (ix3 b n l)) hN (by rw [hp]; omega)
  unfold G11
  rw [dif_pos hN, ← outsAt0_sweep m c _ hN, hl, hA.out]
  have e1 : bat (pt11Of (ix3 b n l)) (by rw [hp]; omega) = b := Fin.ext (by show pt11Of (ix3 b n l) / 16 = b.val; omega)
  rw [e1]
  exact congrArg (fun n => (args m c).y b n l) (Fin.ext (by show 512 * (pt11Of (ix3 b n l) % 16) + n.val % 512 = n.val; omega))

end Cert.Kernel4Ideal.MidValue

end
-- ==== Proof.MidRef.lean ====
/-
  The reference of the same program without the last normalisation at an index is the closed form of its arguments.
-/
module

public import proofs.«01_k».proof.Proof.FfnRef
public import proofs.«01_k».proof.Proof.Gen.Reference4Ideal.Run
public import Idealize.ShloMosaic.Lib.Pointwise

@[expose] public section

set_option maxRecDepth 16384

noncomputable section

open Idealize.ShloMosaic Idealize.ShloMosaic.TcCoe Idealize.ShloMosaic.StableHlo

namespace Cert.Reference4Ideal.MidRef

open Cert.Reference4Ideal Cert.Reference4Ideal.Gen Cert.Reference4Ideal.Value Cert.Kernel2Ideal.FfnSpec
open Cert.Reference2Ideal.FfnRef (back1 back2 taps)

variable (X : FVec Ideal S4x8192x1024 .f32) (OA : FVec Ideal S4x8192x512 .bf16) (OB OC : FVec Ideal S4x8192x256 .bf16) (WO : FVec Ideal S1024x1024 .f32)
  (G : FVec Ideal S1024 .f32) (WU : FVec Ideal S1024x5632 .f32) (CW : FVec Ideal S3x5632 .f32) (CB : FVec Ideal S5632 .f32)
  (WD : FVec Ideal S2816x1024 .f32) (FG : FVec Ideal S1024 .f32)

/-- The reference's arguments. -/
def args : Args where
  x b n l := X (ix3 b n l)
  oa b n l := OA (ix3 b n l)
  ob b n l := OB (ix3 b n l)
  oc b n l := OC (ix3 b n l)
  wo k l := WO (ix2 k l)
  g l := G (ix1 l)
  wu k l := WU (ix2 k l)
  cw k l := CW (ix2 k l)
  cb l := CB (ix1 l)
  wd k l := WD (ix2 k l)
  fg l := FG (ix1 l)

/-- The residual plus the output projection. -/
def mixed : FVec Ideal S4x8192x1024 .f32 :=
  addf X (Host.dotGeneral dot_S4x8192x1024_S1024x1024_S4x8192x1024_2_0_01_1_n_n none ((concatenate S4x8192x1024 2 [⟨S4x8192x512, ((extf .f32 OA bitsLt_bf16_f32) : (⟨S4x8192x512, .f32⟩ : BufTy).Contents (Elt Ideal))⟩, ⟨S4x8192x256, ((extf .f32 OB bitsLt_bf16_f32) : (⟨S4x8192x256, .f32⟩ : BufTy).Contents (Elt Ideal))⟩, ⟨S4x8192x256, ((extf .f32 OC bitsLt_bf16_f32) : (⟨S4x8192x256, .f32⟩ : BufTy).Contents (Elt Ideal))⟩] concatenates_S4x8192x512_S4x8192x256_S4x8192x256_S4x8192x1024_d2 : FVec Ideal S4x8192x1024 .f32)) WO)

/-- The up-projection of the normalised rows of `P`. -/
def up (P : FVec Ideal S4x8192x1024 .f32) : FVec Ideal S4x8192x5632 .f32 :=
  Host.dotGeneral dot_S4x8192x1024_S1024x5632_S4x8192x5632_2_0_01_1_n_n none (mulf (mulf P (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf P P) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 G))) WU

/-- A row of channels at every frame. -/
def frames (R : FVec Ideal S2816 .f32) : FVec Ideal S4x8192x2816 .f32 :=
  broadcastInDim S4x8192x2816 ![0, 1, 2] bcast_S1x1x2816_S4x8192x2816_0_1_2 (broadcastInDim S1x1x2816 ![2] bcast_S2816_S1x1x2816_2 R)

/-- Two frames of zeros before the first. -/
def padded (Q : FVec Ideal S4x8192x2816 .f32) : FVec Ideal S4x8194x2816 .f32 :=
  pad S4x8194x2816 ![0, 2, 0] ![0, 0, 0] ![0, 0, 0] Q (sitofp .f32 (constantI S_ 32 0#32)) pads_S4x8192x2816_S4x8194x2816_000_200_000 h_S_

/-- The convolution of padded frames `Z` with the taps `C` and the bias `R`. -/
def conv (C : FVec Ideal S3x2816 .f32) (Z : FVec Ideal S4x8194x2816 .f32) (R : FVec Ideal S2816 .f32) : FVec Ideal S4x8192x2816 .f32 :=
  addf (addf (addf (mulf (frames (shapeCast _ (extractStridedSlice S1x2816 ![0, 0] C slices_S3x2816_S1x2816_0_0) shapeCasts_S1x2816_S2816)) (extractStridedSlice S4x8192x2816 ![0, 0, 0] Z slices_S4x8194x2816_S4x8192x2816_0_0_0))
    (mulf (frames (shapeCast _ (extractStridedSlice S1x2816 ![1, 0] C slices_S3x2816_S1x2816_1_0) shapeCasts_S1x2816_S2816)) (extractStridedSlice S4x8192x2816 ![0, 1, 0] Z slices_S4x8194x2816_S4x8192x2816_0_1_0)))
    (mulf (frames (shapeCast _ (extractStridedSlice S1x2816 ![2, 0] C slices_S3x2816_S1x2816_2_0) shapeCasts_S1x2816_S2816)) (extractStridedSlice S4x8192x2816 ![0, 2, 0] Z slices_S4x8194x2816_S4x8192x2816_0_2_0))) (frames R)

/-- The convolved gate of an up-projection. -/
def gate (U : FVec Ideal S4x8192x5632 .f32) : FVec Ideal S4x8192x2816 .f32 :=
  conv (extractStridedSlice S3x2816 ![0, 0] CW slices_S3x5632_S3x2816_0_0) (padded (extractStridedSlice S4x8192x2816 ![0, 0, 0] U slices_S4x8192x5632_S4x8192x2816_0_0_0)) (extractStridedSlice S2816 ![0] CB slices_S5632_S2816_0)

/-- The convolved value of an up-projection. -/
def val (U : FVec Ideal S4x8192x5632 .f32) : FVec Ideal S4x8192x2816 .f32 :=
  conv (extractStridedSlice S3x2816 ![0, 2816] CW slices_S3x5632_S3x2816_0_2816) (padded (extractStridedSlice S4x8192x2816 ![0, 0, 2816] U slices_S4x8192x5632_S4x8192x2816_0_0_2816)) (extractStridedSlice S2816 ![2816] CB slices_S5632_S2816_2816)

/-- The residual `P` plus the down-projection of the gated product. -/
def down (P : FVec Ideal S4x8192x1024 .f32) (Y Z : FVec Ideal S4x8192x2816 .f32) : FVec Ideal S4x8192x1024 .f32 :=
  addf P (Host.dotGeneral dot_S4x8192x2816_S2816x1024_S4x8192x1024_2_0_01_1_n_n none (mulf (mulf Y (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf Y))))) Z) WD)

/-- The returned array as the reference computes it from the residual. -/
def whole (P : FVec Ideal S4x8192x1024 .f32) (U : FVec Ideal S4x8192x5632 .f32) : FVec Ideal S4x8192x1024 .f32 := down WD P (gate CW CB U) (val CW CB U)

/-- The residual plus the output projection, at an index. -/
theorem mixed_at (b : Fin 4) (n : Fin 8192) (l : Fin 1024) : mixed X OA OB OC WO (ix3 b n l) = (args X OA OB OC WO G WU CW CB WD FG).x1 b n l := by
  unfold mixed
  pointwise
  rfl

/-- The up-projection at an index. -/
theorem up_at (b : Fin 4) (n : Fin 8192) (j : Fin 5632) : up G WU (mixed X OA OB OC WO) (ix3 b n j) = (args X OA OB OC WO G WU CW CB WD FG).u b n j := by
  unfold up
  pointwise
  simp only [mixed_at X OA OB OC WO G WU CW CB WD FG]
  rfl

/-- The convolution at an index. -/
theorem conv_at (C : FVec Ideal S3x2816 .f32) (Z : FVec Ideal S4x8194x2816 .f32) (R : FVec Ideal S2816 .f32) (b : Fin 4) (n : Fin 8192) (e : Fin 2816) :
    conv C Z R (ix3 b n e) = R (ix1 e) + C (ix2 2 e) * Z (ix3 b ⟨2 + n.val, by omega⟩ e) + C (ix2 1 e) * Z (ix3 b ⟨1 + n.val, by omega⟩ e) + C (ix2 0 e) * Z (ix3 b ⟨n.val, by omega⟩ e) := by
  unfold conv frames
  pointwise
  exact taps _ _ _ _

/-- The padded frames at an index. -/
theorem padded_at (Q : FVec Ideal S4x8192x2816 .f32) (b : Fin 4) (q : Fin 8194) (e : Fin 2816) :
    padded Q (ix3 b q e) = if h : 2 ≤ q.val ∧ q.val - 2 < 8192 then Q (ix3 b ⟨q.val - 2, h.2⟩ e) else (FloatOps.sitofp FTy.f32 0#32 : Ideal FTy.f32) := by
  unfold padded
  pointwise

variable {A : Args} {U : FVec Ideal S4x8192x5632 .f32}

/-- The convolved gate at an index. -/
theorem gate_at (hU : ∀ b n j, U (ix3 b n j) = A.u b n j) (hw : ∀ k j, CW (ix2 k j) = A.cw k j) (hb : ∀ j, CB (ix1 j) = A.cb j) (b : Fin 4) (n : Fin 8192) (e : Fin 2816) :
    gate CW CB U (ix3 b n e) = A.conv b n ⟨e.val, by omega⟩ := by
  unfold gate
  rw [conv_at, padded_at, padded_at, padded_at]
  pointwise
  simp only [hU, hw, hb]
  rw [back2 A b n ⟨e.val, by omega⟩, back1 A b n ⟨e.val, by omega⟩]
  rfl

/-- The convolved value at an index. -/
theorem val_at (hU : ∀ b n j, U (ix3 b n j) = A.u b n j) (hw : ∀ k j, CW (ix2 k j) = A.cw k j) (hb : ∀ j, CB (ix1 j) = A.cb j) (b : Fin 4) (n : Fin 8192) (e : Fin 2816) :
    val CW CB U (ix3 b n e) = A.conv b n ⟨2816 + e.val, by omega⟩ := by
  unfold val
  rw [conv_at, padded_at, padded_at, padded_at]
  pointwise
  simp only [hU, hw, hb]
  rw [back2 A b n ⟨2816 + e.val, by omega⟩, back1 A b n ⟨2816 + e.val, by omega⟩]
  rfl

/-- The returned array at an index. -/
theorem whole_at (b : Fin 4) (n : Fin 8192) (l : Fin 1024) :
    whole CW CB WD (mixed X OA OB OC WO) (up G WU (mixed X OA OB OC WO)) (ix3 b n l) = (args X OA OB OC WO G WU CW CB WD FG).y b n l := by
  unfold whole down
  pointwise
  have hU := up_at X OA OB OC WO G WU CW CB WD FG
  simp only [mixed_at X OA OB OC WO G WU CW CB WD FG, gate_at CW CB hU (fun _ _ => rfl) (fun _ => rfl), val_at CW CB hU (fun _ _ => rfl) (fun _ => rfl)]
  rfl

end Cert.Reference4Ideal.MidRef

end
-- ==== Proof.MidClaim.lean ====
/-
  The claims of the call without the last normalisation put together: the reference's frame read off its run, and the equality of
  the two results.
-/
module

public import proofs.«01_k».proof.Defs
public import proofs.«01_k».proof.Proof.MidValue
public import proofs.«01_k».proof.Proof.MidRef
public import proofs.«01_k».proof.Proof.InClaim

@[expose] public section

set_option maxRecDepth 16384

noncomputable section

open Idealize.ShloMosaic Idealize.ShloMosaic.TcCoe Idealize.SL.Sem

namespace Cert.MidClaim

open Cert.Reference4Ideal

/-- The reference ends with its arguments unchanged and no counter away from zero. -/
theorem frame_ref : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel and the reference end with equal results. -/
theorem algebraic : Cert.algebraic_Kernel4Ideal_Reference4Ideal (hKernel4Ideal := Cert.Kernel4Ideal.Gen.facts) (hReference4Ideal := Cert.Reference4Ideal.Gen.facts) := by
  intro m ρ m' ρ' _ hagree
  refine ⟨fun c => Cert.Kernel4Ideal.Value.G11 m c, Cert.Kernel4Ideal.Value.run (F := Ideal) m ρ, ?_⟩
  refine (θ_run Cert.Reference4Ideal.defs _ _).mono (fun r h c => ⟨(h c).1.trans ?_, (h c).2⟩) (Cert.Reference4Ideal.Value.run (F := Ideal) m' ρ')
  obtain ⟨a0, a1, a2, a3, a4, a5, a6, a7, a8, a9, a10⟩ := hagree c
  let X : FVec Ideal S4x8192x1024 .f32 := m' ((c.tc : Thread nD τ).loc main_arg0)
  let OA : FVec Ideal S4x8192x512 .bf16 := m' ((c.tc : Thread nD τ).loc main_arg1)
  let OB : FVec Ideal S4x8192x256 .bf16 := m' ((c.tc : Thread nD τ).loc main_arg2)
  let OC : FVec Ideal S4x8192x256 .bf16 := m' ((c.tc : Thread nD τ).loc main_arg3)
  let WO : FVec Ideal S1024x1024 .f32 := m' ((c.tc : Thread nD τ).loc main_arg4)
  let G : FVec Ideal S1024 .f32 := m' ((c.tc : Thread nD τ).loc main_arg5)
  let WU : FVec Ideal S1024x5632 .f32 := m' ((c.tc : Thread nD τ).loc main_arg6)
  let CW : FVec Ideal S3x5632 .f32 := m' ((c.tc : Thread nD τ).loc main_arg7)
  let CB : FVec Ideal S5632 .f32 := m' ((c.tc : Thread nD τ).loc main_arg8)
  let WD : FVec Ideal S2816x1024 .f32 := m' ((c.tc : Thread nD τ).loc main_arg9)
  let FG : FVec Ideal S1024 .f32 := m' ((c.tc : Thread nD τ).loc main_arg10)
  have ea : MidRef.args X OA OB OC WO G WU CW CB WD FG = Cert.Kernel4Ideal.MidValue.args m c := by
    unfold MidRef.args Cert.Kernel4Ideal.MidValue.args
    rw [← a0, ← a1, ← a2, ← a3, ← a4, ← a5, ← a6, ← a7, ← a8, ← a9, ← a10]
  have er : Cert.Reference4Ideal.Value.res_main_v77 m' c = MidRef.whole CW CB WD (MidRef.mixed X OA OB OC WO) (MidRef.up G WU (MidRef.mixed X OA OB OC WO)) := rfl
  rw [er]
  refine InClaim.ext3 _ _ fun b n l => ?_
  refine (MidRef.whole_at X OA OB OC WO G WU CW CB WD FG b n l).trans ?_
  rw [ea]
  exact (Cert.Kernel4Ideal.MidValue.value m c b n l).symm

end Cert.MidClaim

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.LruClaim
public import proofs.«01_k».proof.Proof.FfnClaim
public import proofs.«01_k».proof.Proof.InClaim
public import proofs.«01_k».proof.Proof.MidClaim

@[expose] public section

noncomputable section

namespace Cert.Proof

open Idealize.ShloMosaic Idealize.SL.Sem

/-- The certificate's claim. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    fun m ρ _ => Cert.Kernel.Gen.frame m ρ, fun m ρ _ => Cert.KernelIdeal.Gen.frame m ρ, Cert.LruClaim.frame_ref,
    fun m ρ _ => Cert.Kernel2.Gen.frame m ρ, fun m ρ _ => Cert.Kernel2Ideal.Gen.frame m ρ, Cert.FfnClaim.frame_ref,
    fun m ρ _ => Cert.Kernel3.Gen.frame m ρ, fun m ρ _ => Cert.Kernel3Ideal.Gen.frame m ρ, Cert.InClaim.frame_ref,
    fun m ρ _ => Cert.Kernel4.Gen.frame m ρ, fun m ρ _ => Cert.Kernel4Ideal.Gen.frame m ρ, Cert.MidClaim.frame_ref,
    trivial, Cert.LruClaim.algebraic, trivial, Cert.FfnClaim.algebraic, trivial, Cert.InClaim.algebraic, trivial, Cert.MidClaim.algebraic⟩

end Cert.Proof

end
